-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 2, 128]⟩ ⟨4, ![1, 16384, 2, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 2, 128]⟩ ⟨4, ![1, 16384, 2, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v381)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v381) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S1x2048x2x128 : Shape := ⟨4, ![1, 2048, 2, 128]⟩
abbrev S2x4x512x128 : Shape := ⟨4, ![2, 4, 512, 128]⟩
abbrev S2x2x4x512 : Shape := ⟨4, ![2, 2, 4, 512]⟩
abbrev S3x2x4x512x128 : Shape := ⟨5, ![3, 2, 4, 512, 128]⟩
abbrev S3x2x2x4x512 : Shape := ⟨5, ![3, 2, 2, 4, 512]⟩
abbrev S3x2 : Shape := ⟨2, ![3, 2]⟩
abbrev S_ : Shape := ⟨0, ![]⟩
abbrev S512x1024 : Shape := ⟨2, ![512, 1024]⟩
abbrev S1024x512 : Shape := ⟨2, ![1024, 512]⟩
abbrev S512x512 : Shape := ⟨2, ![512, 512]⟩
abbrev S1x2048x1x128 : Shape := ⟨4, ![1, 2048, 1, 128]⟩
abbrev S2048x128 : Shape := ⟨2, ![2048, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1x1x512x128 : Shape := ⟨4, ![1, 1, 512, 128]⟩
abbrev S1x1x1x512 : Shape := ⟨4, ![1, 1, 1, 512]⟩
abbrev S1x4x512x128 : Shape := ⟨4, ![1, 4, 512, 128]⟩
abbrev S4x512x128 : Shape := ⟨3, ![4, 512, 128]⟩
abbrev S1x1 : Shape := ⟨2, ![1, 1]⟩
abbrev S1x1x4x512x128 : Shape := ⟨5, ![1, 1, 4, 512, 128]⟩
abbrev S1x1x2x4x512 : Shape := ⟨5, ![1, 1, 2, 4, 512]⟩
abbrev S2x4x512 : Shape := ⟨3, ![2, 4, 512]⟩
abbrev S1x2x4x512 : Shape := ⟨4, ![1, 2, 4, 512]⟩
abbrev S1x1x4x512 : Shape := ⟨4, ![1, 1, 4, 512]⟩
abbrev S4x512 : Shape := ⟨2, ![4, 512]⟩
abbrev S1x1x1x4x512 : Shape := ⟨5, ![1, 1, 1, 4, 512]⟩
abbrev S4x512x1 : Shape := ⟨3, ![4, 512, 1]⟩
abbrev S128x1024 : Shape := ⟨2, ![128, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x2x128, .f32⟩
  | .hbm, ⟨3, _⟩ => ⟨S1x2048x2x128, .f32⟩
  | .hbm, ⟨4, _⟩ => ⟨S1024x1024, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x2x128, .f32⟩
  | .local _ .vmem, ⟨4, _⟩ => ⟨S1x2048x2x128, .f32⟩
  | .local _ .vmem, ⟨5, _⟩ => ⟨S1x512x1024, .f32⟩
  | .local _ .vmem, ⟨6, _⟩ => ⟨S2x4x512x128, .f32⟩
  | .local _ .vmem, ⟨7, _⟩ => ⟨S2x2x4x512, .f32⟩
  | .local _ .vmem, ⟨8, _⟩ => ⟨S2x4x512x128, .bf16⟩
  | .local _ .vmem, ⟨9, _⟩ => ⟨S3x2x4x512x128, .bf16⟩
  | .local _ .vmem, ⟨10, _⟩ => ⟨S3x2x2x4x512, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_86 : BitVec 32 := 1#32
  let v114 : BitVec 32 := Scalar.xori v2 c1_i32_86
  let c1_i32_102 : BitVec 32 := 1#32
  let v121 : BitVec 32 := Scalar.muli v114 c1_i32_102
  let v122 : BitVec 32 := Scalar.addi c0_i32_103 v121
  v122.toNat
def k0_dev5 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_86 : BitVec 32 := 1#32
  let v114 : BitVec 32 := Scalar.xori v2 c1_i32_86
  let c1_i32_117 : BitVec 32 := 1#32
  let v131 : BitVec 32 := Scalar.muli v114 c1_i32_117
  let v132 : BitVec 32 := Scalar.addi c0_i32_118 v131
  v132.toNat
def k0_dev6 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_206 : BitVec 32 := 1#32
  let v242 : BitVec 32 := Scalar.xori v2 c1_i32_206
  let c1_i32_222 : BitVec 32 := 1#32
  let v249 : BitVec 32 := Scalar.muli v242 c1_i32_222
  let v250 : BitVec 32 := Scalar.addi c0_i32_223 v249
  v250.toNat
def k0_dev7 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_206 : BitVec 32 := 1#32
  let v242 : BitVec 32 := Scalar.xori v2 c1_i32_206
  let c1_i32_237 : BitVec 32 := 1#32
  let v259 : BitVec 32 := Scalar.muli v242 c1_i32_237
  let v260 : BitVec 32 := Scalar.addi c0_i32_238 v259
  v260.toNat
def k0_dev8 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_342 : BitVec 32 := 2#32
  let v334 : BitVec 32 := Scalar.xori v2 c2_i32_342
  let c1_i32_358 : BitVec 32 := 1#32
  let v341 : BitVec 32 := Scalar.muli v334 c1_i32_358
  let v342 : BitVec 32 := Scalar.addi c0_i32_359 v341
  v342.toNat
def k0_dev9 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_342 : BitVec 32 := 2#32
  let v334 : BitVec 32 := Scalar.xori v2 c2_i32_342
  let c1_i32_373 : BitVec 32 := 1#32
  let v351 : BitVec 32 := Scalar.muli v334 c1_i32_373
  let v352 : BitVec 32 := Scalar.addi c0_i32_374 v351
  v352.toNat
def k0_dev10 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_478 : BitVec 32 := 2#32
  let v426 : BitVec 32 := Scalar.xori v2 c2_i32_478
  let c1_i32_494 : BitVec 32 := 1#32
  let v433 : BitVec 32 := Scalar.muli v426 c1_i32_494
  let v434 : BitVec 32 := Scalar.addi c0_i32_495 v433
  v434.toNat
def k0_dev11 (d0 : Dev nD) : Nat :=
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_478 : BitVec 32 := 2#32
  let v426 : BitVec 32 := Scalar.xori v2 c2_i32_478
  let c1_i32_509 : BitVec 32 := 1#32
  let v443 : BitVec 32 := Scalar.muli v426 c1_i32_509
  let v444 : BitVec 32 := Scalar.addi c0_i32_510 v443
  v444.toNat
def k0_dev12 (d0 : Dev nD) : Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_614 : BitVec 32 := 4#32
  let v518 : BitVec 32 := Scalar.xori v2 c4_i32_614
  let c1_i32_630 : BitVec 32 := 1#32
  let v525 : BitVec 32 := Scalar.muli v518 c1_i32_630
  let v526 : BitVec 32 := Scalar.addi c0_i32_631 v525
  v526.toNat
def k0_dev13 (d0 : Dev nD) : Nat :=
  let c0_i32_646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_614 : BitVec 32 := 4#32
  let v518 : BitVec 32 := Scalar.xori v2 c4_i32_614
  let c1_i32_645 : BitVec 32 := 1#32
  let v535 : BitVec 32 := Scalar.muli v518 c1_i32_645
  let v536 : BitVec 32 := Scalar.addi c0_i32_646 v535
  v536.toNat
def k0_dev14 (d0 : Dev nD) : Nat :=
  let c0_i32_767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_750 : BitVec 32 := 4#32
  let v610 : BitVec 32 := Scalar.xori v2 c4_i32_750
  let c1_i32_766 : BitVec 32 := 1#32
  let v617 : BitVec 32 := Scalar.muli v610 c1_i32_766
  let v618 : BitVec 32 := Scalar.addi c0_i32_767 v617
  v618.toNat
def k0_dev15 (d0 : Dev nD) : Nat :=
  let c0_i32_782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_750 : BitVec 32 := 4#32
  let v610 : BitVec 32 := Scalar.xori v2 c4_i32_750
  let c1_i32_781 : BitVec 32 := 1#32
  let v627 : BitVec 32 := Scalar.muli v610 c1_i32_781
  let v628 : BitVec 32 := Scalar.addi c0_i32_782 v627
  v628.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x1024 : Shape := ⟨2, ![1024, 1024]⟩
abbrev S1x16384x2x128 : Shape := ⟨4, ![1, 16384, 2, 128]⟩
abbrev S1x512x8x128 : Shape := ⟨4, ![1, 512, 8, 128]⟩
abbrev S1x16384x2x4x128 : Shape := ⟨5, ![1, 16384, 2, 4, 128]⟩
abbrev S1x16384x8x128 : Shape := ⟨4, ![1, 16384, 8, 128]⟩
abbrev S_ : Shape := ⟨0, ![]⟩
abbrev S1x8x512x1 : Shape := ⟨4, ![1, 8, 512, 1]⟩
abbrev S1x1024x8x128 : Shape := ⟨4, ![1, 1024, 8, 128]⟩
abbrev S1x8x512x1024 : Shape := ⟨4, ![1, 8, 512, 1024]⟩
abbrev S1x8x512 : Shape := ⟨3, ![1, 8, 512]⟩
abbrev S1x512x8x1 : Shape := ⟨4, ![1, 512, 8, 1]⟩
abbrev S1x8x128x512 : Shape := ⟨4, ![1, 8, 128, 512]⟩

abbrev nBuf : Space → Nat
  | .hbm => 438
  | .vmem => 0
  | .smem => 0
  | _ => 0

abbrev hbmTy0_0 (i : Nat) : BufTy := match i % 128 with
  | 0 => ⟨S1x512x1024, .f32⟩
  | 1 => ⟨S1024x1024, .f32⟩
  | 2 => ⟨S1x16384x2x128, .f32⟩
  | 3 => ⟨S1x16384x2x128, .f32⟩
  | 4 => ⟨S1024x1024, .f32⟩
  | 5 => ⟨S1x512x1024, .f32⟩
  | 6 => ⟨S1x512x8x128, .f32⟩
  | 7 => ⟨S1x16384x2x4x128, .f32⟩
  | 8 => ⟨S1x16384x8x128, .f32⟩
  | 9 => ⟨S1x16384x2x4x128, .f32⟩
  | 10 => ⟨S1x16384x8x128, .f32⟩
  | 11 => ⟨S_, .f32⟩
  | 12 => ⟨S1x512x8x128, .f32⟩
  | 13 => ⟨S_, .f32⟩
  | 14 => ⟨S1x8x512x1, .f32⟩
  | 15 => ⟨S_, .f32⟩
  | 16 => ⟨S1x8x512x1, .f32⟩
  | 17 => ⟨S1x1024x8x128, .f32⟩
  | 18 => ⟨S1x1024x8x128, .f32⟩
  | 19 => ⟨S1x8x512x1024, .f32⟩
  | 20 => ⟨S_, .f32⟩
  | 21 => ⟨S1x8x512x1024, .f32⟩
  | 22 => ⟨S1x8x512x1024, .f32⟩
  | 23 => ⟨S_, .f32⟩
  | 24 => ⟨S1x8x512, .f32⟩
  | 25 => ⟨S1x8x512x1, .f32⟩
  | 26 => ⟨S1x8x512x1, .f32⟩
  | 27 => ⟨S1x8x512x1, .f32⟩
  | 28 => ⟨S1x8x512x1, .f32⟩
  | 29 => ⟨S1x8x512x1024, .f32⟩
  | 30 => ⟨S1x8x512x1024, .f32⟩
  | 31 => ⟨S1x8x512x1024, .f32⟩
  | 32 => ⟨S1x8x512x1, .f32⟩
  | 33 => ⟨S_, .f32⟩
  | 34 => ⟨S1x8x512, .f32⟩
  | 35 => ⟨S1x8x512x1, .f32⟩
  | 36 => ⟨S1x8x512x1, .f32⟩
  | 37 => ⟨S1x512x8x1, .f32⟩
  | 38 => ⟨S1x512x8x128, .f32⟩
  | 39 => ⟨S1x512x8x128, .f32⟩
  | 40 => ⟨S1x8x128x512, .f32⟩
  | 41 => ⟨S1x512x8x128, .f32⟩
  | 42 => ⟨S1x512x8x128, .f32⟩
  | 43 => ⟨S1x1024x8x128, .f32⟩
  | 44 => ⟨S1x1024x8x128, .f32⟩
  | 45 => ⟨S1x8x512x1024, .f32⟩
  | 46 => ⟨S_, .f32⟩
  | 47 => ⟨S1x8x512x1024, .f32⟩
  | 48 => ⟨S1x8x512x1024, .f32⟩
  | 49 => ⟨S_, .f32⟩
  | 50 => ⟨S1x8x512, .f32⟩
  | 51 => ⟨S1x8x512x1, .f32⟩
  | 52 => ⟨S1x8x512x1, .f32⟩
  | 53 => ⟨S1x8x512x1, .f32⟩
  | 54 => ⟨S1x8x512x1, .f32⟩
  | 55 => ⟨S1x8x512x1024, .f32⟩
  | 56 => ⟨S1x8x512x1024, .f32⟩
  | 57 => ⟨S1x8x512x1024, .f32⟩
  | 58 => ⟨S1x8x512x1, .f32⟩
  | 59 => ⟨S_, .f32⟩
  | 60 => ⟨S1x8x512, .f32⟩
  | 61 => ⟨S1x8x512x1, .f32⟩
  | 62 => ⟨S1x8x512x1, .f32⟩
  | 63 => ⟨S1x512x8x1, .f32⟩
  | 64 => ⟨S1x512x8x128, .f32⟩
  | 65 => ⟨S1x512x8x128, .f32⟩
  | 66 => ⟨S1x8x128x512, .f32⟩
  | 67 => ⟨S1x512x8x128, .f32⟩
  | 68 => ⟨S1x512x8x128, .f32⟩
  | 69 => ⟨S1x1024x8x128, .f32⟩
  | 70 => ⟨S1x1024x8x128, .f32⟩
  | 71 => ⟨S1x8x512x1024, .f32⟩
  | 72 => ⟨S_, .f32⟩
  | 73 => ⟨S1x8x512x1024, .f32⟩
  | 74 => ⟨S1x8x512x1024, .f32⟩
  | 75 => ⟨S_, .f32⟩
  | 76 => ⟨S1x8x512, .f32⟩
  | 77 => ⟨S1x8x512x1, .f32⟩
  | 78 => ⟨S1x8x512x1, .f32⟩
  | 79 => ⟨S1x8x512x1, .f32⟩
  | 80 => ⟨S1x8x512x1, .f32⟩
  | 81 => ⟨S1x8x512x1024, .f32⟩
  | 82 => ⟨S1x8x512x1024, .f32⟩
  | 83 => ⟨S1x8x512x1024, .f32⟩
  | 84 => ⟨S1x8x512x1, .f32⟩
  | 85 => ⟨S_, .f32⟩
  | 86 => ⟨S1x8x512, .f32⟩
  | 87 => ⟨S1x8x512x1, .f32⟩
  | 88 => ⟨S1x8x512x1, .f32⟩
  | 89 => ⟨S1x512x8x1, .f32⟩
  | 90 => ⟨S1x512x8x128, .f32⟩
  | 91 => ⟨S1x512x8x128, .f32⟩
  | 92 => ⟨S1x8x128x512, .f32⟩
  | 93 => ⟨S1x512x8x128, .f32⟩
  | 94 => ⟨S1x512x8x128, .f32⟩
  | 95 => ⟨S1x1024x8x128, .f32⟩
  | 96 => ⟨S1x1024x8x128, .f32⟩
  | 97 => ⟨S1x8x512x1024, .f32⟩
  | 98 => ⟨S_, .f32⟩
  | 99 => ⟨S1x8x512x1024, .f32⟩
  | 100 => ⟨S1x8x512x1024, .f32⟩
  | 101 => ⟨S_, .f32⟩
  | 102 => ⟨S1x8x512, .f32⟩
  | 103 => ⟨S1x8x512x1, .f32⟩
  | 104 => ⟨S1x8x512x1, .f32⟩
  | 105 => ⟨S1x8x512x1, .f32⟩
  | 106 => ⟨S1x8x512x1, .f32⟩
  | 107 => ⟨S1x8x512x1024, .f32⟩
  | 108 => ⟨S1x8x512x1024, .f32⟩
  | 109 => ⟨S1x8x512x1024, .f32⟩
  | 110 => ⟨S1x8x512x1, .f32⟩
  | 111 => ⟨S_, .f32⟩
  | 112 => ⟨S1x8x512, .f32⟩
  | 113 => ⟨S1x8x512x1, .f32⟩
  | 114 => ⟨S1x8x512x1, .f32⟩
  | 115 => ⟨S1x512x8x1, .f32⟩
  | 116 => ⟨S1x512x8x128, .f32⟩
  | 117 => ⟨S1x512x8x128, .f32⟩
  | 118 => ⟨S1x8x128x512, .f32⟩
  | 119 => ⟨S1x512x8x128, .f32⟩
  | 120 => ⟨S1x512x8x128, .f32⟩
  | 121 => ⟨S1x1024x8x128, .f32⟩
  | 122 => ⟨S1x1024x8x128, .f32⟩
  | 123 => ⟨S1x8x512x1024, .f32⟩
  | 124 => ⟨S_, .f32⟩
  | 125 => ⟨S1x8x512x1024, .f32⟩
  | 126 => ⟨S1x8x512x1024, .f32⟩
  | 127 => ⟨S_, .f32⟩
  | _ => ⟨S1x512x1024, .f32⟩

abbrev hbmTy0_1 (i : Nat) : BufTy := match i % 128 with
  | 0 => ⟨S1x8x512, .f32⟩
  | 1 => ⟨S1x8x512x1, .f32⟩
  | 2 => ⟨S1x8x512x1, .f32⟩
  | 3 => ⟨S1x8x512x1, .f32⟩
  | 4 => ⟨S1x8x512x1, .f32⟩
  | 5 => ⟨S1x8x512x1024, .f32⟩
  | 6 => ⟨S1x8x512x1024, .f32⟩
  | 7 => ⟨S1x8x512x1024, .f32⟩
  | 8 => ⟨S1x8x512x1, .f32⟩
  | 9 => ⟨S_, .f32⟩
  | 10 => ⟨S1x8x512, .f32⟩
  | 11 => ⟨S1x8x512x1, .f32⟩
  | 12 => ⟨S1x8x512x1, .f32⟩
  | 13 => ⟨S1x512x8x1, .f32⟩
  | 14 => ⟨S1x512x8x128, .f32⟩
  | 15 => ⟨S1x512x8x128, .f32⟩
  | 16 => ⟨S1x8x128x512, .f32⟩
  | 17 => ⟨S1x512x8x128, .f32⟩
  | 18 => ⟨S1x512x8x128, .f32⟩
  | 19 => ⟨S1x1024x8x128, .f32⟩
  | 20 => ⟨S1x1024x8x128, .f32⟩
  | 21 => ⟨S1x8x512x1024, .f32⟩
  | 22 => ⟨S_, .f32⟩
  | 23 => ⟨S1x8x512x1024, .f32⟩
  | 24 => ⟨S1x8x512x1024, .f32⟩
  | 25 => ⟨S_, .f32⟩
  | 26 => ⟨S1x8x512, .f32⟩
  | 27 => ⟨S1x8x512x1, .f32⟩
  | 28 => ⟨S1x8x512x1, .f32⟩
  | 29 => ⟨S1x8x512x1, .f32⟩
  | 30 => ⟨S1x8x512x1, .f32⟩
  | 31 => ⟨S1x8x512x1024, .f32⟩
  | 32 => ⟨S1x8x512x1024, .f32⟩
  | 33 => ⟨S1x8x512x1024, .f32⟩
  | 34 => ⟨S1x8x512x1, .f32⟩
  | 35 => ⟨S_, .f32⟩
  | 36 => ⟨S1x8x512, .f32⟩
  | 37 => ⟨S1x8x512x1, .f32⟩
  | 38 => ⟨S1x8x512x1, .f32⟩
  | 39 => ⟨S1x512x8x1, .f32⟩
  | 40 => ⟨S1x512x8x128, .f32⟩
  | 41 => ⟨S1x512x8x128, .f32⟩
  | 42 => ⟨S1x8x128x512, .f32⟩
  | 43 => ⟨S1x512x8x128, .f32⟩
  | 44 => ⟨S1x512x8x128, .f32⟩
  | 45 => ⟨S1x1024x8x128, .f32⟩
  | 46 => ⟨S1x1024x8x128, .f32⟩
  | 47 => ⟨S1x8x512x1024, .f32⟩
  | 48 => ⟨S_, .f32⟩
  | 49 => ⟨S1x8x512x1024, .f32⟩
  | 50 => ⟨S1x8x512x1024, .f32⟩
  | 51 => ⟨S_, .f32⟩
  | 52 => ⟨S1x8x512, .f32⟩
  | 53 => ⟨S1x8x512x1, .f32⟩
  | 54 => ⟨S1x8x512x1, .f32⟩
  | 55 => ⟨S1x8x512x1, .f32⟩
  | 56 => ⟨S1x8x512x1, .f32⟩
  | 57 => ⟨S1x8x512x1024, .f32⟩
  | 58 => ⟨S1x8x512x1024, .f32⟩
  | 59 => ⟨S1x8x512x1024, .f32⟩
  | 60 => ⟨S1x8x512x1, .f32⟩
  | 61 => ⟨S_, .f32⟩
  | 62 => ⟨S1x8x512, .f32⟩
  | 63 => ⟨S1x8x512x1, .f32⟩
  | 64 => ⟨S1x8x512x1, .f32⟩
  | 65 => ⟨S1x512x8x1, .f32⟩
  | 66 => ⟨S1x512x8x128, .f32⟩
  | 67 => ⟨S1x512x8x128, .f32⟩
  | 68 => ⟨S1x8x128x512, .f32⟩
  | 69 => ⟨S1x512x8x128, .f32⟩
  | 70 => ⟨S1x512x8x128, .f32⟩
  | 71 => ⟨S1x1024x8x128, .f32⟩
  | 72 => ⟨S1x1024x8x128, .f32⟩
  | 73 => ⟨S1x8x512x1024, .f32⟩
  | 74 => ⟨S_, .f32⟩
  | 75 => ⟨S1x8x512x1024, .f32⟩
  | 76 => ⟨S1x8x512x1024, .f32⟩
  | 77 => ⟨S_, .f32⟩
  | 78 => ⟨S1x8x512, .f32⟩
  | 79 => ⟨S1x8x512x1, .f32⟩
  | 80 => ⟨S1x8x512x1, .f32⟩
  | 81 => ⟨S1x8x512x1, .f32⟩
  | 82 => ⟨S1x8x512x1, .f32⟩
  | 83 => ⟨S1x8x512x1024, .f32⟩
  | 84 => ⟨S1x8x512x1024, .f32⟩
  | 85 => ⟨S1x8x512x1024, .f32⟩
  | 86 => ⟨S1x8x512x1, .f32⟩
  | 87 => ⟨S_, .f32⟩
  | 88 => ⟨S1x8x512, .f32⟩
  | 89 => ⟨S1x8x512x1, .f32⟩
  | 90 => ⟨S1x8x512x1, .f32⟩
  | 91 => ⟨S1x512x8x1, .f32⟩
  | 92 => ⟨S1x512x8x128, .f32⟩
  | 93 => ⟨S1x512x8x128, .f32⟩
  | 94 => ⟨S1x8x128x512, .f32⟩
  | 95 => ⟨S1x512x8x128, .f32⟩
  | 96 => ⟨S1x512x8x128, .f32⟩
  | 97 => ⟨S1x1024x8x128, .f32⟩
  | 98 => ⟨S1x1024x8x128, .f32⟩
  | 99 => ⟨S1x8x512x1024, .f32⟩
  | 100 => ⟨S_, .f32⟩
  | 101 => ⟨S1x8x512x1024, .f32⟩
  | 102 => ⟨S1x8x512x1024, .f32⟩
  | 103 => ⟨S_, .f32⟩
  | 104 => ⟨S1x8x512, .f32⟩
  | 105 => ⟨S1x8x512x1, .f32⟩
  | 106 => ⟨S1x8x512x1, .f32⟩
  | 107 => ⟨S1x8x512x1, .f32⟩
  | 108 => ⟨S1x8x512x1, .f32⟩
  | 109 => ⟨S1x8x512x1024, .f32⟩
  | 110 => ⟨S1x8x512x1024, .f32⟩
  | 111 => ⟨S1x8x512x1024, .f32⟩
  | 112 => ⟨S1x8x512x1, .f32⟩
  | 113 => ⟨S_, .f32⟩
  | 114 => ⟨S1x8x512, .f32⟩
  | 115 => ⟨S1x8x512x1, .f32⟩
  | 116 => ⟨S1x8x512x1, .f32⟩
  | 117 => ⟨S1x512x8x1, .f32⟩
  | 118 => ⟨S1x512x8x128, .f32⟩
  | 119 => ⟨S1x512x8x128, .f32⟩
  | 120 => ⟨S1x8x128x512, .f32⟩
  | 121 => ⟨S1x512x8x128, .f32⟩
  | 122 => ⟨S1x512x8x128, .f32⟩
  | 123 => ⟨S1x1024x8x128, .f32⟩
  | 124 => ⟨S1x1024x8x128, .f32⟩
  | 125 => ⟨S1x8x512x1024, .f32⟩
  | 126 => ⟨S_, .f32⟩
  | 127 => ⟨S1x8x512x1024, .f32⟩
  | _ => ⟨S1x512x1024, .f32⟩

abbrev hbmTy0_2 (i : Nat) : BufTy := match i % 128 with
  | 0 => ⟨S1x8x512x1024, .f32⟩
  | 1 => ⟨S_, .f32⟩
  | 2 => ⟨S1x8x512, .f32⟩
  | 3 => ⟨S1x8x512x1, .f32⟩
  | 4 => ⟨S1x8x512x1, .f32⟩
  | 5 => ⟨S1x8x512x1, .f32⟩
  | 6 => ⟨S1x8x512x1, .f32⟩
  | 7 => ⟨S1x8x512x1024, .f32⟩
  | 8 => ⟨S1x8x512x1024, .f32⟩
  | 9 => ⟨S1x8x512x1024, .f32⟩
  | 10 => ⟨S1x8x512x1, .f32⟩
  | 11 => ⟨S_, .f32⟩
  | 12 => ⟨S1x8x512, .f32⟩
  | 13 => ⟨S1x8x512x1, .f32⟩
  | 14 => ⟨S1x8x512x1, .f32⟩
  | 15 => ⟨S1x512x8x1, .f32⟩
  | 16 => ⟨S1x512x8x128, .f32⟩
  | 17 => ⟨S1x512x8x128, .f32⟩
  | 18 => ⟨S1x8x128x512, .f32⟩
  | 19 => ⟨S1x512x8x128, .f32⟩
  | 20 => ⟨S1x512x8x128, .f32⟩
  | 21 => ⟨S1x1024x8x128, .f32⟩
  | 22 => ⟨S1x1024x8x128, .f32⟩
  | 23 => ⟨S1x8x512x1024, .f32⟩
  | 24 => ⟨S_, .f32⟩
  | 25 => ⟨S1x8x512x1024, .f32⟩
  | 26 => ⟨S1x8x512x1024, .f32⟩
  | 27 => ⟨S_, .f32⟩
  | 28 => ⟨S1x8x512, .f32⟩
  | 29 => ⟨S1x8x512x1, .f32⟩
  | 30 => ⟨S1x8x512x1, .f32⟩
  | 31 => ⟨S1x8x512x1, .f32⟩
  | 32 => ⟨S1x8x512x1, .f32⟩
  | 33 => ⟨S1x8x512x1024, .f32⟩
  | 34 => ⟨S1x8x512x1024, .f32⟩
  | 35 => ⟨S1x8x512x1024, .f32⟩
  | 36 => ⟨S1x8x512x1, .f32⟩
  | 37 => ⟨S_, .f32⟩
  | 38 => ⟨S1x8x512, .f32⟩
  | 39 => ⟨S1x8x512x1, .f32⟩
  | 40 => ⟨S1x8x512x1, .f32⟩
  | 41 => ⟨S1x512x8x1, .f32⟩
  | 42 => ⟨S1x512x8x128, .f32⟩
  | 43 => ⟨S1x512x8x128, .f32⟩
  | 44 => ⟨S1x8x128x512, .f32⟩
  | 45 => ⟨S1x512x8x128, .f32⟩
  | 46 => ⟨S1x512x8x128, .f32⟩
  | 47 => ⟨S1x1024x8x128, .f32⟩
  | 48 => ⟨S1x1024x8x128, .f32⟩
  | 49 => ⟨S1x8x512x1024, .f32⟩
  | 50 => ⟨S_, .f32⟩
  | 51 => ⟨S1x8x512x1024, .f32⟩
  | 52 => ⟨S1x8x512x1024, .f32⟩
  | 53 => ⟨S_, .f32⟩
  | 54 => ⟨S1x8x512, .f32⟩
  | 55 => ⟨S1x8x512x1, .f32⟩
  | 56 => ⟨S1x8x512x1, .f32⟩
  | 57 => ⟨S1x8x512x1, .f32⟩
  | 58 => ⟨S1x8x512x1, .f32⟩
  | 59 => ⟨S1x8x512x1024, .f32⟩
  | 60 => ⟨S1x8x512x1024, .f32⟩
  | 61 => ⟨S1x8x512x1024, .f32⟩
  | 62 => ⟨S1x8x512x1, .f32⟩
  | 63 => ⟨S_, .f32⟩
  | 64 => ⟨S1x8x512, .f32⟩
  | 65 => ⟨S1x8x512x1, .f32⟩
  | 66 => ⟨S1x8x512x1, .f32⟩
  | 67 => ⟨S1x512x8x1, .f32⟩
  | 68 => ⟨S1x512x8x128, .f32⟩
  | 69 => ⟨S1x512x8x128, .f32⟩
  | 70 => ⟨S1x8x128x512, .f32⟩
  | 71 => ⟨S1x512x8x128, .f32⟩
  | 72 => ⟨S1x512x8x128, .f32⟩
  | 73 => ⟨S1x1024x8x128, .f32⟩
  | 74 => ⟨S1x1024x8x128, .f32⟩
  | 75 => ⟨S1x8x512x1024, .f32⟩
  | 76 => ⟨S_, .f32⟩
  | 77 => ⟨S1x8x512x1024, .f32⟩
  | 78 => ⟨S1x8x512x1024, .f32⟩
  | 79 => ⟨S_, .f32⟩
  | 80 => ⟨S1x8x512, .f32⟩
  | 81 => ⟨S1x8x512x1, .f32⟩
  | 82 => ⟨S1x8x512x1, .f32⟩
  | 83 => ⟨S1x8x512x1, .f32⟩
  | 84 => ⟨S1x8x512x1, .f32⟩
  | 85 => ⟨S1x8x512x1024, .f32⟩
  | 86 => ⟨S1x8x512x1024, .f32⟩
  | 87 => ⟨S1x8x512x1024, .f32⟩
  | 88 => ⟨S1x8x512x1, .f32⟩
  | 89 => ⟨S_, .f32⟩
  | 90 => ⟨S1x8x512, .f32⟩
  | 91 => ⟨S1x8x512x1, .f32⟩
  | 92 => ⟨S1x8x512x1, .f32⟩
  | 93 => ⟨S1x512x8x1, .f32⟩
  | 94 => ⟨S1x512x8x128, .f32⟩
  | 95 => ⟨S1x512x8x128, .f32⟩
  | 96 => ⟨S1x8x128x512, .f32⟩
  | 97 => ⟨S1x512x8x128, .f32⟩
  | 98 => ⟨S1x512x8x128, .f32⟩
  | 99 => ⟨S1x1024x8x128, .f32⟩
  | 100 => ⟨S1x1024x8x128, .f32⟩
  | 101 => ⟨S1x8x512x1024, .f32⟩
  | 102 => ⟨S_, .f32⟩
  | 103 => ⟨S1x8x512x1024, .f32⟩
  | 104 => ⟨S1x8x512x1024, .f32⟩
  | 105 => ⟨S_, .f32⟩
  | 106 => ⟨S1x8x512, .f32⟩
  | 107 => ⟨S1x8x512x1, .f32⟩
  | 108 => ⟨S1x8x512x1, .f32⟩
  | 109 => ⟨S1x8x512x1, .f32⟩
  | 110 => ⟨S1x8x512x1, .f32⟩
  | 111 => ⟨S1x8x512x1024, .f32⟩
  | 112 => ⟨S1x8x512x1024, .f32⟩
  | 113 => ⟨S1x8x512x1024, .f32⟩
  | 114 => ⟨S1x8x512x1, .f32⟩
  | 115 => ⟨S_, .f32⟩
  | 116 => ⟨S1x8x512, .f32⟩
  | 117 => ⟨S1x8x512x1, .f32⟩
  | 118 => ⟨S1x8x512x1, .f32⟩
  | 119 => ⟨S1x512x8x1, .f32⟩
  | 120 => ⟨S1x512x8x128, .f32⟩
  | 121 => ⟨S1x512x8x128, .f32⟩
  | 122 => ⟨S1x8x128x512, .f32⟩
  | 123 => ⟨S1x512x8x128, .f32⟩
  | 124 => ⟨S1x512x8x128, .f32⟩
  | 125 => ⟨S1x1024x8x128, .f32⟩
  | 126 => ⟨S1x1024x8x128, .f32⟩
  | 127 => ⟨S1x8x512x1024, .f32⟩
  | _ => ⟨S1x512x1024, .f32⟩

abbrev hbmTy0_3 (i : Nat) : BufTy := match i % 128 with
  | 0 => ⟨S_, .f32⟩
  | 1 => ⟨S1x8x512x1024, .f32⟩
  | 2 => ⟨S1x8x512x1024, .f32⟩
  | 3 => ⟨S_, .f32⟩
  | 4 => ⟨S1x8x512, .f32⟩
  | 5 => ⟨S1x8x512x1, .f32⟩
  | 6 => ⟨S1x8x512x1, .f32⟩
  | 7 => ⟨S1x8x512x1, .f32⟩
  | 8 => ⟨S1x8x512x1, .f32⟩
  | 9 => ⟨S1x8x512x1024, .f32⟩
  | 10 => ⟨S1x8x512x1024, .f32⟩
  | 11 => ⟨S1x8x512x1024, .f32⟩
  | 12 => ⟨S1x8x512x1, .f32⟩
  | 13 => ⟨S_, .f32⟩
  | 14 => ⟨S1x8x512, .f32⟩
  | 15 => ⟨S1x8x512x1, .f32⟩
  | 16 => ⟨S1x8x512x1, .f32⟩
  | 17 => ⟨S1x512x8x1, .f32⟩
  | 18 => ⟨S1x512x8x128, .f32⟩
  | 19 => ⟨S1x512x8x128, .f32⟩
  | 20 => ⟨S1x8x128x512, .f32⟩
  | 21 => ⟨S1x512x8x128, .f32⟩
  | 22 => ⟨S1x512x8x128, .f32⟩
  | 23 => ⟨S1x1024x8x128, .f32⟩
  | 24 => ⟨S1x1024x8x128, .f32⟩
  | 25 => ⟨S1x8x512x1024, .f32⟩
  | 26 => ⟨S_, .f32⟩
  | 27 => ⟨S1x8x512x1024, .f32⟩
  | 28 => ⟨S1x8x512x1024, .f32⟩
  | 29 => ⟨S_, .f32⟩
  | 30 => ⟨S1x8x512, .f32⟩
  | 31 => ⟨S1x8x512x1, .f32⟩
  | 32 => ⟨S1x8x512x1, .f32⟩
  | 33 => ⟨S1x8x512x1, .f32⟩
  | 34 => ⟨S1x8x512x1, .f32⟩
  | 35 => ⟨S1x8x512x1024, .f32⟩
  | 36 => ⟨S1x8x512x1024, .f32⟩
  | 37 => ⟨S1x8x512x1024, .f32⟩
  | 38 => ⟨S1x8x512x1, .f32⟩
  | 39 => ⟨S_, .f32⟩
  | 40 => ⟨S1x8x512, .f32⟩
  | 41 => ⟨S1x8x512x1, .f32⟩
  | 42 => ⟨S1x8x512x1, .f32⟩
  | 43 => ⟨S1x512x8x1, .f32⟩
  | 44 => ⟨S1x512x8x128, .f32⟩
  | 45 => ⟨S1x512x8x128, .f32⟩
  | 46 => ⟨S1x8x128x512, .f32⟩
  | 47 => ⟨S1x512x8x128, .f32⟩
  | 48 => ⟨S1x512x8x128, .f32⟩
  | 49 => ⟨S1x512x8x1, .f32⟩
  | 50 => ⟨S1x512x8x128, .f32⟩
  | 51 => ⟨S1x512x8x128, .f32⟩
  | 52 => ⟨S1x512x1024, .f32⟩
  | 53 => ⟨S1x512x1024, .f32⟩
  | _ => ⟨S1x512x1024, .f32⟩

abbrev hbmTy (i : Nat) : BufTy := match i / 128 with
  | 0 => hbmTy0_0 i
  | 1 => hbmTy0_1 i
  | 2 => hbmTy0_2 i
  | 3 => hbmTy0_3 i
  | _ => ⟨S1x512x1024, .f32⟩

abbrev bufTy : (tb : Table) → Fin (tcTables nBuf tb) → BufTy
  | .hbm, ⟨i, _⟩ => hbmTy i
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_14 : Ref sig .tc := ⟨.hbm, 124, rfl⟩
abbrev main_v104 : Ref sig .tc := ⟨.hbm, 125, rfl⟩
abbrev main_v105 : Ref sig .tc := ⟨.hbm, 126, rfl⟩
abbrev main_cst_15 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_16 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_cst_17 : Ref sig .tc := ⟨.hbm, 150, rfl⟩
abbrev main_v127 : Ref sig .tc := ⟨.hbm, 151, rfl⟩
abbrev main_v128 : Ref sig .tc := ⟨.hbm, 152, rfl⟩
abbrev main_cst_18 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_cst_19 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_cst_20 : Ref sig .tc := ⟨.hbm, 176, rfl⟩
abbrev main_v150 : Ref sig .tc := ⟨.hbm, 177, rfl⟩
abbrev main_v151 : Ref sig .tc := ⟨.hbm, 178, rfl⟩
abbrev main_cst_21 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_cst_22 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_cst_23 : Ref sig .tc := ⟨.hbm, 202, rfl⟩
abbrev main_v173 : Ref sig .tc := ⟨.hbm, 203, rfl⟩
abbrev main_v174 : Ref sig .tc := ⟨.hbm, 204, rfl⟩
abbrev main_cst_24 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_cst_25 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_cst_26 : Ref sig .tc := ⟨.hbm, 228, rfl⟩
abbrev main_v196 : Ref sig .tc := ⟨.hbm, 229, rfl⟩
abbrev main_v197 : Ref sig .tc := ⟨.hbm, 230, rfl⟩
abbrev main_cst_27 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_cst_28 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_cst_29 : Ref sig .tc := ⟨.hbm, 254, rfl⟩
abbrev main_v219 : Ref sig .tc := ⟨.hbm, 255, rfl⟩
abbrev main_v220 : Ref sig .tc := ⟨.hbm, 256, rfl⟩
abbrev main_cst_30 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_cst_31 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_cst_32 : Ref sig .tc := ⟨.hbm, 280, rfl⟩
abbrev main_v242 : Ref sig .tc := ⟨.hbm, 281, rfl⟩
abbrev main_v243 : Ref sig .tc := ⟨.hbm, 282, rfl⟩
abbrev main_cst_33 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_cst_34 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_cst_35 : Ref sig .tc := ⟨.hbm, 306, rfl⟩
abbrev main_v265 : Ref sig .tc := ⟨.hbm, 307, rfl⟩
abbrev main_v266 : Ref sig .tc := ⟨.hbm, 308, rfl⟩
abbrev main_cst_36 : Ref sig .tc := ⟨.hbm, 309, rfl⟩
abbrev main_v267 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_v272 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_cst_37 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_v286 : Ref sig .tc := ⟨.hbm, 330, rfl⟩
abbrev main_v287 : Ref sig .tc := ⟨.hbm, 331, rfl⟩
abbrev main_cst_38 : Ref sig .tc := ⟨.hbm, 332, rfl⟩
abbrev main_v288 : Ref sig .tc := ⟨.hbm, 333, rfl⟩
abbrev main_v289 : Ref sig .tc := ⟨.hbm, 334, rfl⟩
abbrev main_cst_39 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_cst_40 : Ref sig .tc := ⟨.hbm, 345, rfl⟩
abbrev main_v299 : Ref sig .tc := ⟨.hbm, 346, rfl⟩
abbrev main_v300 : Ref sig .tc := ⟨.hbm, 347, rfl⟩
abbrev main_v301 : Ref sig .tc := ⟨.hbm, 348, rfl⟩
abbrev main_v302 : Ref sig .tc := ⟨.hbm, 349, rfl⟩
abbrev main_v303 : Ref sig .tc := ⟨.hbm, 350, rfl⟩
abbrev main_v304 : Ref sig .tc := ⟨.hbm, 351, rfl⟩
abbrev main_v305 : Ref sig .tc := ⟨.hbm, 352, rfl⟩
abbrev main_v306 : Ref sig .tc := ⟨.hbm, 353, rfl⟩
abbrev main_v307 : Ref sig .tc := ⟨.hbm, 354, rfl⟩
abbrev main_v308 : Ref sig .tc := ⟨.hbm, 355, rfl⟩
abbrev main_v309 : Ref sig .tc := ⟨.hbm, 356, rfl⟩
abbrev main_v310 : Ref sig .tc := ⟨.hbm, 357, rfl⟩
abbrev main_cst_41 : Ref sig .tc := ⟨.hbm, 358, rfl⟩
abbrev main_v311 : Ref sig .tc := ⟨.hbm, 359, rfl⟩
abbrev main_v312 : Ref sig .tc := ⟨.hbm, 360, rfl⟩
abbrev main_cst_42 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_v318 : Ref sig .tc := ⟨.hbm, 367, rfl⟩
abbrev main_v319 : Ref sig .tc := ⟨.hbm, 368, rfl⟩
abbrev main_v320 : Ref sig .tc := ⟨.hbm, 369, rfl⟩
abbrev main_v321 : Ref sig .tc := ⟨.hbm, 370, rfl⟩
abbrev main_cst_43 : Ref sig .tc := ⟨.hbm, 371, rfl⟩
abbrev main_v322 : Ref sig .tc := ⟨.hbm, 372, rfl⟩
abbrev main_v323 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_v328 : Ref sig .tc := ⟨.hbm, 378, rfl⟩
abbrev main_v329 : Ref sig .tc := ⟨.hbm, 379, rfl⟩
abbrev main_v330 : Ref sig .tc := ⟨.hbm, 380, rfl⟩
abbrev main_v331 : Ref sig .tc := ⟨.hbm, 381, rfl⟩
abbrev main_v332 : Ref sig .tc := ⟨.hbm, 382, rfl⟩
abbrev main_v333 : Ref sig .tc := ⟨.hbm, 383, rfl⟩
abbrev main_cst_44 : Ref sig .tc := ⟨.hbm, 384, rfl⟩
abbrev main_v334 : Ref sig .tc := ⟨.hbm, 385, rfl⟩
abbrev main_v335 : Ref sig .tc := ⟨.hbm, 386, rfl⟩
abbrev main_cst_45 : Ref sig .tc := ⟨.hbm, 387, rfl⟩
abbrev main_v336 : Ref sig .tc := ⟨.hbm, 388, rfl⟩
abbrev main_v337 : Ref sig .tc := ⟨.hbm, 389, rfl⟩
abbrev main_v338 : Ref sig .tc := ⟨.hbm, 390, rfl⟩
abbrev main_v339 : Ref sig .tc := ⟨.hbm, 391, rfl⟩
abbrev main_v340 : Ref sig .tc := ⟨.hbm, 392, rfl⟩
abbrev main_v341 : Ref sig .tc := ⟨.hbm, 393, rfl⟩
abbrev main_v342 : Ref sig .tc := ⟨.hbm, 394, rfl⟩
abbrev main_v343 : Ref sig .tc := ⟨.hbm, 395, rfl⟩
abbrev main_v344 : Ref sig .tc := ⟨.hbm, 396, rfl⟩
abbrev main_cst_46 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_cst_47 : Ref sig .tc := ⟨.hbm, 410, rfl⟩
abbrev main_v357 : Ref sig .tc := ⟨.hbm, 411, rfl⟩
abbrev main_v358 : Ref sig .tc := ⟨.hbm, 412, rfl⟩
abbrev main_cst_48 : Ref sig .tc := ⟨.hbm, 413, rfl⟩
abbrev main_v359 : Ref sig .tc := ⟨.hbm, 414, rfl⟩
abbrev main_v360 : Ref sig .tc := ⟨.hbm, 415, rfl⟩
abbrev main_v361 : Ref sig .tc := ⟨.hbm, 416, rfl⟩
abbrev main_v362 : Ref sig .tc := ⟨.hbm, 417, rfl⟩
abbrev main_v363 : Ref sig .tc := ⟨.hbm, 418, rfl⟩
abbrev main_v364 : Ref sig .tc := ⟨.hbm, 419, rfl⟩
abbrev main_v365 : Ref sig .tc := ⟨.hbm, 420, rfl⟩
abbrev main_v366 : Ref sig .tc := ⟨.hbm, 421, rfl⟩
abbrev main_v367 : Ref sig .tc := ⟨.hbm, 422, rfl⟩
abbrev main_cst_49 : Ref sig .tc := ⟨.hbm, 423, rfl⟩
abbrev main_v368 : Ref sig .tc := ⟨.hbm, 424, rfl⟩
abbrev main_v369 : Ref sig .tc := ⟨.hbm, 425, rfl⟩
abbrev main_v370 : Ref sig .tc := ⟨.hbm, 426, rfl⟩
abbrev main_v371 : Ref sig .tc := ⟨.hbm, 427, rfl⟩
abbrev main_v372 : Ref sig .tc := ⟨.hbm, 428, rfl⟩
abbrev main_v373 : Ref sig .tc := ⟨.hbm, 429, rfl⟩
abbrev main_v374 : Ref sig .tc := ⟨.hbm, 430, rfl⟩
abbrev main_v375 : Ref sig .tc := ⟨.hbm, 431, rfl⟩
abbrev main_v376 : Ref sig .tc := ⟨.hbm, 432, rfl⟩
abbrev main_v377 : Ref sig .tc := ⟨.hbm, 433, rfl⟩
abbrev main_v378 : Ref sig .tc := ⟨.hbm, 434, rfl⟩
abbrev main_v379 : Ref sig .tc := ⟨.hbm, 435, rfl⟩
abbrev main_v380 : Ref sig .tc := ⟨.hbm, 436, rfl⟩
abbrev main_v381 : Ref sig .tc := ⟨.hbm, 437, rfl⟩

abbrev nD : Nat := 1
abbrev τ : Topo := Topo.v7x

variable {F : FTy → Type} [FloatOps F]
-- ==== Proof.Piece.lean ====
/-
# Loads, stores and transfers of a part of a buffer

A device of this kernel holds its scratch buffers in parts: one attention group's slab of the state, one landing
slot of one round. The program names the whole buffer and a box inside a part. The lemmas here say what a load of
such a box reads and what a store into it leaves, when only the part is held, and how a part is held under the
reshaped name a transfer gives it.
-/
module

public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.Piece

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type}
variable {Name : Type} [DecidableEq Name] {U : Type} [URA U] {Lvl : Type} [Preorder Lvl] {Λ : Labels}

local notation "𝕄" => MT nD τ sig Ix Val Name U Lvl

/-! ## A box inside a part -/

section Box

variable {s : Shape} {Off Size off size ioff : Fin s.rank → Nat}

/-- The box of sizes `size` at `ioff` inside the part `(Off, Size)`, as a box of the part's own shape. -/
@[implicit_reducible] def inner (Size ioff size : Fin s.rank → Nat) (h : ∀ a, ioff a + size a ≤ Size a) :
    Rect (⟨s.rank, Size⟩ : Shape) :=
  Rect.unit (s := ⟨s.rank, Size⟩) ioff size h

/-- The box at `Off + ioff` of the whole is the box at `ioff` of the part at `Off`: they place each index alike. -/
theorem emb_inner {INB : ∀ a, Off a + Size a ≤ s.size a} {inb : ∀ a, off a + size a ≤ s.size a}
    {iinb : ∀ a, ioff a + size a ≤ Size a} (ho : ∀ a, off a = Off a + ioff a) (x : (Rect.unit off size inb).shape.Idx) :
    (Rect.unit off size inb).emb x = (Rect.unit Off Size INB).emb ((inner Size ioff size iinb).emb x) := by
  funext a
  apply Fin.ext
  rw [Rect.emb_apply, Rect.emb_apply]
  simp only [inner, Rect.emb_apply, Rect.off_unit, Rect.stride_unit, Nat.one_mul]
  rw [ho a, Nat.add_assoc]

variable {α : Type} {n : Nat}

/-- The values of `X` on the box of sizes `size` at `ioff`. -/
def sub {Size : Fin n → Nat} (X : (⟨n, Size⟩ : Shape).Idx → α) (ioff size : Fin n → Nat) (h : ∀ a, ioff a + size a ≤ Size a) :
    (⟨n, size⟩ : Shape).Idx → α :=
  fun x => X ((Rect.unit (s := ⟨n, Size⟩) ioff size h).emb x)

/-- `X` with its values on the box of sizes `size` at `ioff` replaced by `w`'s. -/
def put {Size : Fin n → Nat} (X : (⟨n, Size⟩ : Shape).Idx → α) (ioff size : Fin n → Nat) (h : ∀ a, ioff a + size a ≤ Size a)
    (w : (⟨n, size⟩ : Shape).Idx → α) : (⟨n, Size⟩ : Shape).Idx → α :=
  (Rect.unit (s := ⟨n, Size⟩) ioff size h).overlay X w

/-- A coordinate of a box's index is the offset and the index's own. -/
theorem emb_val {Size ioff size : Fin n → Nat} (h : ∀ a, ioff a + size a ≤ Size a) (x : (⟨n, size⟩ : Shape).Idx) (a : Fin n) :
    (((Rect.unit (s := ⟨n, Size⟩) ioff size h).emb x) a).val = ioff a + (x a).val := by
  rw [Rect.emb_apply, Rect.off_unit, Rect.stride_unit, Nat.one_mul]

/-- The box is the whole part: its values are the part's. -/
theorem sub_zero {Size : Fin n → Nat} (X : (⟨n, Size⟩ : Shape).Idx → α) {ioff : Fin n → Nat} (h0 : ∀ a, ioff a = 0)
    (h : ∀ a, ioff a + Size a ≤ Size a) : sub X ioff Size h = X := by
  funext x
  unfold sub
  congr 1
  funext a
  exact Fin.ext (by rw [emb_val, h0, Nat.zero_add])

/-- Inside the box the new values, -/
theorem put_of_mem {Size : Fin n → Nat} (X : (⟨n, Size⟩ : Shape).Idx → α) {ioff size : Fin n → Nat} (h : ∀ a, ioff a + size a ≤ Size a)
    (w : (⟨n, size⟩ : Shape).Idx → α) (x : (⟨n, size⟩ : Shape).Idx) (y : (⟨n, Size⟩ : Shape).Idx)
    (hy : ∀ a, (y a).val = ioff a + (x a).val) : put X ioff size h w y = w x := by
  have : y = (Rect.unit (s := ⟨n, Size⟩) ioff size h).emb x := funext fun a => Fin.ext (by rw [hy, emb_val])
  rw [this]
  exact Rect.overlay_emb _ _ _ _

/-- outside it the old ones. -/
theorem put_of_not {Size : Fin n → Nat} (X : (⟨n, Size⟩ : Shape).Idx → α) {ioff size : Fin n → Nat} (h : ∀ a, ioff a + size a ≤ Size a)
    (w : (⟨n, size⟩ : Shape).Idx → α) (y : (⟨n, Size⟩ : Shape).Idx) (a : Fin n)
    (hy : (y a).val < ioff a ∨ ioff a + size a ≤ (y a).val) : put X ioff size h w y = X y := by
  refine Rect.overlay_of_not_mem _ _ _ fun hm => ?_
  rw [← Rect.map_emb_univ, Finset.mem_map] at hm
  obtain ⟨x, -, rfl⟩ := hm
  have hv := emb_val h x a
  have hx : (x a).val < size a := (x a).isLt
  omega

/-- A part replaced whole. -/
theorem put_zero {Size : Fin n → Nat} (X : (⟨n, Size⟩ : Shape).Idx → α) {ioff : Fin n → Nat} (h0 : ∀ a, ioff a = 0)
    (h : ∀ a, ioff a + Size a ≤ Size a) (w : (⟨n, Size⟩ : Shape).Idx → α) : put X ioff Size h w = w :=
  funext fun y => put_of_mem X h w y y fun a => by rw [h0, Nat.zero_add]

variable {κ : Kind} {sp : Space} {e : EltTy}

/-- A part of a part covers what the part of the whole does, -/
theorem set_inner (v : View sig κ sp s e) {INB : ∀ a, Off a + Size a ≤ s.size a} {inb : ∀ a, off a + size a ≤ s.size a}
    (iinb : ∀ a, ioff a + size a ≤ Size a) (ho : ∀ a, off a = Off a + ioff a) :
    (v.slice (Rect.unit off size inb)).set ⊆ (v.slice (Rect.unit Off Size INB)).set := by
  intro i hi
  rw [View.set, Finset.mem_map] at hi ⊢
  obtain ⟨x, -, rfl⟩ := hi
  refine ⟨(inner Size ioff size iinb).emb x, Finset.mem_univ _, ?_⟩
  change v.emb ((Rect.unit Off Size INB).emb _) = v.emb ((Rect.unit off size inb).emb x)
  rw [emb_inner (INB := INB) (iinb := iinb) ho x]

/-- reads the same -/
theorem read_inner (v : View sig κ sp s e) {INB : ∀ a, Off a + Size a ≤ s.size a} {inb : ∀ a, off a + size a ≤ s.size a}
    (iinb : ∀ a, ioff a + size a ≤ Size a) (ho : ∀ a, off a = Off a + ioff a) (f : v.ty.Contents Val) :
    (v.slice (Rect.unit off size inb)).read Val f
      = fun x => (v.slice (Rect.unit Off Size INB)).read Val f ((inner Size ioff size iinb).emb x) := by
  funext x
  change v.read Val f ((Rect.unit off size inb).emb x) = v.read Val f ((Rect.unit Off Size INB).emb _)
  rw [emb_inner (INB := INB) (iinb := iinb) ho x]

/-- and is written the same. -/
theorem read_write_inner (v : View sig κ sp s e) {INB : ∀ a, Off a + Size a ≤ s.size a} {inb : ∀ a, off a + size a ≤ s.size a}
    (iinb : ∀ a, ioff a + size a ≤ Size a) (ho : ∀ a, off a = Off a + ioff a) (f : v.ty.Contents Val)
    (w : (Rect.unit off size inb).shape.Idx → Val e) :
    (v.slice (Rect.unit Off Size INB)).read Val ((v.slice (Rect.unit off size inb)).write Val f w Finset.univ)
      = (inner Size ioff size iinb).overlay ((v.slice (Rect.unit Off Size INB)).read Val f) w := by
  funext y
  by_cases hy : y ∈ (inner Size ioff size iinb).set
  · rw [← Rect.map_emb_univ, Finset.mem_map] at hy
    obtain ⟨x, -, rfl⟩ := hy
    rw [Rect.overlay_emb]
    have h := congrFun (read_inner (Val := Val) v (INB := INB) (inb := inb) iinb ho ((v.slice (Rect.unit off size inb)).write Val f w Finset.univ)) x
    rw [← h, View.read_write_univ]
  · rw [Rect.overlay_of_not_mem _ _ _ hy]
    rw [View.read_apply, View.read_apply, View.write_of_not_mem]
    intro hc
    obtain ⟨x, -, hx⟩ := Finset.mem_map.mp hc
    apply hy
    have hx' : v.emb ((Rect.unit off size inb).emb x) = v.emb ((Rect.unit Off Size INB).emb y) := hx
    rw [emb_inner (INB := INB) (iinb := iinb) ho x] at hx'
    have := (Rect.unit Off Size INB).emb.injective (v.emb.injective hx')
    rw [← this, ← Rect.map_emb_univ]
    exact Finset.mem_map_of_mem _ (Finset.mem_univ _)

end Box

section Rules

variable {defs : Defs nD τ sig Val Λ} (𝒱 : Variants) (c : Thread nD τ) (bd : Option 𝒱.V) {Γ : PendingWaitsCtx sig Ix} (E : Set Name)
variable {cs : CoreSpace} {s : Shape} {e : EltTy} {α : Type} {Q : α → sProp (MT nD τ sig Ix Val Name U Lvl)}

/-- A load of a box of a buffer of which a part that contains the box is held reads the part's contents there. -/
theorem wp_ld {m : Memref sig c.2.kind cs s e} {Off Size off size : Fin s.rank → Nat} (ioff : Fin s.rank → Nat)
    {INB : ∀ a, Off a + Size a ≤ s.size a} {inb : ∀ a, off a + size a ≤ s.size a} {hR : ∀ a, (Rect.unit Off Size INB).stride a = 1}
    {hl : m.view.LoadsAt (Rect.unit off size inb)}
    {k : ((Rect.unit off size inb).shape.Idx → Val e) → Prog (TpuEff nD τ sig Val Λ c.2) α} {q : PosShare TreeShare}
    (iinb : ∀ a, ioff a + size a ≤ Size a) (ho : ∀ a, off a = Off a + ioff a) {X : (⟨s.rank, Size⟩ : Shape).Idx → Val e} :
    (owns c (m.slice (Rect.unit Off Size INB) hR) q X : sProp 𝕄)
      ⊢ iprop(((owns c (m.slice (Rect.unit Off Size INB) hR) q X)
            -∗ wp frame (wpE' defs 𝒱 c bd Γ) E (k (sub X ioff size iinb)) Q)
        -∗ wp frame (wpE' defs 𝒱 c bd Γ) E (.op (.load m (Rect.unit off size inb) hl) k) Q) := by
  unfold owns
  have hS : m.view.setOn (Rect.unit off size inb).toLoadRect.set ⊆ (m.view.slice (Rect.unit Off Size INB)).set := by
    have h := set_inner (INB := INB) (inb := inb) m.view iinb ho
    rw [View.set_slice m.view (Rect.unit off size inb)] at h
    exact h
  iintro ⟨%f, %hf, H⟩ Hk
  iapply (wp_load 𝒱 c bd E (m := m) (r := (Rect.unit off size inb).toLoadRect) (S := (m.view.slice (Rect.unit Off Size INB)).set) hS) $$ H
  iintro H
  have hr : m.view.readAt Val (Rect.unit off size inb) f = sub X ioff size iinb := by
    rw [View.readAt_rect, read_inner (INB := INB) m.view iinb ho f]
    funext x
    exact congrFun hf _
  rw [hr]
  iapply Hk
  iexists f
  isplitr
  · ipureintro; exact hf
  iexact H

/-- A store into a box of a buffer of which a part that contains the box is held replaces the part's contents there. -/
theorem wp_st {m : Memref sig c.2.kind cs s e} {Off Size off size : Fin s.rank → Nat} (ioff : Fin s.rank → Nat)
    {INB : ∀ a, Off a + Size a ≤ s.size a} {inb : ∀ a, off a + size a ≤ s.size a} {hR : ∀ a, (Rect.unit Off Size INB).stride a = 1}
    {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α}
    (iinb : ∀ a, ioff a + size a ≤ Size a) (ho : ∀ a, off a = Off a + ioff a) {X : (⟨s.rank, Size⟩ : Shape).Idx → Val e} :
    (owns c (m.slice (Rect.unit Off Size INB) hR) fullShare X : sProp 𝕄)
      ⊢ iprop(((owns c (m.slice (Rect.unit Off Size INB) hR) fullShare (put X ioff size iinb w))
            -∗ wp frame (wpE' defs 𝒱 c bd Γ) E (k ⟨⟩) Q)
        -∗ wp frame (wpE' defs 𝒱 c bd Γ) E (.op (.store m (Rect.unit off size inb) w Finset.univ hx hm) k) Q) := by
  unfold owns
  have hS : (m.access (Rect.unit off size inb)).setOn Finset.univ ⊆ (m.view.slice (Rect.unit Off Size INB)).set := by
    rw [View.setOn_univ]; exact set_inner (INB := INB) (inb := inb) m.view iinb ho
  iintro ⟨%f, %hf, H⟩ Hk
  iapply (wp_store 𝒱 c bd E (m := m) (r := Rect.unit off size inb) (Mk := Finset.univ) (S := (m.view.slice (Rect.unit Off Size INB)).set)
    hS) $$ H
  iintro H
  iapply Hk
  iexists ((m.access (Rect.unit off size inb)).write Val f w Finset.univ)
  isplitr
  · ipureintro
    exact (read_write_inner (INB := INB) m.view iinb ho f w).trans (congrArg (fun Y => (inner Size ioff size iinb).overlay Y w) hf)
  iexact H

/-- A load of a box of a buffer held whole. -/
theorem wp_ld0 {m : Memref sig c.2.kind cs s e} {off size : Fin s.rank → Nat} {inb : ∀ a, off a + size a ≤ s.size a}
    {hl : m.view.LoadsAt (Rect.unit off size inb)}
    {k : ((Rect.unit off size inb).shape.Idx → Val e) → Prog (TpuEff nD τ sig Val Λ c.2) α} {q : PosShare TreeShare}
    {X : s.Idx → Val e} :
    (owns c m q X : sProp 𝕄)
      ⊢ iprop(((owns c m q X) -∗ wp frame (wpE' defs 𝒱 c bd Γ) E (k (sub (n := s.rank) (Size := s.size) X off size inb)) Q)
        -∗ wp frame (wpE' defs 𝒱 c bd Γ) E (.op (.load m (Rect.unit off size inb) hl) k) Q) := by
  unfold owns
  have hS : m.view.setOn (Rect.unit off size inb).toLoadRect.set ⊆ m.view.set := View.setOn_subset_set _ _
  iintro ⟨%f, %hf, H⟩ Hk
  iapply (wp_load 𝒱 c bd E (m := m) (r := (Rect.unit off size inb).toLoadRect) (S := m.view.set) hS) $$ H
  iintro H
  have hr : m.view.readAt Val (Rect.unit off size inb) f = sub (n := s.rank) (Size := s.size) X off size inb := by
    funext x
    exact congrFun hf _
  rw [hr]
  iapply Hk
  iexists f
  isplitr
  · ipureintro; exact hf
  iexact H

/-- A store over the whole of a buffer held whole. -/
theorem wp_st0 {m : Memref sig c.2.kind cs s e} {off : Fin s.rank → Nat} {inb : ∀ a, off a + s.size a ≤ s.size a} (h0 : ∀ a, off a = 0)
    {w : (Rect.unit off s.size inb).shape.Idx → Val e} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    (owns c m fullShare X : sProp 𝕄)
      ⊢ iprop(((owns c m fullShare w) -∗ wp frame (wpE' defs 𝒱 c bd Γ) E (k ⟨⟩) Q)
        -∗ wp frame (wpE' defs 𝒱 c bd Γ) E (.op (.store m (Rect.unit off s.size inb) w Finset.univ hx hm) k) Q) := by
  unfold owns
  have hS : (m.access (Rect.unit off s.size inb)).setOn Finset.univ ⊆ m.view.set := by
    rw [View.setOn_univ]; exact View.set_slice_subset _ _
  iintro ⟨%f, %hf, H⟩ Hk
  iapply (wp_store 𝒱 c bd E (m := m) (r := Rect.unit off s.size inb) (Mk := Finset.univ) (S := m.view.set) hS) $$ H
  iintro H
  iapply Hk
  iexists ((m.access (Rect.unit off s.size inb)).write Val f w Finset.univ)
  isplitr
  · ipureintro
    funext x
    have he : (Rect.unit off s.size inb).emb x = x := funext fun a => Fin.ext (by
      rw [Rect.emb_apply, Rect.off_unit, Rect.stride_unit, Nat.one_mul, h0, Nat.zero_add])
    have := congrFun (View.read_write_univ (v := m.access (Rect.unit off s.size inb)) f w) x
    change m.view.read Val _ ((Rect.unit off s.size inb).emb x) = w x at this
    rwa [he] at this
  iexact H

end Rules

/-! ## A part under a reshaped name -/

section Squeeze

variable (c : Thread nD τ) {sp : Space} {s s' : Shape} {e : EltTy} (m : Memref sig c.2.kind sp s e) (q : PosShare TreeShare)

/-- Holding a memref with its axes of size one dropped, at contents indexed so, is holding it as it was. -/
theorem owns_squeeze (h : s.Squeezes s') (hc : s.ShapeCasts s') (X : s.Idx → Val e) :
    (owns c (m.squeeze s' h) q (shapeCast s' X hc) : sProp 𝕄) = owns c m q X := by
  have key : ∀ f : m.view.ty.Contents Val,
      ((m.squeeze s' h).view.read Val f = shapeCast s' X hc) ↔ (m.view.read Val f = X) := by
    intro f
    constructor
    · intro hf
      funext x
      have h1 := congrFun hf ((Shape.reshapeEquiv h.numel_eq).symm x)
      have h2 : m.view.read Val f (Shape.reshapeEquiv h.numel_eq ((Shape.reshapeEquiv h.numel_eq).symm x))
          = X (Shape.reshapeEquiv h.numel_eq ((Shape.reshapeEquiv h.numel_eq).symm x)) := h1
      rwa [Equiv.apply_symm_apply] at h2
    · rintro rfl
      rfl
  have h₁ : (owns c (m.squeeze s' h) q (shapeCast s' X hc) : sProp 𝕄) ⊢ owns c m q X := by
    unfold owns
    iintro ⟨%f, %hf, H⟩
    iexists f
    isplitr
    · ipureintro; exact (key f).mp hf
    ihave H' := (Entails.of_eq (show ((m.squeeze s' h).view.loc c ↦[(m.squeeze s' h).view.set]{q} f : sProp 𝕄)
      = (m.view.loc c ↦[m.view.set]{q} f) from by simp only [Memref.view_squeeze, View.set_reshape])) $$ H
    iexact H'
  have h₂ : (owns c m q X : sProp 𝕄) ⊢ owns c (m.squeeze s' h) q (shapeCast s' X hc) := by
    unfold owns
    iintro ⟨%f, %hf, H⟩
    iexists f
    isplitr
    · ipureintro; exact (key f).mpr hf
    ihave H' := (Entails.of_eq (show ((m.squeeze s' h).view.loc c ↦[(m.squeeze s' h).view.set]{q} f : sProp 𝕄)
      = (m.view.loc c ↦[m.view.set]{q} f) from by simp only [Memref.view_squeeze, View.set_reshape]).symm) $$ H
    iexact H'
  exact BI.equiv_iff.mp ⟨h₁, h₂⟩

end Squeeze

/-! ## A part of an unknown buffer -/

section Some

variable (c : Thread nD τ) {sp : Space} {s : Shape} {e : EltTy} (m : Memref sig c.2.kind sp s e) (q : PosShare TreeShare)

/-- A memref held at contents nobody knows. -/
def ownsSome : sProp 𝕄 := iprop(∃ X, owns c m q X)

/-- A buffer with some contents may be kept in an invariant. -/
instance ownsSome_storable : BI.Storable (upEmb : UEmb _ 𝕄) (ownsSome c m q : sProp 𝕄) := by
  unfold ownsSome; infer_instance

section Family

variable {T : Type} [Fintype T] [DecidableEq T] (r : T → Rect s) (hr : ∀ t a, (r t).stride a = 1)
  (hd : ∀ t t', t ≠ t' → Disjoint (r t).set (r t').set)
  (hcov : ∀ i : s.Idx, ∃ t, i ∈ (r t).set)
include hd hcov

/-- A memref held at unknown contents is each box of a disjoint covering family held so, -/
theorem ownsSome_split :
    (ownsSome c m q : sProp 𝕄) ⊢ bigSep Finset.univ fun t => ownsSome c (m.slice (r t) (hr t)) q := by
  unfold ownsSome
  have hc : (Finset.univ : Finset T).biUnion (fun t => (r t).set) = Finset.univ := by
    ext i
    obtain ⟨t, ht⟩ := hcov i
    exact ⟨fun _ => Finset.mem_univ _, fun _ => Finset.mem_biUnion.mpr ⟨t, Finset.mem_univ _, ht⟩⟩
  have h0 : ∀ t X, (owns c (m.slice (r t) (hr t)) q X : sProp 𝕄) ⊢ iprop(∃ Y, owns c (m.slice (r t) (hr t)) q Y) := by
    intro t X
    iintro H
    iexists X
    iexact H
  have h1 : ∀ X, (owns c m q X : sProp 𝕄) ⊢ bigSep Finset.univ fun t => iprop(∃ Y, owns c (m.slice (r t) (hr t)) q Y) :=
    fun X => (owns_rects c m q r hr hd hc X).trans (bigSep_mono fun t _ => h0 t _)
  iintro ⟨%X, H⟩
  iapply (h1 X)
  iexact H

/-- and back. -/
theorem ownsSome_join [∀ e, Nonempty (Val e)] :
    (bigSep Finset.univ fun t => (ownsSome c (m.slice (r t) (hr t)) q : sProp 𝕄)) ⊢ ownsSome c m q := by
  classical
  unfold ownsSome
  have hc : (Finset.univ : Finset T).biUnion (fun t => (r t).set) = Finset.univ := by
    ext i
    obtain ⟨t, ht⟩ := hcov i
    exact ⟨fun _ => Finset.mem_univ _, fun _ => Finset.mem_biUnion.mpr ⟨t, Finset.mem_univ _, ht⟩⟩
  have hpre : ∀ i : s.Idx, ∃ p : (Σ t, (r t).shape.Idx), (r p.1).emb p.2 = i := by
    intro i
    obtain ⟨t, ht⟩ := hcov i
    rw [← Rect.map_emb_univ, Finset.mem_map] at ht
    obtain ⟨j, -, hj⟩ := ht
    exact ⟨⟨t, j⟩, hj⟩
  choose f hf using hpre
  refine (bigSep_exists_pi _ _).trans ?_
  iintro ⟨%Y, H⟩
  iexists fun i => Y (f i).1 (f i).2
  have hY : ∀ t, (fun j => Y (f ((r t).emb j)).1 (f ((r t).emb j)).2) = Y t := by
    intro t
    funext j
    have hp : f ((r t).emb j) = ⟨t, j⟩ := by
      have h1 := hf ((r t).emb j)
      generalize f ((r t).emb j) = p at h1 ⊢
      obtain ⟨t', j'⟩ := p
      have ht : t' = t := by
        by_contra hne
        refine Finset.disjoint_left.mp (hd t' t hne) ?_ (?_ : (r t).emb j ∈ (r t).set)
        · rw [← h1, ← Rect.map_emb_univ]; exact Finset.mem_map_of_mem _ (Finset.mem_univ _)
        · rw [← Rect.map_emb_univ]; exact Finset.mem_map_of_mem _ (Finset.mem_univ _)
      subst ht
      exact congrArg (Sigma.mk t') ((r t').emb.injective h1)
    rw [hp]
  have h2 : (bigSep Finset.univ fun t => (owns c (m.slice (r t) (hr t)) q (Y t) : sProp 𝕄))
      ⊢ owns c m q (fun i => Y (f i).1 (f i).2) :=
    (Entails.of_eq (bigSep_congr fun t _ => by rw [← hY t])).trans (owns_of_rects c m q r hr hd hc _)
  iapply h2
  iexact H

end Family

end Some

end Cert.Piece
-- ==== Proof.KernelIdealRun.Common.lean ====
/-
# The exchange's protocol: slots, cells, schedule, what is owed, and the rules at them

Eight devices reduce the state of a flash attention in three rounds of pairwise exchanges. In round `r` device `c`
swaps, for each of two attention groups, a half-precision copy of its output state and its maxima and sums with
device `c xor 2 ^ r`. Every swap has its own landing slot and its own four transfer semaphores, so each semaphore is
used once, in round 0 of its own cell. The runtime's barrier semaphore of a device gets one signal of each of its
three partners; with its signal a device hands over its landing slots of the round it shares with that partner.
-/
module

public import Mathlib.Tactic.IntervalCases
public import proofs.«01_k».proof.Proof.Piece
public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdealRun

open Cert.KernelIdeal Cert.KernelIdeal.Gen Cert.Piece

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's, whose duties are three -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Partners -/

set_option backward.proofsInPublic true in
/-- The device that device `c` swaps with in round `r`. -/
def pr (r : ℕ) (c : Dev nD) : Dev nD := ⟨(c.val ^^^ 2 ^ r) % 8, Nat.mod_lt _ (by decide)⟩

theorem pr_pr0 (c : Dev nD) : pr 0 (pr 0 c) = c := by revert c; decide
theorem pr_pr1 (c : Dev nD) : pr 1 (pr 1 c) = c := by revert c; decide
theorem pr_pr2 (c : Dev nD) : pr 2 (pr 2 c) = c := by revert c; decide

/-- A partner's partner is the device itself. -/
theorem pr_pr {r : ℕ} (hr : r < 3) (c : Dev nD) : pr r (pr r c) = c := by
  interval_cases r
  · exact pr_pr0 c
  · exact pr_pr1 c
  · exact pr_pr2 c

theorem dev1_eq (c : Dev nD) : (⟨k0_dev1 c, k0_dev1_lt c⟩ : Dev nD) = pr 0 c := by revert c; decide
theorem dev2_eq (c : Dev nD) : (⟨k0_dev2 c, k0_dev2_lt c⟩ : Dev nD) = pr 1 c := by revert c; decide
theorem dev3_eq (c : Dev nD) : (⟨k0_dev3 c, k0_dev3_lt c⟩ : Dev nD) = pr 2 c := by revert c; decide
theorem dev4_eq (c : Dev nD) : (⟨k0_dev4 c, k0_dev4_lt c⟩ : Dev nD) = pr 0 c := by revert c; decide
theorem dev5_eq (c : Dev nD) : (⟨k0_dev5 c, k0_dev5_lt c⟩ : Dev nD) = pr 0 c := by revert c; decide
theorem dev6_eq (c : Dev nD) : (⟨k0_dev6 c, k0_dev6_lt c⟩ : Dev nD) = pr 0 c := by revert c; decide
theorem dev7_eq (c : Dev nD) : (⟨k0_dev7 c, k0_dev7_lt c⟩ : Dev nD) = pr 0 c := by revert c; decide
theorem dev8_eq (c : Dev nD) : (⟨k0_dev8 c, k0_dev8_lt c⟩ : Dev nD) = pr 1 c := by revert c; decide
theorem dev9_eq (c : Dev nD) : (⟨k0_dev9 c, k0_dev9_lt c⟩ : Dev nD) = pr 1 c := by revert c; decide
theorem dev10_eq (c : Dev nD) : (⟨k0_dev10 c, k0_dev10_lt c⟩ : Dev nD) = pr 1 c := by revert c; decide
theorem dev11_eq (c : Dev nD) : (⟨k0_dev11 c, k0_dev11_lt c⟩ : Dev nD) = pr 1 c := by revert c; decide
theorem dev12_eq (c : Dev nD) : (⟨k0_dev12 c, k0_dev12_lt c⟩ : Dev nD) = pr 2 c := by revert c; decide
theorem dev13_eq (c : Dev nD) : (⟨k0_dev13 c, k0_dev13_lt c⟩ : Dev nD) = pr 2 c := by revert c; decide
theorem dev14_eq (c : Dev nD) : (⟨k0_dev14 c, k0_dev14_lt c⟩ : Dev nD) = pr 2 c := by revert c; decide
theorem dev15_eq (c : Dev nD) : (⟨k0_dev15 c, k0_dev15_lt c⟩ : Dev nD) = pr 2 c := by revert c; decide

/-! ## Slots -/

/-- A group's slab lies inside the output states, -/
theorem inb_o {g : ℕ} (hg : g < 2) : ∀ a, (![g, 0, 0, 0] : Fin 4 → ℕ) a + S1x4x512x128.size a ≤ S2x4x512x128.size a := by
  interval_cases g <;> decide
/-- inside the maxima and sums, -/
theorem inb_ml {g : ℕ} (hg : g < 2) : ∀ a, (![g, 0, 0, 0] : Fin 4 → ℕ) a + S1x2x4x512.size a ≤ S2x2x4x512.size a := by
  interval_cases g <;> decide
/-- a round's and a group's inside the received output states, -/
theorem inb_co {r g : ℕ} (hr : r < 3) (hg : g < 2) :
    ∀ a, (![r, g, 0, 0, 0] : Fin 5 → ℕ) a + S1x1x4x512x128.size a ≤ S3x2x4x512x128.size a := by
  interval_cases r <;> interval_cases g <;> decide
/-- inside the received maxima and sums, -/
theorem inb_cm {r g : ℕ} (hr : r < 3) (hg : g < 2) :
    ∀ a, (![r, g, 0, 0, 0] : Fin 5 → ℕ) a + S1x1x2x4x512.size a ≤ S3x2x2x4x512.size a := by
  interval_cases r <;> interval_cases g <;> decide
/-- and its semaphore inside the array of them. -/
theorem inb_sem {r g : ℕ} (hr : r < 3) (hg : g < 2) : ∀ a, (![r, g] : Fin 2 → ℕ) a + S1x1.size a ≤ S3x2.size a := by
  interval_cases r <;> interval_cases g <;> decide

/-- Group `g`'s slab of the output state, -/
abbrev oG (g : ℕ) (hg : g < 2) : Memref sig .tc .vmem S1x4x512x128 .f32 :=
  (Memref.whole cc0_scratch0).slice (Rect.unit (s := S2x4x512x128) ![g, 0, 0, 0] S1x4x512x128.size (inb_o hg)) (fun _ => rfl)
/-- of its maxima and sums, -/
abbrev mlG (g : ℕ) (hg : g < 2) : Memref sig .tc .vmem S1x2x4x512 .f32 :=
  (Memref.whole cc0_scratch1).slice (Rect.unit (s := S2x2x4x512) ![g, 0, 0, 0] S1x2x4x512.size (inb_ml hg)) (fun _ => rfl)
/-- of the half-precision copy that is sent; -/
abbrev sbG (g : ℕ) (hg : g < 2) : Memref sig .tc .vmem S1x4x512x128 .bf16 :=
  (Memref.whole cc0_scratch2).slice (Rect.unit (s := S2x4x512x128) ![g, 0, 0, 0] S1x4x512x128.size (inb_o hg)) (fun _ => rfl)
/-- the landing slot of round `r` for the output state, -/
abbrev coG (r g : ℕ) (hr : r < 3) (hg : g < 2) : Memref sig .tc .vmem S1x1x4x512x128 .bf16 :=
  (Memref.whole cc0_scratch3).slice (Rect.unit (s := S3x2x4x512x128) ![r, g, 0, 0, 0] S1x1x4x512x128.size (inb_co hr hg)) (fun _ => rfl)
/-- and for the maxima and sums. -/
abbrev cmG (r g : ℕ) (hr : r < 3) (hg : g < 2) : Memref sig .tc .vmem S1x1x2x4x512 .f32 :=
  (Memref.whole cc0_scratch4).slice (Rect.unit (s := S3x2x2x4x512) ![r, g, 0, 0, 0] S1x1x2x4x512.size (inb_cm hr hg)) (fun _ => rfl)

/-- The same under the names a transfer gives them, their axes of size one dropped. -/
abbrev mlQ (g : ℕ) (hg : g < 2) : Memref sig .tc .vmem S2x4x512 .f32 := (mlG g hg).squeeze S2x4x512 squeezes_S1x2x4x512_S2x4x512
abbrev sbQ (g : ℕ) (hg : g < 2) : Memref sig .tc .vmem S4x512x128 .bf16 := (sbG g hg).squeeze S4x512x128 squeezes_S1x4x512x128_S4x512x128
abbrev coQ (r g : ℕ) (hr : r < 3) (hg : g < 2) : Memref sig .tc .vmem S4x512x128 .bf16 :=
  (coG r g hr hg).squeeze S4x512x128 squeezes_S1x1x4x512x128_S4x512x128
abbrev cmQ (r g : ℕ) (hr : r < 3) (hg : g < 2) : Memref sig .tc .vmem S2x4x512 .f32 :=
  (cmG r g hr hg).squeeze S2x4x512 squeezes_S1x1x2x4x512_S2x4x512

/-! ## Cells -/

/-- The runtime's barrier semaphore. -/
abbrev barS : Sem sig := (SemArray.scalar (sig.barrier 0 rfl) : Sems sig S_).sem

/-- One semaphore of a three-by-two array. -/
abbrev pick (A : DmaSems sig S3x2) (r g : ℕ) (hr : r < 3) (hg : g < 2) : DmaSem sig :=
  ((A.slice (Rect.unit (s := S3x2) ![r, g] S1x1.size (inb_sem hr hg))).squeeze S_ squeezes_S1x1_S_).sem

set_option backward.proofsInPublic true in
/-- Transfer semaphore number `n`. -/
def qs (n : ℕ) : DmaSem sig := ⟨n % 30, Nat.mod_lt _ (by decide)⟩

/-- The number of the semaphore of kind `k` (the output state's send and receive, the maxima's and sums' send and
    receive), round `r`, group `g`: the pipeline's own six stand before. -/
abbrev six (k r g : ℕ) : ℕ := 6 + 6 * k + 2 * r + g

/-- A semaphore's number, read back. -/
theorem qs_val {n : ℕ} (h : n < 30) : (qs n).val = n := Nat.mod_eq_of_lt h

/-- The semaphores of each of the four arrays, numbered: those of sending the output states, -/
theorem pick5 {r g : ℕ} (hr : r < 3) (hg : g < 2) : pick cc0_scratch5 r g hr hg = qs (six 0 r g) := by
  interval_cases r <;> interval_cases g <;> revert hr hg <;> decide +kernel
/-- of receiving them, -/
theorem pick6 {r g : ℕ} (hr : r < 3) (hg : g < 2) : pick cc0_scratch6 r g hr hg = qs (six 1 r g) := by
  interval_cases r <;> interval_cases g <;> revert hr hg <;> decide +kernel
/-- of sending the maxima and sums, -/
theorem pick7 {r g : ℕ} (hr : r < 3) (hg : g < 2) : pick cc0_scratch7 r g hr hg = qs (six 2 r g) := by
  interval_cases r <;> interval_cases g <;> revert hr hg <;> decide +kernel
/-- and of receiving those. -/
theorem pick8 {r g : ℕ} (hr : r < 3) (hg : g < 2) : pick cc0_scratch8 r g hr hg = qs (six 3 r g) := by
  interval_cases r <;> interval_cases g <;> revert hr hg <;> decide +kernel

/-- The barrier's counter of a device, -/
abbrev barCell (c : Dev nD) : GSem nD τ sig := ((c : Thread nD τ), .reg barS)
/-- and a transfer's. -/
abbrev qcell (n : ℕ) (c : Dev nD) : GSem nD τ sig := ((c : Thread nD τ), .dma (qs n))

set_option backward.proofsInPublic true in
/-- The exchange's own transfer semaphores, in order, -/
abbrev osem (k : Fin 24) : SemLoc sig := .dma (qs (6 + k.val))
set_option backward.proofsInPublic true in
/-- and with the barrier's all twenty-five. -/
def csem (k : Fin 25) : SemLoc sig := if k.val < 24 then .dma (qs (6 + k.val)) else .reg barS
/-- The counters that the kernel's waits concern, listed. -/
abbrev kcell (ck : Dev nD × Fin 25) : GSem nD τ sig := ((ck.1 : Thread nD τ), csem ck.2)

/-- The last of the list is the barrier, -/
theorem csem_last : csem 24 = .reg barS := rfl
/-- and the others are the transfers'. -/
theorem csem_lt {n : ℕ} (h : 6 ≤ n) (h' : n < 30) : csem ⟨n - 6, by omega⟩ = .dma (qs n) := by
  unfold csem
  rw [if_pos (show n - 6 < 24 by omega), show 6 + (n - 6) = n by omega]

/-- What a transfer of each kind is worth. -/
abbrev NO : ℕ := (sbQ 0 (by decide)).view.dmaCredit
abbrev NM : ℕ := (mlQ 0 (by decide)).view.dmaCredit
/-- A transfer counts at least one unit, -/
theorem NO_pos : 0 < NO := View.dmaCredit_pos _ (by decide)
/-- of either kind. -/
theorem NM_pos : 0 < NM := View.dmaCredit_pos _ (by decide)

end Cert.KernelIdealRun
-- ==== Proof.KernelIdealRun.Sched.lean ====
/-
# The exchange's schedule, what each device owes, and the levels that rule out a circular wait
-/
module

public import proofs.«01_k».proof.Proof.KernelIdealRun.Common

@[expose] public section

noncomputable section

namespace Cert.KernelIdealRun

open Cert.KernelIdeal Cert.KernelIdeal.Gen Cert.Piece

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What the messages are: of device `c`, in round `r`, for group `g`, the half-precision output state and the
    maxima and sums. -/
structure Msgs (F : FTy → Type) where
  bo : Dev nD → ℕ → ℕ → Vec F S1x4x512x128 .bf16
  ml : Dev nD → ℕ → ℕ → Vec F S1x2x4x512 .f32

/-- A message as its landing slot shows it: the same values under one more axis of size one. -/
abbrev upO (X : Vec F S1x4x512x128 .bf16) : Vec F S1x1x4x512x128 .bf16 :=
  shapeCast S1x1x4x512x128 (shapeCast S4x512x128 X (by decide)) (by decide)
abbrev upM (X : Vec F S1x2x4x512 .f32) : Vec F S1x1x2x4x512 .f32 :=
  shapeCast S1x1x2x4x512 (shapeCast S2x4x512 X (by decide)) (by decide)

/-- A landing slot held with no word of its contents. -/
abbrev freeO (r g : ℕ) (hr : r < 3) (hg : g < 2) (c : Dev nD) : sProp (MT nD τ sig Unit (Elt F) ℕ UU ℕ) :=
  ownsSome (c : Thread nD τ) (coG r g hr hg) fullShare
abbrev freeM (r g : ℕ) (hr : r < 3) (hg : g < 2) (c : Dev nD) : sProp (MT nD τ sig Unit (Elt F) ℕ UU ℕ) :=
  ownsSome (c : Thread nD τ) (cmG r g hr hg) fullShare

/-- What the signal of its partner in round `r` hands device `c`: that partner's four landing slots of the round. -/
def barPay (c : Dev nD) (r : Fin 3) : sProp (MT nD τ sig Unit (Elt F) ℕ UU ℕ) :=
  iprop(freeO r.val 0 r.isLt (by decide) (pr r.val c) ∗ freeM r.val 0 r.isLt (by decide) (pr r.val c)
    ∗ freeO r.val 1 r.isLt (by decide) (pr r.val c) ∗ freeM r.val 1 r.isLt (by decide) (pr r.val c))

/-- What a transfer's completion hands device `c`: its source back, or its landing slot with the partner's message. -/
def dmaPay (X : Msgs F) (c : Dev nD) (k r g : ℕ) (hr : r < 3) (hg : g < 2) : sProp (MT nD τ sig Unit (Elt F) ℕ UU ℕ) :=
  match k with
  | 0 => owns (c : Thread nD τ) (sbG g hg) fullShare (X.bo c r g)
  | 1 => owns (c : Thread nD τ) (coG r g hr hg) fullShare (upO (X.bo (pr r c) r g))
  | 2 => owns (c : Thread nD τ) (mlG g hg) fullShare (X.ml c r g)
  | _ => owns (c : Thread nD τ) (cmG r g hr hg) fullShare (upM (X.ml (pr r c) r g))

/-- What a transfer hands over may be kept in an invariant; -/
instance dmaPay_storable (X : Msgs F) (c : Dev nD) (k r g : ℕ) (hr : r < 3) (hg : g < 2) :
    BI.Storable (upEmb : UEmb _ 𝕄) (dmaPay X c k r g hr hg) := by
  unfold dmaPay
  split <;> infer_instance

/-- What a transfer of kind `k` is worth. -/
def amt (k : ℕ) : ℕ := if k < 2 then NO else NM
/-- every kind counts at least one unit; -/
theorem amt_pos (k : ℕ) : 0 < amt k := by unfold amt; split; exacts [NO_pos, NM_pos]

set_option backward.proofsInPublic true in
/-- One round: the barrier's three duties of one unit, one duty of each transfer semaphore. -/
def Rd (X : Msgs F) : Rounds.Schedule (GSem nD τ sig) (Fin 3) 𝕄 where
  duties g r := if r = 0 ∧ g.1.2 = .tc then
      match g.2 with
      | .reg s => if s = barS then Finset.univ else ∅
      | .dma q => if 6 ≤ q.val then {0} else ∅
    else ∅
  unitless _ := False
  amount g _ _ := match g.2 with
    | .reg _ => 1
    | .dma q => amt ((q.val - 6) / 6)
  payload g _ d := match g.2 with
    | .reg _ => barPay g.1.1 d
    | .dma q => dmaPay X g.1.1 ((q.val - 6) / 6) ((q.val - 6) % 6 / 2) ((q.val - 6) % 6 % 2) (by omega) (by omega)
  amount_pos g _ _ _ := by
    cases g.2
    · exact Nat.one_pos
    · exact amt_pos _

/-- and so may what any payment hands over. -/
instance Rd_payload_storable (X : Msgs F) (g : GSem nD τ sig) (r : ℕ) (d : Fin 3) :
    BI.Storable (upEmb : UEmb _ 𝕄) ((Rd X).payload g r d) := by
  obtain ⟨t, sm⟩ := g
  cases sm
  · show BI.Storable _ (barPay _ _)
    unfold barPay
    infer_instance
  · show BI.Storable _ (dmaPay _ _ _ _ _ _ _)
    infer_instance

section Sched
variable (X : Msgs F) (c : Dev nD)

/-- The barrier takes three payments, -/
theorem duties_bar : (Rd X).duties (barCell c) 0 = Finset.univ := rfl
/-- a transfer's counter one, -/
theorem duties_q {n : ℕ} (h : 6 ≤ n) (h' : n < 30) : (Rd X).duties (qcell n c) 0 = {0} := by
  dsimp only [Rd]
  rw [if_pos ⟨rfl, rfl⟩, if_pos (by rw [qs_val h']; exact h)]
/-- and none later. -/
theorem duties_later (g : GSem nD τ sig) : ∀ r, 1 ≤ r → (Rd X).duties g r = ∅ :=
  fun r hr => by dsimp only [Rd]; exact if_neg fun h => by omega

/-- A payment to the barrier is one unit, -/
theorem amount_bar (d : Fin 3) : (Rd X).amount (barCell c) 0 d = 1 := rfl
/-- and to a transfer's counter what the transfer counts. -/
theorem amount_q {n k : ℕ} (h' : n < 30) (hk : (n - 6) / 6 = k) (d : Fin 3) : (Rd X).amount (qcell n c) 0 d = amt k := by
  dsimp only [Rd]
  rw [qs_val h', hk]

/-- The barrier is complete at three, -/
theorem expect_bar : (Rd X).expect (barCell c) 0 = 3 := by
  unfold Schedule.expect Schedule.amountOf
  rw [duties_bar, Finset.sum_congr rfl fun d _ => amount_bar X c d, Finset.sum_const, Finset.card_univ, Fintype.card_fin, smul_eq_mul]
/-- a transfer's counter at what the transfer counts. -/
theorem expect_q {n k : ℕ} (h : 6 ≤ n) (h' : n < 30) (hk : (n - 6) / 6 = k) : (Rd X).expect (qcell n c) 0 = amt k := by
  unfold Schedule.expect Schedule.amountOf
  rw [duties_q X c h h', Finset.sum_singleton, amount_q X c h' hk]

/-- What a payment to the barrier hands over, -/
theorem payload_bar (d : Fin 3) : (Rd X).payload (barCell c) 0 d = barPay c d := rfl

/-- what a transfer hands over, named in either way, -/
theorem dmaPay_congr {k r g k' r' g' : ℕ} (ek : k = k') (er : r = r') (eg : g = g') (hr : r < 3) (hg : g < 2) (hr' : r' < 3) (hg' : g' < 2) :
    dmaPay X c k r g hr hg = dmaPay X c k' r' g' hr' hg' := by
  subst ek er eg
  rfl

/-- and what a payment to its counter hands over. -/
theorem payload_q {k r g : ℕ} (hk : k < 4) (hr : r < 3) (hg : g < 2) (d : Fin 3) :
    (Rd X).payload (qcell (six k r g) c) 0 d = dmaPay X c k r g hr hg := by
  dsimp only [Rd]
  have h30 : six k r g < 30 := by unfold six; omega
  exact dmaPay_congr X c (by rw [qs_val h30]; unfold six; omega) (by rw [qs_val h30]; unfold six; omega)
    (by rw [qs_val h30]; unfold six; omega) _ _ _ _

/-- The rest of the barrier's round, no duty taken. -/
theorem rest_bar : bigSep ((Rd X).duties (barCell c) 0 \ ∅) (fun d => (Rd X).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton]
  rfl
/-- All that is handed over at a transfer's counter is what the transfer hands over. -/
theorem rest_q {k r g : ℕ} (hk : k < 4) (hr : r < 3) (hg : g < 2) :
    bigSep ((Rd X).duties (qcell (six k r g) c) 0 \ ∅) (fun d => (Rd X).payload (qcell (six k r g) c) 0 d) = dmaPay X c k r g hr hg := by
  rw [Finset.sdiff_empty, duties_q X c (by unfold six; omega) (by unfold six; omega), bigSep_singleton, payload_q X c hk hr hg]

end Sched

/-! ## What each core owes; the levels -/

/-- The credit of the partner's receive cells that the `s`-th start pays, round `s / 2`, group `s % 2`, -/
abbrev tO (s : ℕ) (c : Dev nD) : CellTallies nD τ sig Unit := tallyAt (qcell (six 1 (s / 2) (s % 2)) (pr (s / 2) c)) () (amt 1)
abbrev tM (s : ℕ) (c : Dev nD) : CellTallies nD τ sig Unit := tallyAt (qcell (six 3 (s / 2) (s % 2)) (pr (s / 2) c)) () (amt 3)

/-- and what the last `n` starts pay, the first of them peeled first. -/
def rem : ℕ → Dev nD → CellTallies nD τ sig Unit
  | 0, _ => 0
  | n + 1, c => (rem n c + tM (5 - n) c) + tO (5 - n) c

/-- A unit of the partner's barrier cell. -/
abbrev tB (r : ℕ) (c : Dev nD) : CellTallies nD τ sig Unit := tallyAt (barCell (pr r c)) () 1

/-- What a device owes at the start. -/
def O₀ (c : Dev nD) : CellTallies nD τ sig Unit := rem 6 c + tB 2 c + tB 1 c + tB 0 c

/-- The levels' names at a counter: one at the devices' own, -/
def L (g : GSem nD τ sig) : Finset Unit := if g.1.2 = .tc then {()} else ∅

/-- Staging and send cells at 0, the barrier's at 1, the receive cells above in the order of their starts. -/
def lev (sm : SemLoc sig) : ℕ := match sm with
  | .reg _ => 1
  | .dma q => if 6 ≤ q.val ∧ (q.val - 6) / 6 % 2 = 1 then 2 + (q.val - 6) % 6 else 0
/-- and its level. -/
def lv (g : GSem nD τ sig) (_ : Unit) : ℕ := lev g.2

/-- Elsewhere there is none, -/
theorem L_of_ne (g : GSem nD τ sig) (h : g.1.2 ≠ .tc) : L g = ∅ := if_neg h
/-- here one. -/
theorem L_tc (c : Dev nD) (sm : SemLoc sig) : L ((c : Thread nD τ), sm) = {()} := if_pos rfl

/-- A transfer's level. -/
theorem lv_q {n : ℕ} (h' : n < 30) (c : Dev nD) (u : Unit) :
    lv (qcell n c) u = if 6 ≤ n ∧ (n - 6) / 6 % 2 = 1 then 2 + (n - 6) % 6 else 0 := by
  unfold lv
  dsimp only [lev]
  rw [qs_val h']

/-- A tally at one counter is positive there only. -/
theorem tally_pos {g₀ g : GSem nD τ sig} {k : ℕ} {u : Unit} (h : 0 < tallyAt g₀ () k g u) : g = g₀ := by
  rw [tallyAt_apply] at h
  by_contra hn
  rw [if_neg (fun h' => hn h'.1)] at h
  exact Nat.lt_irrefl 0 h

/-- What is owed after the first starts is owed at receive cells of later ones, so above any earlier level. -/
theorem rem_pos {c : Dev nD} {g : GSem nD τ sig} {u : Unit} : ∀ {n : ℕ}, n ≤ 6 → 0 < rem n c g u → g.1.2 = .tc ∧ 8 - n ≤ lv g u
  | 0, _, h => absurd h (Nat.lt_irrefl 0)
  | n + 1, hn, h => by
    unfold rem at h
    rw [Pi.add_apply, Finsupp.add_apply, Pi.add_apply, Finsupp.add_apply] at h
    rcases Nat.eq_zero_or_pos (rem n c g u) with h0 | h0
    · rcases Nat.eq_zero_or_pos (tM (5 - n) c g u) with h1 | h1
      · rw [h0, h1] at h
        rw [tally_pos (by omega : 0 < tO (5 - n) c g u)]
        refine ⟨rfl, ?_⟩
        rw [lv_q (by unfold six; omega), if_pos (by unfold six; omega)]
        unfold six; omega
      · rw [tally_pos h1]
        refine ⟨rfl, ?_⟩
        rw [lv_q (by unfold six; omega), if_pos (by unfold six; omega)]
        unfold six; omega
    · have := rem_pos (n := n) (by omega) h0
      exact ⟨this.1, by omega⟩

/-- Whatever is owed at the start is owed to a device's counter, above the lowest level. -/
theorem O₀_pos {c : Dev nD} {g : GSem nD τ sig} {u : Unit} (h : 0 < O₀ c g u) : g.1.2 = .tc ∧ 1 ≤ lv g u := by
  unfold O₀ at h
  rw [Pi.add_apply, Finsupp.add_apply, Pi.add_apply, Finsupp.add_apply, Pi.add_apply, Finsupp.add_apply] at h
  rcases Nat.eq_zero_or_pos (rem 6 c g u) with h0 | h0
  · rcases Nat.eq_zero_or_pos (tB 2 c g u) with h2 | h2
    · rcases Nat.eq_zero_or_pos (tB 1 c g u) with h1 | h1
      · rw [tally_pos (by omega : 0 < tB 0 c g u)]; exact ⟨rfl, le_rfl⟩
      · rw [tally_pos h1]; exact ⟨rfl, le_rfl⟩
    · rw [tally_pos h2]; exact ⟨rfl, le_rfl⟩
  · have := rem_pos (n := 6) le_rfl h0
    exact ⟨this.1, by omega⟩

/-- The name is a device's counter's. -/
theorem L_mem {g : GSem nD τ sig} {u : Unit} (h : g.1.2 = .tc) : u ∈ L g := by unfold L; rw [if_pos h]; exact Finset.mem_singleton_self _

/-- A wait on a cell below everything owed is allowed. -/
theorem mayWait_below (c : Dev nD) (sm : SemLoc sig) (O : CellTallies nD τ sig Unit) (n : ℕ) (hsm : lev sm ≤ n)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => L_mem (hO g u hg).1)
    (fun p hp => by rw [Finset.mem_singleton.mp hp]; exact hsm)
    (fun g u hg => (hO g u hg).2)

/-- A window's transfer may be waited for, at the start and at the end. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · exact mayWait_below c _ _ 0 (by dsimp only [lev]; rw [if_neg (by omega)]) fun g u h => O₀_pos h
  · rw [MayWait_zero]; iintro -; iempintro

/-- At the barrier's wait every start is still owed; -/
theorem mayWait_bar (c : Dev nD) : (levAts L lv : sProp 𝕄) ⊢ MayWait (c : Thread nD τ) (.reg barS) () (rem 6 c) :=
  mayWait_below c _ _ 1 le_rfl fun g u h => ⟨(rem_pos le_rfl h).1, (rem_pos le_rfl h).2⟩

/-- at a transfer's wait of the `s`-th exchange only later ones are. -/
theorem mayWait_q (c : Dev nD) {k r g n : ℕ} (hk : k < 4) (hr : r < 3) (hg : g < 2) (hn : n + (2 * r + g) < 6) :
    (levAts L lv : sProp 𝕄) ⊢ MayWait (c : Thread nD τ) (.dma (qs (six k r g))) () (rem n c) :=
  mayWait_below c _ _ (2 + (2 * r + g)) (by
      dsimp only [lev]
      rw [qs_val (by unfold six; omega)]
      split
      · unfold six; omega
      · omega)
    fun g u h => by have := rem_pos (by omega) h; exact ⟨this.1, by omega⟩

end Cert.KernelIdealRun
-- ==== Proof.KernelIdealRun.Rules.lean ====
/-
# The rules at the exchange's cells: a signal, a wait, a transfer

The cells' invariants and that each has reached its round are kept as one persistent fact, `ctx`.
-/
module

public import proofs.«01_k».proof.Proof.KernelIdealRun.Sched
public import Idealize.ShloMosaic.Lib.Pipeline.Value

@[expose] public section

noncomputable section

namespace Cert.KernelIdealRun

open Cert.KernelIdeal Cert.KernelIdeal.Gen Cert.Piece

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The bodies the kernel may call: none. -/
abbrev defs' : Defs nD τ sig (Elt F) Λ₀ := defs₀ (F := F)

/-- The weakest precondition on device `c`'s core. -/
abbrev WP (c : Dev nD) {α : Type} (p : Prog (TpuEff nD τ sig (Elt F) Λ₀ .tc) α) (Q : α → sProp (MT nD τ sig Unit (Elt F) ℕ UU ℕ)) :
    sProp (MT nD τ sig Unit (Elt F) ℕ UU ℕ) :=
  wp frame (wpE (defs₀ (F := F)) 𝒱₀ (c : Thread nD τ) none) Set.univ p Q

/-- A cell's invariant, under some name. -/
def Inv (X : Msgs F) (g : GSem nD τ sig) : sProp (MT nD τ sig Unit (Elt F) ℕ UU ℕ) := iprop(∃ κ, cellInv ER (Rd X) κ g)

/-- A counter's invariant may be used again and again, -/
instance Inv_persistent (X : Msgs F) (g : GSem nD τ sig) : BI.Persistent (Inv X g) := by unfold Inv; infer_instance

/-- Every cell's invariant and that it has reached its round, and the level facts. -/
def ctx (X : Msgs F) : sProp (MT nD τ sig Unit (Elt F) ℕ UU ℕ) :=
  iprop(bigSep Finset.univ (fun ck : Dev nD × Fin 25 => iprop(Inv X (kcell ck) ∗ reached ER (kcell ck) 0)) ∗ levAts L lv)

/-- and so may what all devices know. -/
instance ctx_persistent (X : Msgs F) : BI.Persistent (ctx X) := by unfold ctx; infer_instance

/-- What is owed, whatever waits are recorded. -/
def ow (c : Dev nD) (O : CellTallies nD τ sig Unit) : sProp (MT nD τ sig Unit (Elt F) ℕ UU ℕ) := iprop(∃ W, owes (c : Thread nD τ) O W)

section
variable (X : Msgs F)

/-- What all devices know, of one counter, -/
theorem ctx_at (ck : Dev nD × Fin 25) : (ctx X : sProp 𝕄) ⊢ iprop(Inv X (kcell ck) ∗ reached ER (kcell ck) 0 ∗ levAts L lv) := by
  unfold ctx
  rw [bigSep_univ_at _ ck]
  iintro ⟨⟨⟨H, Hr⟩, -⟩, Hl⟩
  isplitl [H]; · iexact H
  isplitl [Hr]; · iexact Hr
  iexact Hl

/-- of the barrier -/
theorem ctx_bar (c : Dev nD) : (ctx X : sProp 𝕄) ⊢ iprop(Inv X (barCell c) ∗ reached ER (barCell c) 0 ∗ levAts L lv) := ctx_at X (c, 24)

/-- and of a transfer's. -/
theorem ctx_q (c : Dev nD) {n : ℕ} (h : 6 ≤ n) (h' : n < 30) :
    (ctx X : sProp 𝕄) ⊢ iprop(Inv X (qcell n c) ∗ reached ER (qcell n c) 0 ∗ levAts L lv) := by
  have := ctx_at X (c, ⟨n - 6, by omega⟩)
  unfold kcell at this
  rw [csem_lt h h'] at this
  exact this

/-- A wait for the whole of a cell's one round: the payloads come, and the cell closes with its counter at zero. -/
theorem wp_wt (c : Dev nD) {sm : SemLoc sig} {k' : ℕ} {w : TpuEff nD τ sig (Elt F) Λ₀ .tc PUnit}
    (hw : ∀ K : PUnit → sProp (MT nD τ sig Unit (Elt F) ℕ UU ℕ),
      wpE (defs₀ (F := F)) 𝒱₀ (c : Thread nD τ) none Set.univ w K = waitSpec (c : Thread nD τ) Set.univ sm k' K)
    (hex : (Rd X).expect ((c : Thread nD τ), sm) 0 = k') (O : CellTallies nD τ sig Unit)
    (hmw : (levAts L lv : sProp 𝕄) ⊢ MayWait (c : Thread nD τ) sm () O)
    {α : Type} {k : PUnit → Prog (TpuEff nD τ sig (Elt F) Λ₀ .tc) α} {Q : α → sProp (MT nD τ sig Unit (Elt F) ℕ UU ℕ)} :
    iprop((Inv X ((c : Thread nD τ), sm) ∗ levAts L lv) ∗ cred (tallyAt ((c : Thread nD τ), sm) () k') ∗ ow c O
        ∗ atPos ER ((c : Thread nD τ), sm) 0 ∅ 0)
      ⊢ iprop(((ow c O ∗ semVal ((c : Thread nD τ), sm) 0
            ∗ bigSep ((Rd X).duties ((c : Thread nD τ), sm) 0 \ ∅) (fun d => (Rd X).payload ((c : Thread nD τ), sm) 0 d)) -∗ WP c (k ⟨⟩) Q)
          -∗ WP c (.op w k) Q) := by
  unfold Inv ow
  iintro ⟨⟨⟨%κ, #HI⟩, #Hlev⟩, Hc, ⟨%W, HO⟩, Hat⟩ Hk
  iapply (Rounds.wp_wait_rest_token 𝒱₀ ER (Rd X) (c : Thread nD τ) none (κ := κ) hw (Set.mem_univ _) () (O := O) (W := W) (R := 0) (m := 0) (T := ∅)
      (by rw [Nat.zero_add, hex])) $$ [Hc HO Hat]
  · isplitr; · iexact HI
    isplitl [Hc]; · iexact Hc
    isplitl [HO]; · iexact HO
    isplitr; · iapply hmw; iexact Hlev
    iexact Hat
  iintro ⟨HO, Hat, -, Hpay⟩
  imod (Rounds.cell_close ER (Rd X) (Set.mem_univ κ) (fun h => h) (R := 0 + 1) (duties_later X _)) $$ [Hat] with Hz
  · isplitr; · iexact HI
    iexact Hat
  iapply Hk
  isplitl [HO]; · iexists _; iexact HO
  isplitl [Hz]; · iexact Hz
  iexact Hpay

/-- The barrier's wait: the three partners' landing slots. -/
theorem wp_waitBar (c : Dev nD) {sm : Sem sig} (hsm : sm = barS) {k' : ℕ} (hk' : k' = 3)
    {α : Type} {k : PUnit → Prog (TpuEff nD τ sig (Elt F) Λ₀ .tc) α} {Q : α → sProp (MT nD τ sig Unit (Elt F) ℕ UU ℕ)} :
    iprop(ctx X ∗ cred (tallyAt (barCell c) () 3) ∗ ow c (rem 6 c) ∗ atPos ER (barCell c) 0 ∅ 0)
      ⊢ iprop(((ow c (rem 6 c) ∗ semVal (barCell c) 0 ∗ barPay c 0 ∗ barPay c 1 ∗ barPay c 2) -∗ WP c (k ⟨⟩) Q)
          -∗ WP c (.op (.semWait sm k') k) Q) := by
  subst hsm hk'
  iintro ⟨#Hctx, Hc, HO, Hat⟩ Hk
  ihave H := (ctx_bar X c) $$ Hctx
  icases H with ⟨#HI, -, #Hl⟩
  iapply (wp_wt X c (wpE_semWait_eq 𝒱₀ (c : Thread nD τ) none Set.univ) (expect_bar X c) (rem 6 c) (mayWait_bar c)) $$ [Hc HO Hat]
  · isplitr
    · isplitr; · iexact HI
      iexact Hl
    isplitl [Hc]; · iexact Hc
    isplitl [HO]; · iexact HO
    iexact Hat
  iintro ⟨HO, Hz, Hp⟩
  iapply Hk
  isplitl [HO]; · iexact HO
  isplitl [Hz]; · iexact Hz
  iapply (Entails.of_eq (rest_bar X c)) $$ Hp

/-- A transfer's wait. -/
theorem wp_waitQ (c : Dev nD) (k r g n : ℕ) (hk : k < 4) (hr : r < 3) (hg : g < 2) (hn : n + (2 * r + g) < 6) {q : DmaSem sig}
    (hq : q = qs (six k r g)) {s' s : Shape} {e' e : EltTy} {src : Memref sig .tc .vmem s' e'} {dst : Memref sig .tc .vmem s e}
    {hsrc : src.view.WordExact} {hdst : dst.view.WordExact} (hN : dst.view.dmaCredit = amt k)
    {α : Type} {kt : PUnit → Prog (TpuEff nD τ sig (Elt F) Λ₀ .tc) α} {Q : α → sProp (MT nD τ sig Unit (Elt F) ℕ UU ℕ)} :
    iprop(ctx X ∗ cred (tallyAt (qcell (six k r g) c) () (amt k)) ∗ ow c (rem n c) ∗ atPos ER (qcell (six k r g) c) 0 ∅ 0)
      ⊢ iprop(((ow c (rem n c) ∗ semVal (qcell (six k r g) c) 0 ∗ dmaPay X c k r g hr hg) -∗ WP c (kt ⟨⟩) Q)
          -∗ WP c (.op (.waitDma2 q src dst hsrc hdst) kt) Q) := by
  subst hq
  have hlo : 6 ≤ six k r g := by unfold six; omega
  have hhi : six k r g < 30 := by unfold six; omega
  iintro ⟨#Hctx, Hc, HO, Hat⟩ Hk
  ihave H := (ctx_q X c hlo hhi) $$ Hctx
  icases H with ⟨#HI, -, #Hl⟩
  rw [← hN]
  iapply (wp_wt X c (sm := .dma (qs (six k r g))) (k' := dst.view.dmaCredit) (wpE_waitDma2_eq 𝒱₀ (c : Thread nD τ) none Set.univ)
    (by rw [hN]; exact expect_q X c hlo hhi (by unfold six; omega)) (rem n c) (mayWait_q c hk hr hg hn)) $$ [Hc HO Hat]
  · isplitr
    · isplitr; · iexact HI
      iexact Hl
    isplitl [Hc]; · iexact Hc
    isplitl [HO]; · iexact HO
    iexact Hat
  iintro ⟨HO, Hz, Hp⟩
  iapply Hk
  isplitl [HO]; · iexact HO
  isplitl [Hz]; · iexact Hz
  iapply (Entails.of_eq (rest_q X c hk hr hg)) $$ Hp

/-- A signal to the partner of round `r`: it hands over this device's landing slots of the round. -/
theorem wp_sig (c n : Dev nD) (r : Fin 3) (hn : n = pr r.val c) {sm : Sem sig} (hsm : sm = barS) {k' : ℕ} (hk' : k' = 1)
    (O : CellTallies nD τ sig Unit)
    {α : Type} {k : PUnit → Prog (TpuEff nD τ sig (Elt F) Λ₀ .tc) α} {Q : α → sProp (MT nD τ sig Unit (Elt F) ℕ UU ℕ)} :
    iprop(ctx X ∗ ow c (O + tB r.val c) ∗ dutyTok ER (barCell (pr r.val c)) 0 r
        ∗ freeO r.val 0 r.isLt (by decide) c ∗ freeM r.val 0 r.isLt (by decide) c
        ∗ freeO r.val 1 r.isLt (by decide) c ∗ freeM r.val 1 r.isLt (by decide) c)
      ⊢ iprop((ow c O -∗ WP c (k ⟨⟩) Q) -∗ WP c (.op (.semSignal (Dev.tc n) sm k') k) Q) := by
  subst hn hsm hk'
  iintro ⟨#Hctx, HO, Ht, Hs⟩ Hk
  ihave H := (ctx_bar X (pr r.val c)) $$ Hctx
  icases H with ⟨#HI, #Hr, -⟩
  unfold Inv ow
  icases HI with ⟨%κ, #HI⟩
  icases HO with ⟨%W, HO⟩
  iapply (Rounds.wp_signal 𝒱₀ ER (Rd X) (c : Thread nD τ) none (dst := (pr r.val c : Thread nD τ)) (κ := κ)
      (d := r) (by rw [duties_bar]; exact Finset.mem_univ _) (amount_bar X (pr r.val c) r) () O rfl)
    $$ [HO Ht Hs]
  · isplitr; · iexact HI
    isplitl [HO]; · iexact HO
    isplitl [Ht]; · iexact Ht
    isplitl [Hs]
    · rw [payload_bar]; unfold barPay; rw [pr_pr r.isLt]; iexact Hs
    iexact Hr
  iintro HO
  iapply Hk
  iexists W
  iexact HO

/-- A transfer to the partner: its source comes back with the send's completion, the slot with the receive's. -/
theorem wp_snd (c n p : Dev nD) (hn : n = p) (n₁ n₂ k₁ k₂ : ℕ) (h₁ : 6 ≤ n₁) (h₁' : n₁ < 30) (h₂ : 6 ≤ n₂) (h₂' : n₂ < 30)
    (hk₁ : (n₁ - 6) / 6 = k₁) (hk₂ : (n₂ - 6) / 6 = k₂) {s : Shape} {e : EltTy} {src dst : Memref sig .tc .vmem s e}
    {sS sem : DmaSem sig} (hsS : sS = qs n₁) (hsm : sem = qs n₂) (hN : dst.view.dmaCredit = amt k₂) (hamt : amt k₁ = amt k₂)
    {hsc : (dst : Memref sig (Dev.tc n : Thread nD τ).2.kind .vmem s e).view.ref.isScScratch = false}
    {hsrc : src.view.WordExact} {hdst : dst.view.WordExact}
    {hsem : DmaTarget.Typed .vmem (.dma sem) (.remote (Dev.tc n : Thread nD τ) dst (.dma sS) hsc)}
    (Y : s.Idx → Elt F e) (O : CellTallies nD τ sig Unit)
    (hp₁ : (owns (c : Thread nD τ) src fullShare Y : sProp 𝕄) ⊢ (Rd X).payload (qcell n₁ c) 0 0)
    (hp₂ : (owns (p : Thread nD τ) dst fullShare Y : sProp 𝕄) ⊢ (Rd X).payload (qcell n₂ p) 0 0)
    {α : Type} {k : PUnit → Prog (TpuEff nD τ sig (Elt F) Λ₀ .tc) α} {Q : α → sProp (MT nD τ sig Unit (Elt F) ℕ UU ℕ)} :
    iprop(ctx X ∗ owns (c : Thread nD τ) src fullShare Y ∗ ownsSome (p : Thread nD τ) dst fullShare
        ∗ ow c (O + tallyAt (qcell n₂ p) () (amt k₂)) ∗ dutyTok ER (qcell n₁ c) 0 0 ∗ dutyTok ER (qcell n₂ p) 0 0)
      ⊢ iprop(((cred (tallyAt (qcell n₁ c) () (amt k₁)) ∗ ow c O) -∗ WP c (k ⟨⟩) Q)
          -∗ WP c (.op (.enqueueDma src (.remote (Dev.tc n : Thread nD τ) dst (.dma sS) hsc) (.dma sem) hsrc hdst hsem) k) Q) := by
  subst hn hsS hsm
  iintro ⟨#Hctx, Hsrc, Hdst, HO, Ht₁, Ht₂⟩ Hk
  ihave H := (ctx_q X c h₁ h₁') $$ Hctx
  icases H with ⟨#HI₁, #Hr₁, -⟩
  ihave H := (ctx_q X n h₂ h₂') $$ Hctx
  icases H with ⟨#HI₂, #Hr₂, -⟩
  unfold Inv ow ownsSome
  icases HI₁ with ⟨%κ₁, #HI₁⟩
  icases HI₂ with ⟨%κ₂, #HI₂⟩
  icases HO with ⟨%W, HO⟩
  icases Hdst with ⟨%Z, Hdst⟩
  unfold owns at *
  icases Hsrc with ⟨%fs, %hfs, Hsrc⟩
  icases Hdst with ⟨%fd, %hfd, Hdst⟩
  have e₁ : (src.view.loc (c : Thread nD τ) ↦[src.view.set]{fullShare} fs : sProp 𝕄) ⊢ (Rd X).payload (qcell n₁ c) 0 0 := by
    iintro H
    iapply hp₁
    iexists fs
    isplitr; · ipureintro; exact hfs
    iexact H
  have e₂ : (dst.view.loc (n : Thread nD τ) ↦[dst.view.set]{fullShare} (dst.view.write (Elt F) fd (src.view.read (Elt F) fs) Finset.univ) : sProp 𝕄)
      ⊢ (Rd X).payload (qcell n₂ n) 0 0 := by
    iintro H
    iapply hp₂
    iexists (dst.view.write (Elt F) fd (src.view.read (Elt F) fs) Finset.univ)
    isplitr
    · ipureintro; exact (View.read_write_univ _ _).trans hfs
    iexact H
  rw [hamt]
  iapply (Rounds.wp_send_pointsTo 𝒱₀ ER (Rd X) (c : Thread nD τ) none (κ₁ := κ₁) (κ₂ := κ₂) (c' := (Dev.tc n : Thread nD τ)) (src := src) (dst := dst)
    (sS := .dma (qs n₁)) (sem := .dma (qs n₂)) (hsc := hsc) (hsem := hsem)
    (r₁ := 0) (r₂ := 0) (d₁ := 0) (d₂ := 0) (fs := fs) (fd := fd)
    (by rw [duties_q X c h₁ h₁']; exact Finset.mem_singleton_self _) (by rw [duties_q X n h₂ h₂']; exact Finset.mem_singleton_self _)
    () () (amt k₂) hN ((amount_q X c h₁' hk₁ 0).trans hamt) (amount_q X n h₂' hk₂ 0) O rfl (W := W) e₁ e₂) $$ [Hsrc Hdst HO Ht₁ Ht₂]
  · isplitr; · iexact HI₁
    isplitr; · iexact HI₂
    isplitl [Hsrc]; · iexact Hsrc
    isplitl [Hdst]; · iexact Hdst
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W
  iexact HO

/-- What a transfer counts: receiving the output states, -/
theorem credit_co {r g : ℕ} (hr : r < 3) (hg : g < 2) : (coQ r g hr hg).view.dmaCredit = amt 1 := rfl
/-- sending them, -/
theorem credit_sb {g : ℕ} (hg : g < 2) : (sbQ g hg).view.dmaCredit = amt 0 := rfl
/-- receiving the maxima and sums -/
theorem credit_cm {r g : ℕ} (hr : r < 3) (hg : g < 2) : (cmQ r g hr hg).view.dmaCredit = amt 3 := rfl
/-- and sending them. -/
theorem credit_ml {g : ℕ} (hg : g < 2) : (mlQ g hg).view.dmaCredit = amt 2 := rfl

/-- The transfer of the output state of round `r`, group `g`. -/
theorem wp_sendO (c n : Dev nD) (r g : ℕ) (hr : r < 3) (hg : g < 2) (hn : n = pr r c)
    {hsc : (coQ r g hr hg : Memref sig (Dev.tc n : Thread nD τ).2.kind .vmem S4x512x128 .bf16).view.ref.isScScratch = false}
    {hsrc : (sbQ g hg).view.WordExact} {hdst : (coQ r g hr hg).view.WordExact}
    {hsem : DmaTarget.Typed .vmem (.dma (pick cc0_scratch6 r g hr hg))
      (.remote (Dev.tc n : Thread nD τ) (coQ r g hr hg) (.dma (pick cc0_scratch5 r g hr hg)) hsc)}
    (O : CellTallies nD τ sig Unit)
    {α : Type} {k : PUnit → Prog (TpuEff nD τ sig (Elt F) Λ₀ .tc) α} {Q : α → sProp (MT nD τ sig Unit (Elt F) ℕ UU ℕ)} :
    iprop(ctx X ∗ owns (c : Thread nD τ) (sbG g hg) fullShare (X.bo c r g) ∗ freeO r g hr hg (pr r c)
        ∗ ow c (O + tallyAt (qcell (six 1 r g) (pr r c)) () (amt 1)) ∗ dutyTok ER (qcell (six 0 r g) c) 0 0 ∗ dutyTok ER (qcell (six 1 r g) (pr r c)) 0 0)
      ⊢ iprop(((cred (tallyAt (qcell (six 0 r g) c) () (amt 0)) ∗ ow c O) -∗ WP c (k ⟨⟩) Q)
          -∗ WP c (.op (.enqueueDma (sbQ g hg) (.remote (Dev.tc n : Thread nD τ) (coQ r g hr hg) (.dma (pick cc0_scratch5 r g hr hg)) hsc)
              (.dma (pick cc0_scratch6 r g hr hg)) hsrc hdst hsem) k) Q) := by
  have e₁ := owns_squeeze (Ix := Unit) (Name := ℕ) (U := UU) (Lvl := ℕ) (c : Thread nD τ) (sbG g hg) fullShare
    squeezes_S1x4x512x128_S4x512x128 (by decide) (X.bo c r g)
  have e₂ := owns_squeeze (Ix := Unit) (Name := ℕ) (U := UU) (Lvl := ℕ) (pr r c : Thread nD τ) (coG r g hr hg) fullShare
    squeezes_S1x1x4x512x128_S4x512x128 (by decide) (upO (X.bo c r g))
  have e₃ : (freeO r g hr hg (pr r c) : sProp 𝕄) ⊢ ownsSome (pr r c : Thread nD τ) (coQ r g hr hg) fullShare := by
    unfold freeO ownsSome
    iintro ⟨%Z, H⟩
    iexists (shapeCast S4x512x128 Z (by decide))
    have e := owns_squeeze (Ix := Unit) (Name := ℕ) (U := UU) (Lvl := ℕ) (pr r c : Thread nD τ) (coG r g hr hg) fullShare
      squeezes_S1x1x4x512x128_S4x512x128 (by decide) Z
    iapply (Entails.of_eq e.symm)
    iexact H
  rw [shapeCast_shapeCast] at e₂
  rw [← e₁]
  iintro ⟨#Hctx, Hs, Hd, HO, Ht₁, Ht₂⟩
  ihave Hd := e₃ $$ Hd
  iapply (wp_snd X c n (pr r c) hn (six 0 r g) (six 1 r g) 0 1 (by unfold six; omega) (by unfold six; omega) (by unfold six; omega)
    (by unfold six; omega) (by unfold six; omega) (by unfold six; omega) (pick5 hr hg) (pick6 hr hg) (credit_co hr hg) rfl
    (src := sbQ g hg) (dst := coQ r g hr hg)
    (shapeCast S4x512x128 (X.bo c r g) (by decide)) O
    (by rw [payload_q X c (by decide) hr hg, e₁]; exact BI.Entails.refl _)
    (by rw [payload_q X (pr r c) (by decide) hr hg, e₂]; exact Entails.of_eq (by unfold dmaPay; rw [pr_pr hr]; rfl)))
  isplitr; · iexact Hctx
  isplitl [Hs]; · iexact Hs
  isplitl [Hd]; · iexact Hd
  isplitl [HO]; · iexact HO
  isplitl [Ht₁]; · iexact Ht₁
  iexact Ht₂

/-- The transfer of the maxima and sums of round `r`, group `g`. -/
theorem wp_sendM (c n : Dev nD) (r g : ℕ) (hr : r < 3) (hg : g < 2) (hn : n = pr r c)
    {hsc : (cmQ r g hr hg : Memref sig (Dev.tc n : Thread nD τ).2.kind .vmem S2x4x512 .f32).view.ref.isScScratch = false}
    {hsrc : (mlQ g hg).view.WordExact} {hdst : (cmQ r g hr hg).view.WordExact}
    {hsem : DmaTarget.Typed .vmem (.dma (pick cc0_scratch8 r g hr hg))
      (.remote (Dev.tc n : Thread nD τ) (cmQ r g hr hg) (.dma (pick cc0_scratch7 r g hr hg)) hsc)}
    (O : CellTallies nD τ sig Unit)
    {α : Type} {k : PUnit → Prog (TpuEff nD τ sig (Elt F) Λ₀ .tc) α} {Q : α → sProp (MT nD τ sig Unit (Elt F) ℕ UU ℕ)} :
    iprop(ctx X ∗ owns (c : Thread nD τ) (mlG g hg) fullShare (X.ml c r g) ∗ freeM r g hr hg (pr r c)
        ∗ ow c (O + tallyAt (qcell (six 3 r g) (pr r c)) () (amt 3)) ∗ dutyTok ER (qcell (six 2 r g) c) 0 0 ∗ dutyTok ER (qcell (six 3 r g) (pr r c)) 0 0)
      ⊢ iprop(((cred (tallyAt (qcell (six 2 r g) c) () (amt 2)) ∗ ow c O) -∗ WP c (k ⟨⟩) Q)
          -∗ WP c (.op (.enqueueDma (mlQ g hg) (.remote (Dev.tc n : Thread nD τ) (cmQ r g hr hg) (.dma (pick cc0_scratch7 r g hr hg)) hsc)
              (.dma (pick cc0_scratch8 r g hr hg)) hsrc hdst hsem) k) Q) := by
  have e₁ := owns_squeeze (Ix := Unit) (Name := ℕ) (U := UU) (Lvl := ℕ) (c : Thread nD τ) (mlG g hg) fullShare
    squeezes_S1x2x4x512_S2x4x512 (by decide) (X.ml c r g)
  have e₂ := owns_squeeze (Ix := Unit) (Name := ℕ) (U := UU) (Lvl := ℕ) (pr r c : Thread nD τ) (cmG r g hr hg) fullShare
    squeezes_S1x1x2x4x512_S2x4x512 (by decide) (upM (X.ml c r g))
  have e₃ : (freeM r g hr hg (pr r c) : sProp 𝕄) ⊢ ownsSome (pr r c : Thread nD τ) (cmQ r g hr hg) fullShare := by
    unfold freeM ownsSome
    iintro ⟨%Z, H⟩
    iexists (shapeCast S2x4x512 Z (by decide))
    have e := owns_squeeze (Ix := Unit) (Name := ℕ) (U := UU) (Lvl := ℕ) (pr r c : Thread nD τ) (cmG r g hr hg) fullShare
      squeezes_S1x1x2x4x512_S2x4x512 (by decide) Z
    iapply (Entails.of_eq e.symm)
    iexact H
  rw [shapeCast_shapeCast] at e₂
  rw [← e₁]
  iintro ⟨#Hctx, Hs, Hd, HO, Ht₁, Ht₂⟩
  ihave Hd := e₃ $$ Hd
  iapply (wp_snd X c n (pr r c) hn (six 2 r g) (six 3 r g) 2 3 (by unfold six; omega) (by unfold six; omega) (by unfold six; omega)
    (by unfold six; omega) (by unfold six; omega) (by unfold six; omega) (pick7 hr hg) (pick8 hr hg) (credit_cm hr hg) rfl
    (src := mlQ g hg) (dst := cmQ r g hr hg)
    (shapeCast S2x4x512 (X.ml c r g) (by decide)) O
    (by rw [payload_q X c (by decide) hr hg, e₁]; exact BI.Entails.refl _)
    (by rw [payload_q X (pr r c) (by decide) hr hg, e₂]; exact Entails.of_eq (by unfold dmaPay; rw [pr_pr hr]; rfl)))
  isplitr; · iexact Hctx
  isplitl [Hs]; · iexact Hs
  isplitl [Hd]; · iexact Hd
  isplitl [HO]; · iexact HO
  isplitl [Ht₁]; · iexact Ht₁
  iexact Ht₂

end

end Cert.KernelIdealRun
-- ==== Proof.KernelIdealRun.Slots.lean ====
/-
# Loads and stores at the slots

A group's slab is held whole. Each rule below is one load or one store of the kernel: what it reads of the slab's
contents, what it makes of them.
-/
module

public import proofs.«01_k».proof.Proof.KernelIdealRun.Rules

@[expose] public section

noncomputable section

namespace Cert.KernelIdealRun

open Cert.KernelIdeal Cert.KernelIdeal.Gen Cert.Piece

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Boxes of a slab -/

/-- One head's output state lies inside a group's, -/
theorem box_o {h : ℕ} (hh : h < 4) : ∀ a, (![0, h, 0, 0] : Fin 4 → ℕ) a + S1x1x512x128.size a ≤ S1x4x512x128.size a := by
  interval_cases h <;> decide
/-- one head's maxima or sums inside a group's, -/
theorem box_h {k h : ℕ} (hk : k < 2) (hh : h < 4) : ∀ a, (![0, k, h, 0] : Fin 4 → ℕ) a + S1x1x1x512.size a ≤ S1x2x4x512.size a := by
  interval_cases k <;> interval_cases h <;> decide
/-- all heads' maxima or sums inside a group's -/
theorem box_k {k : ℕ} (hk : k < 2) : ∀ a, (![0, k, 0, 0] : Fin 4 → ℕ) a + S1x1x4x512.size a ≤ S1x2x4x512.size a := by
  interval_cases k <;> decide
/-- and inside a received group's. -/
theorem box_c {k : ℕ} (hk : k < 2) : ∀ a, (![0, 0, k, 0, 0] : Fin 5 → ℕ) a + S1x1x1x4x512.size a ≤ S1x1x2x4x512.size a := by
  interval_cases k <;> decide

/-- Head `h` of a group's output state; the state with that head replaced. -/
def getO (X : Vec F S1x4x512x128 .f32) (h : ℕ) (hh : h < 4) : Vec F S1x1x512x128 .f32 :=
  sub (n := 4) (Size := S1x4x512x128.size) X ![0, h, 0, 0] S1x1x512x128.size (box_o hh)
/-- One head's output state replaced, -/
def setO (X : Vec F S1x4x512x128 .f32) (h : ℕ) (hh : h < 4) (w : Vec F S1x1x512x128 .f32) : Vec F S1x4x512x128 .f32 :=
  put (n := 4) (Size := S1x4x512x128.size) X ![0, h, 0, 0] S1x1x512x128.size (box_o hh) w

/-- The maxima (`k = 0`) or sums (`k = 1`) of head `h` of a group, -/
def getH (Y : Vec F S1x2x4x512 .f32) (k h : ℕ) (hk : k < 2) (hh : h < 4) : Vec F S1x1x1x512 .f32 :=
  sub (n := 4) (Size := S1x2x4x512.size) Y ![0, k, h, 0] S1x1x1x512.size (box_h hk hh)
/-- one head's maxima or sums replaced, -/
def setH (Y : Vec F S1x2x4x512 .f32) (k h : ℕ) (hk : k < 2) (hh : h < 4) (w : Vec F S1x1x1x512 .f32) : Vec F S1x2x4x512 .f32 :=
  put (n := 4) (Size := S1x2x4x512.size) Y ![0, k, h, 0] S1x1x1x512.size (box_h hk hh) w

/-- of all its heads, -/
def getK (Y : Vec F S1x2x4x512 .f32) (k : ℕ) (hk : k < 2) : Vec F S1x1x4x512 .f32 :=
  sub (n := 4) (Size := S1x2x4x512.size) Y ![0, k, 0, 0] S1x1x4x512.size (box_k hk)
/-- all heads' maxima or sums replaced. -/
def setK (Y : Vec F S1x2x4x512 .f32) (k : ℕ) (hk : k < 2) (w : Vec F S1x1x4x512 .f32) : Vec F S1x2x4x512 .f32 :=
  put (n := 4) (Size := S1x2x4x512.size) Y ![0, k, 0, 0] S1x1x4x512.size (box_k hk) w

/-- and those a landing slot shows. -/
def getC (Z : Vec F S1x1x2x4x512 .f32) (k : ℕ) (hk : k < 2) : Vec F S1x1x1x4x512 .f32 :=
  sub (n := 5) (Size := S1x1x2x4x512.size) Z ![0, 0, k, 0, 0] S1x1x1x4x512.size (box_c hk)

/-! ## The rules -/

section
variable (c : Dev nD) {α : Type} {Q : α → sProp (MT nD τ sig Unit (Elt F) ℕ UU ℕ)}

/-- Adding an offset of zeros changes nothing. -/
theorem add0 {n : ℕ} (f : Fin n → ℕ) (g : Fin n → ℕ) (h : ∀ a, g a = 0) : ∀ a, f a = f a + g a := fun a => by rw [h, Nat.add_zero]
theorem z4 : ∀ a, (![0, 0, 0, 0] : Fin 4 → ℕ) a = 0 := by decide
theorem z5 : ∀ a, (![0, 0, 0, 0, 0] : Fin 5 → ℕ) a = 0 := by decide
theorem z3 : ∀ a, (![0, 0, 0] : Fin 3 → ℕ) a = 0 := by decide
/-- An offset into the whole buffer is the group's and one inside it: of one head's output state, -/
theorem off_o (g h : ℕ) : ∀ a, (![g, h, 0, 0] : Fin 4 → ℕ) a = (![g, 0, 0, 0] : Fin 4 → ℕ) a + (![0, h, 0, 0] : Fin 4 → ℕ) a := by
  intro a; fin_cases a <;> simp
/-- of one head's maxima or sums -/
theorem off_h (g k h : ℕ) : ∀ a, (![g, k, h, 0] : Fin 4 → ℕ) a = (![g, 0, 0, 0] : Fin 4 → ℕ) a + (![0, k, h, 0] : Fin 4 → ℕ) a := by
  intro a; fin_cases a <;> simp
/-- and of the received ones. -/
theorem off_c (r g k : ℕ) : ∀ a, (![r, g, k, 0, 0] : Fin 5 → ℕ) a = (![r, g, 0, 0, 0] : Fin 5 → ℕ) a + (![0, 0, k, 0, 0] : Fin 5 → ℕ) a := by
  intro a; fin_cases a <;> simp

/-- Head `h` of the output state is read. -/
theorem ldO (g h : ℕ) (hg : g < 2) (hh : h < 4) {inb} {hl} {X : Vec F S1x4x512x128 .f32}
    {k : Vec F S1x1x512x128 .f32 → Prog (TpuEff nD τ sig (Elt F) Λ₀ .tc) α} :
    (owns (c : Thread nD τ) (oG g hg) fullShare X : sProp 𝕄)
      ⊢ iprop((owns (c : Thread nD τ) (oG g hg) fullShare X -∗ WP c (k (getO X h hh)) Q)
        -∗ WP c (.op (.load (Memref.whole cc0_scratch0) (Rect.unit (s := S2x4x512x128) ![g, h, 0, 0] S1x1x512x128.size inb).toLoadRect hl) k) Q) :=
  wp_ld 𝒱₀ (c : Thread nD τ) none Set.univ (m := (Memref.whole cc0_scratch0 : Memref sig .tc .vmem S2x4x512x128 .f32))
    (Off := ![g, 0, 0, 0]) (Size := S1x4x512x128.size) ![0, h, 0, 0] (box_o hh) (off_o g h)

/-- It is read, to no use, and written. -/
theorem updO (g h : ℕ) (hg : g < 2) (hh : h < 4) {inb inb'} {hl} {hx} {hm} {X : Vec F S1x4x512x128 .f32} {w : Vec F S1x1x512x128 .f32}
    {k : PUnit → Prog (TpuEff nD τ sig (Elt F) Λ₀ .tc) α} :
    (owns (c : Thread nD τ) (oG g hg) fullShare X : sProp 𝕄)
      ⊢ iprop((owns (c : Thread nD τ) (oG g hg) fullShare (setO X h hh w) -∗ WP c (k ⟨⟩) Q)
        -∗ WP c (.op (.load (Memref.whole cc0_scratch0) (Rect.unit (s := S2x4x512x128) ![g, h, 0, 0] S1x1x512x128.size inb).toLoadRect hl)
            fun _ => .op (.store (Memref.whole cc0_scratch0) (Rect.unit (s := S2x4x512x128) ![g, h, 0, 0] S1x1x512x128.size inb') w Finset.univ hx hm) k) Q) := by
  iintro H Hk
  iapply (ldO c g h hg hh) $$ H
  iintro H
  iapply (wp_st 𝒱₀ (c : Thread nD τ) none Set.univ (m := (Memref.whole cc0_scratch0 : Memref sig .tc .vmem S2x4x512x128 .f32))
    (Off := ![g, 0, 0, 0]) (Size := S1x4x512x128.size) ![0, h, 0, 0] (box_o hh) (off_o g h)) $$ H
  iintro H
  iapply Hk
  iexact H

/-- The output state is read whole; -/
theorem ldO4 (g : ℕ) (hg : g < 2) {inb} {hl} {X : Vec F S1x4x512x128 .f32}
    {k : Vec F S1x4x512x128 .f32 → Prog (TpuEff nD τ sig (Elt F) Λ₀ .tc) α} :
    (owns (c : Thread nD τ) (oG g hg) fullShare X : sProp 𝕄)
      ⊢ iprop((owns (c : Thread nD τ) (oG g hg) fullShare X -∗ WP c (k X) Q)
        -∗ WP c (.op (.load (Memref.whole cc0_scratch0) (Rect.unit (s := S2x4x512x128) ![g, 0, 0, 0] S1x4x512x128.size inb).toLoadRect hl) k) Q) := by
  have h := wp_ld (defs := defs₀ (F := F)) (Q := Q) (Γ := .empty) 𝒱₀ (c : Thread nD τ) none Set.univ (m := (Memref.whole cc0_scratch0 : Memref sig .tc .vmem S2x4x512x128 .f32))
    (Off := ![g, 0, 0, 0]) (Size := S1x4x512x128.size) (INB := inb_o hg) (inb := inb) (hR := fun _ => rfl) (hl := hl) (k := k) (q := fullShare)
    ![0, 0, 0, 0] (fun a => by rw [z4 a, Nat.zero_add]) (add0 _ _ z4) (X := X)
  rw [sub_zero X z4] at h
  exact h

/-- it is written whole; -/
theorem stO4 (g : ℕ) (hg : g < 2) {inb} {hx} {hm} {X w : Vec F S1x4x512x128 .f32}
    {k : PUnit → Prog (TpuEff nD τ sig (Elt F) Λ₀ .tc) α} :
    (owns (c : Thread nD τ) (oG g hg) fullShare X : sProp 𝕄)
      ⊢ iprop((owns (c : Thread nD τ) (oG g hg) fullShare w -∗ WP c (k ⟨⟩) Q)
        -∗ WP c (.op (.store (Memref.whole cc0_scratch0) (Rect.unit (s := S2x4x512x128) ![g, 0, 0, 0] S1x4x512x128.size inb) w Finset.univ hx hm) k) Q) := by
  have h := wp_st (defs := defs₀ (F := F)) (Q := Q) (Γ := .empty) 𝒱₀ (c : Thread nD τ) none Set.univ (m := (Memref.whole cc0_scratch0 : Memref sig .tc .vmem S2x4x512x128 .f32))
    (Off := ![g, 0, 0, 0]) (Size := S1x4x512x128.size) (INB := inb_o hg) (inb := inb) (hR := fun _ => rfl) (w := w) (hx := hx) (hm := hm) (k := k)
    ![0, 0, 0, 0] (fun a => by rw [z4 a, Nat.zero_add]) (add0 _ _ z4) (X := X)
  rw [put_zero X z4] at h
  exact h

/-- and so is the copy that is sent. -/
theorem updSb (g : ℕ) (hg : g < 2) {inb inb'} {hl} {hx} {hm} {X w : Vec F S1x4x512x128 .bf16}
    {k : PUnit → Prog (TpuEff nD τ sig (Elt F) Λ₀ .tc) α} :
    (owns (c : Thread nD τ) (sbG g hg) fullShare X : sProp 𝕄)
      ⊢ iprop((owns (c : Thread nD τ) (sbG g hg) fullShare w -∗ WP c (k ⟨⟩) Q)
        -∗ WP c (.op (.load (Memref.whole cc0_scratch2) (Rect.unit (s := S2x4x512x128) ![g, 0, 0, 0] S1x4x512x128.size inb').toLoadRect hl)
            fun _ => .op (.store (Memref.whole cc0_scratch2) (Rect.unit (s := S2x4x512x128) ![g, 0, 0, 0] S1x4x512x128.size inb) w Finset.univ hx hm) k) Q) := by
  have h := wp_st (defs := defs₀ (F := F)) (Q := Q) (Γ := .empty) 𝒱₀ (c : Thread nD τ) none Set.univ (m := (Memref.whole cc0_scratch2 : Memref sig .tc .vmem S2x4x512x128 .bf16))
    (Off := ![g, 0, 0, 0]) (Size := S1x4x512x128.size) (INB := inb_o hg) (inb := inb) (hR := fun _ => rfl) (w := w) (hx := hx) (hm := hm) (k := k)
    ![0, 0, 0, 0] (fun a => by rw [z4 a, Nat.zero_add]) (add0 _ _ z4) (X := X)
  rw [put_zero X z4] at h
  iintro H Hk
  iapply (wp_ld 𝒱₀ (c : Thread nD τ) none Set.univ (m := (Memref.whole cc0_scratch2 : Memref sig .tc .vmem S2x4x512x128 .bf16))
    (Off := ![g, 0, 0, 0]) (Size := S1x4x512x128.size) ![0, 0, 0, 0] (fun a => by rw [z4 a, Nat.zero_add]) (add0 _ _ z4)) $$ H
  iintro H
  iapply h $$ H
  iintro H
  iapply Hk
  iexact H

/-- One head's maxima or sums are read; -/
theorem ldH (g k' h : ℕ) (hg : g < 2) (hk : k' < 2) (hh : h < 4) {inb} {hl} {Y : Vec F S1x2x4x512 .f32}
    {k : Vec F S1x1x1x512 .f32 → Prog (TpuEff nD τ sig (Elt F) Λ₀ .tc) α} :
    (owns (c : Thread nD τ) (mlG g hg) fullShare Y : sProp 𝕄)
      ⊢ iprop((owns (c : Thread nD τ) (mlG g hg) fullShare Y -∗ WP c (k (getH Y k' h hk hh)) Q)
        -∗ WP c (.op (.load (Memref.whole cc0_scratch1) (Rect.unit (s := S2x2x4x512) ![g, k', h, 0] S1x1x1x512.size inb).toLoadRect hl) k) Q) :=
  wp_ld 𝒱₀ (c : Thread nD τ) none Set.univ (m := (Memref.whole cc0_scratch1 : Memref sig .tc .vmem S2x2x4x512 .f32))
    (Off := ![g, 0, 0, 0]) (Size := S1x2x4x512.size) ![0, k', h, 0] (box_h hk hh) (off_h g k' h)

/-- they are read, to no use, and written; -/
theorem updH (g k' h : ℕ) (hg : g < 2) (hk : k' < 2) (hh : h < 4) {inb inb'} {hl} {hx} {hm} {Y : Vec F S1x2x4x512 .f32} {w : Vec F S1x1x1x512 .f32}
    {k : PUnit → Prog (TpuEff nD τ sig (Elt F) Λ₀ .tc) α} :
    (owns (c : Thread nD τ) (mlG g hg) fullShare Y : sProp 𝕄)
      ⊢ iprop((owns (c : Thread nD τ) (mlG g hg) fullShare (setH Y k' h hk hh w) -∗ WP c (k ⟨⟩) Q)
        -∗ WP c (.op (.load (Memref.whole cc0_scratch1) (Rect.unit (s := S2x2x4x512) ![g, k', h, 0] S1x1x1x512.size inb).toLoadRect hl)
            fun _ => .op (.store (Memref.whole cc0_scratch1) (Rect.unit (s := S2x2x4x512) ![g, k', h, 0] S1x1x1x512.size inb') w Finset.univ hx hm) k) Q) := by
  iintro H Hk
  iapply (ldH c g k' h hg hk hh) $$ H
  iintro H
  iapply (wp_st 𝒱₀ (c : Thread nD τ) none Set.univ (m := (Memref.whole cc0_scratch1 : Memref sig .tc .vmem S2x2x4x512 .f32))
    (Off := ![g, 0, 0, 0]) (Size := S1x2x4x512.size) ![0, k', h, 0] (box_h hk hh) (off_h g k' h)) $$ H
  iintro H
  iapply Hk
  iexact H

/-- all heads' are read; -/
theorem ldK (g k' : ℕ) (hg : g < 2) (hk : k' < 2) {inb} {hl} {Y : Vec F S1x2x4x512 .f32}
    {k : Vec F S1x1x4x512 .f32 → Prog (TpuEff nD τ sig (Elt F) Λ₀ .tc) α} :
    (owns (c : Thread nD τ) (mlG g hg) fullShare Y : sProp 𝕄)
      ⊢ iprop((owns (c : Thread nD τ) (mlG g hg) fullShare Y -∗ WP c (k (getK Y k' hk)) Q)
        -∗ WP c (.op (.load (Memref.whole cc0_scratch1) (Rect.unit (s := S2x2x4x512) ![g, k', 0, 0] S1x1x4x512.size inb).toLoadRect hl) k) Q) :=
  wp_ld 𝒱₀ (c : Thread nD τ) none Set.univ (m := (Memref.whole cc0_scratch1 : Memref sig .tc .vmem S2x2x4x512 .f32))
    (Off := ![g, 0, 0, 0]) (Size := S1x2x4x512.size) ![0, k', 0, 0] (box_k hk) (off_o g k')

/-- they are written. -/
theorem stK (g k' : ℕ) (hg : g < 2) (hk : k' < 2) {inb} {hx} {hm} {Y : Vec F S1x2x4x512 .f32} {w : Vec F S1x1x4x512 .f32}
    {k : PUnit → Prog (TpuEff nD τ sig (Elt F) Λ₀ .tc) α} :
    (owns (c : Thread nD τ) (mlG g hg) fullShare Y : sProp 𝕄)
      ⊢ iprop((owns (c : Thread nD τ) (mlG g hg) fullShare (setK Y k' hk w) -∗ WP c (k ⟨⟩) Q)
        -∗ WP c (.op (.store (Memref.whole cc0_scratch1) (Rect.unit (s := S2x2x4x512) ![g, k', 0, 0] S1x1x4x512.size inb) w Finset.univ hx hm) k) Q) :=
  wp_st 𝒱₀ (c : Thread nD τ) none Set.univ (m := (Memref.whole cc0_scratch1 : Memref sig .tc .vmem S2x2x4x512 .f32))
    (Off := ![g, 0, 0, 0]) (Size := S1x2x4x512.size) ![0, k', 0, 0] (box_k hk) (off_o g k')

/-- The partner's maxima or sums are read, -/
theorem ldC (r g k' : ℕ) (hr : r < 3) (hg : g < 2) (hk : k' < 2) {inb} {hl} {Z : Vec F S1x1x2x4x512 .f32}
    {k : Vec F S1x1x1x4x512 .f32 → Prog (TpuEff nD τ sig (Elt F) Λ₀ .tc) α} :
    (owns (c : Thread nD τ) (cmG r g hr hg) fullShare Z : sProp 𝕄)
      ⊢ iprop((owns (c : Thread nD τ) (cmG r g hr hg) fullShare Z -∗ WP c (k (getC Z k' hk)) Q)
        -∗ WP c (.op (.load (Memref.whole cc0_scratch4) (Rect.unit (s := S3x2x2x4x512) ![r, g, k', 0, 0] S1x1x1x4x512.size inb).toLoadRect hl) k) Q) :=
  wp_ld 𝒱₀ (c : Thread nD τ) none Set.univ (m := (Memref.whole cc0_scratch4 : Memref sig .tc .vmem S3x2x2x4x512 .f32))
    (Off := ![r, g, 0, 0, 0]) (Size := S1x1x2x4x512.size) ![0, 0, k', 0, 0] (box_c hk) (off_c r g k')

/-- and its output state. -/
theorem ldCo (r g : ℕ) (hr : r < 3) (hg : g < 2) {inb} {hl} {Z : Vec F S1x1x4x512x128 .bf16}
    {k : Vec F S1x1x4x512x128 .bf16 → Prog (TpuEff nD τ sig (Elt F) Λ₀ .tc) α} :
    (owns (c : Thread nD τ) (coG r g hr hg) fullShare Z : sProp 𝕄)
      ⊢ iprop((owns (c : Thread nD τ) (coG r g hr hg) fullShare Z -∗ WP c (k Z) Q)
        -∗ WP c (.op (.load (Memref.whole cc0_scratch3) (Rect.unit (s := S3x2x4x512x128) ![r, g, 0, 0, 0] S1x1x4x512x128.size inb).toLoadRect hl) k) Q) := by
  have h := wp_ld (defs := defs₀ (F := F)) (Q := Q) (Γ := .empty) 𝒱₀ (c : Thread nD τ) none Set.univ (m := (Memref.whole cc0_scratch3 : Memref sig .tc .vmem S3x2x4x512x128 .bf16))
    (Off := ![r, g, 0, 0, 0]) (Size := S1x1x4x512x128.size) (INB := inb_co hr hg) (inb := inb) (hR := fun _ => rfl) (hl := hl) (k := k) (q := fullShare)
    ![0, 0, 0, 0, 0] (fun a => by rw [z5 a, Nat.zero_add]) (add0 _ _ z5) (X := Z)
  rw [sub_zero Z z5] at h
  exact h

end

end Cert.KernelIdealRun
-- ==== Proof.KernelIdealRun.Model.lean ====
/-
# What the kernel computes, by rounds

The state of device `c` for group `g` after `r` rounds is an output state and the maxima and sums. Round 0's comes of
the device's own keys, head by head; every later one merges the device's with its partner's, of which the output
state comes rounded to half precision.
-/
module

public import proofs.«01_k».proof.Proof.KernelIdealRun.Slots

@[expose] public section

noncomputable section

namespace Cert.KernelIdealRun

open Cert.KernelIdeal Cert.KernelIdeal.Gen Cert.Piece

open Idealize.ShloMosaic
open Idealize.ShloMosaic.TcCoe

variable {F : FTy → Type} [FloatOps F]

/-- What each device is given. -/
structure In (F : FTy → Type) where
  x : Dev nD → Vec F S1x512x1024 .f32
  wq : Dev nD → Vec F S1024x1024 .f32
  wo : Dev nD → Vec F S1024x1024 .f32
  k : Dev nD → Vec F S1x2048x2x128 .f32
  v : Dev nD → Vec F S1x2048x2x128 .f32

/-- The boxes that are read lie inside their arrays: the whole input, -/
theorem box_x : ∀ a, (![0, 0, 0] : Fin 3 → ℕ) a + S1x512x1024.size a ≤ S1x512x1024.size a := by decide
/-- a group's columns of the queries' weights, -/
theorem box_wq {g : ℕ} (hg : g < 2) : ∀ a, (![0, 512 * g] : Fin 2 → ℕ) a + S1024x512.size a ≤ S1024x1024.size a := by
  interval_cases g <;> decide
/-- a group's keys or values, -/
theorem box_kv {g : ℕ} (hg : g < 2) : ∀ a, (![0, 0, g, 0] : Fin 4 → ℕ) a + S1x2048x1x128.size a ≤ S1x2048x2x128.size a := by
  interval_cases g <;> decide
/-- a head's rows of the output's weights -/
theorem box_wo {h : ℕ} (hh : h < 8) : ∀ a, (![128 * h, 0] : Fin 2 → ℕ) a + S128x1024.size a ≤ S1024x1024.size a := by
  interval_cases h <;> decide
/-- and a head's columns of the queries. -/
theorem box_q {h : ℕ} (hh : h < 4) : S512x512.Slices ![0, 128 * h] S512x128 := by
  interval_cases h
  · exact slices_S512x512_o0_0_S512x128
  · exact slices_S512x512_o0_128_S512x128
  · exact slices_S512x512_o0_256_S512x128
  · exact slices_S512x512_o0_384_S512x128

section
variable (I : In F) (c : Dev nD)

/-- Group `g`'s queries, -/
def qG (g : ℕ) (hg : g < 2) : FVec F S512x512 .f32 :=
  k0_pay1 (sub (n := 3) (Size := S1x512x1024.size) (I.x c) ![0, 0, 0] S1x512x1024.size box_x)
    (sub (n := 2) (Size := S1024x1024.size) (I.wq c) ![0, 512 * g] S1024x512.size (box_wq hg))
/-- its keys, -/
def kG (g : ℕ) (hg : g < 2) : FVec F S2048x128 .f32 :=
  k0_pay2 (sub (n := 4) (Size := S1x2048x2x128.size) (I.k c) ![0, 0, g, 0] S1x2048x1x128.size (box_kv hg))
/-- its values, -/
def vG (g : ℕ) (hg : g < 2) : FVec F S2048x128 .f32 :=
  k0_pay3 (sub (n := 4) (Size := S1x2048x2x128.size) (I.v c) ![0, 0, g, 0] S1x2048x1x128.size (box_kv hg))
/-- and rows of the output's weights for head `h` of all eight. -/
def woH (h : ℕ) (hh : h < 8) : Vec F S128x1024 .f32 :=
  sub (n := 2) (Size := S1024x1024.size) (I.wo c) ![128 * h, 0] S128x1024.size (box_wo hh)

/-- The scores of head `h` of the group's four, before scaling. -/
def raw (g : ℕ) (hg : g < 2) (h : ℕ) (hh : h < 4) : FVec F S512x2048 .f32 :=
  matmul dot_S512x128_S2048x128_S512x2048_1_1_0_0_n_n none (extractStridedSlice S512x128 ![0, 128 * h] (qG I c g hg) (box_q hh))
    (kG I c g hg) (constant S512x2048 .f32 0x00000000#32)

/-- Its output state, -/
def hO (g : ℕ) (hg : g < 2) (h : ℕ) (hh : h < 4) : Vec F S1x1x512x128 .f32 := k0_pay8 (vG I c g hg) (raw I c g hg h hh)
/-- its maxima (`k = 0`) and sums. -/
def hM (g : ℕ) (hg : g < 2) (k h : ℕ) (hk : k < 2) (hh : h < 4) : Vec F S1x1x1x512 .f32 :=
  match k with
  | 0 => k0_pay9 (raw I c g hg h hh)
  | _ => k0_pay10 (raw I c g hg h hh)

end

/-- The place of `y` inside its head's output state, -/
def ixO (y : S1x4x512x128.Idx) : S1x1x512x128.Idx := fun | 0 => y 0 | 1 => ⟨0, Nat.one_pos⟩ | 2 => y 2 | 3 => y 3
/-- and inside its head's maxima or sums. -/
def ixH (y : S1x2x4x512.Idx) : S1x1x1x512.Idx := fun | 0 => y 0 | 1 => ⟨0, Nat.one_pos⟩ | 2 => ⟨0, Nat.one_pos⟩ | 3 => y 3

/-- Four heads' output states laid side by side, -/
def joinO (P : ∀ h, h < 4 → Vec F S1x1x512x128 .f32) : Vec F S1x4x512x128 .f32 :=
  fun y => P (y 1).val (y 1).isLt (ixO y)
/-- and their maxima and sums. -/
def joinM (P : ∀ k h, k < 2 → h < 4 → Vec F S1x1x1x512 .f32) : Vec F S1x2x4x512 .f32 :=
  fun y => P (y 1).val (y 2).val (y 1).isLt (y 2).isLt (ixH y)

/-- An array with one head's output state replaced, entry by entry, -/
theorem setO_eq (X : Vec F S1x4x512x128 .f32) (h : ℕ) (hh : h < 4) (w : Vec F S1x1x512x128 .f32) (y : S1x4x512x128.Idx) :
    setO X h hh w y = if (y 1).val = h then w (ixO y) else X y := by
  unfold setO
  split
  · rename_i e
    refine put_of_mem (n := 4) (Size := S1x4x512x128.size) X (box_o hh) w _ y fun a => ?_
    fin_cases a
    · exact (Nat.zero_add _).symm
    · exact e
    · exact (Nat.zero_add _).symm
    · exact (Nat.zero_add _).symm
  · rename_i e
    refine put_of_not (n := 4) (Size := S1x4x512x128.size) X (box_o hh) w y 1 ?_
    show (y 1).val < h ∨ h + 1 ≤ (y 1).val
    omega

/-- and with one head's maxima or sums replaced. -/
theorem setH_eq (Y : Vec F S1x2x4x512 .f32) (k h : ℕ) (hk : k < 2) (hh : h < 4) (w : Vec F S1x1x1x512 .f32) (y : S1x2x4x512.Idx) :
    setH Y k h hk hh w y = if (y 1).val = k ∧ (y 2).val = h
      then w (ixH y) else Y y := by
  unfold setH
  split
  · rename_i e
    refine put_of_mem (n := 4) (Size := S1x2x4x512.size) Y (box_h hk hh) w _ y fun a => ?_
    fin_cases a
    · exact (Nat.zero_add _).symm
    · exact e.1
    · exact e.2
    · exact (Nat.zero_add _).symm
  · rename_i e
    by_cases e1 : (y 1).val = k
    · refine put_of_not (n := 4) (Size := S1x2x4x512.size) Y (box_h hk hh) w y 2 ?_
      show (y 2).val < h ∨ h + 1 ≤ (y 2).val
      have : (y 2).val ≠ h := fun h' => e ⟨e1, h'⟩
      omega
    · refine put_of_not (n := 4) (Size := S1x2x4x512.size) Y (box_h hk hh) w y 1 ?_
      show (y 1).val < k ∨ k + 1 ≤ (y 1).val
      omega

/-- Replacing every head's output state leaves nothing of what was there, -/
theorem setO_all (X : Vec F S1x4x512x128 .f32) (P : ∀ h, h < 4 → Vec F S1x1x512x128 .f32) :
    setO (setO (setO (setO X 0 (by decide) (P 0 (by decide))) 1 (by decide) (P 1 (by decide))) 2 (by decide) (P 2 (by decide)))
      3 (by decide) (P 3 (by decide)) = joinO P := by
  funext y
  simp only [setO_eq]
  have key : ∀ (n : ℕ) (h : n < 4) (z : S1x1x512x128.Idx) (w : F .f32),
      (if n = 3 then P 3 (by decide) z else if n = 2 then P 2 (by decide) z else if n = 1 then P 1 (by decide) z
        else if n = 0 then P 0 (by decide) z else w) = P n h z := by
    intro n h z w
    interval_cases n <;> rfl
  exact key _ (y 1).isLt _ _

/-- and likewise every head's maxima and sums. -/
theorem setH_all (Y : Vec F S1x2x4x512 .f32) (P : ∀ k h, k < 2 → h < 4 → Vec F S1x1x1x512 .f32) :
    setH (setH (setH (setH (setH (setH (setH (setH Y 0 0 (by decide) (by decide) (P 0 0 (by decide) (by decide)))
      1 0 (by decide) (by decide) (P 1 0 (by decide) (by decide))) 0 1 (by decide) (by decide) (P 0 1 (by decide) (by decide)))
      1 1 (by decide) (by decide) (P 1 1 (by decide) (by decide))) 0 2 (by decide) (by decide) (P 0 2 (by decide) (by decide)))
      1 2 (by decide) (by decide) (P 1 2 (by decide) (by decide))) 0 3 (by decide) (by decide) (P 0 3 (by decide) (by decide)))
      1 3 (by decide) (by decide) (P 1 3 (by decide) (by decide)) = joinM P := by
  funext y
  simp only [setH_eq]
  have key : ∀ (k n : ℕ) (h : k < 2) (h' : n < 4) (z : S1x1x1x512.Idx) (w : F .f32),
      (if k = 1 ∧ n = 3 then P 1 3 (by decide) (by decide) z else if k = 0 ∧ n = 3 then P 0 3 (by decide) (by decide) z
        else if k = 1 ∧ n = 2 then P 1 2 (by decide) (by decide) z else if k = 0 ∧ n = 2 then P 0 2 (by decide) (by decide) z
        else if k = 1 ∧ n = 1 then P 1 1 (by decide) (by decide) z else if k = 0 ∧ n = 1 then P 0 1 (by decide) (by decide) z
        else if k = 1 ∧ n = 0 then P 1 0 (by decide) (by decide) z else if k = 0 ∧ n = 0 then P 0 0 (by decide) (by decide) z
        else w) = P k n h h' z := by
    intro k n h h' z w
    interval_cases k <;> interval_cases n <;> rfl
  exact key _ _ (y 1).isLt (y 2).isLt _ _

/-- The merge of a state's maxima and sums with those a landing slot shows, -/
def mergeM (m : Vec F S1x2x4x512 .f32) (cm : Vec F S1x1x2x4x512 .f32) : Vec F S1x2x4x512 .f32 :=
  setK (setK m 0 (by decide) (k0_pay71 (k0_pay65 (getK m 0 (by decide))) (getC cm 0 (by decide)))) 1 (by decide)
    (k0_pay72 (k0_pay65 (getK m 0 (by decide))) (getK m 1 (by decide)) (getC cm 0 (by decide)) (getC cm 1 (by decide)))
/-- and of its output state. -/
def mergeO (o : Vec F S1x4x512x128 .f32) (m : Vec F S1x2x4x512 .f32) (cm : Vec F S1x1x2x4x512 .f32) (co : Vec F S1x1x4x512x128 .bf16) :
    Vec F S1x4x512x128 .f32 :=
  k0_pay75 (k0_pay67 co) (k0_pay73 (k0_pay65 (getK m 0 (by decide))) o (getC cm 0 (by decide)))
    (k0_pay74 (k0_pay65 (getK m 0 (by decide))) (getC cm 0 (by decide)))

section
variable (I : In F)

/-- The state after `r` rounds. -/
def St (g : ℕ) (hg : g < 2) : ℕ → Dev nD → Vec F S1x4x512x128 .f32 × Vec F S1x2x4x512 .f32
  | 0, c => (joinO (hO I c g hg), joinM (hM I c g hg))
  | r + 1, c => (mergeO (St g hg r c).1 (St g hg r c).2 (upM (St g hg r (pr r c)).2) (upO (k0_pay76 (St g hg r (pr r c)).1)),
      mergeM (St g hg r c).2 (upM (St g hg r (pr r c)).2))

/-- What device `c` sends in round `r`. -/
def msgs : Msgs F where
  bo c r g := k0_pay76 (St I (g % 2) (Nat.mod_lt _ (by decide)) r c).1
  ml c r g := (St I (g % 2) (Nat.mod_lt _ (by decide)) r c).2

/-- One group's part of the output: its four heads normalised and projected, summed in order. -/
def half0 (c : Dev nD) (o : Vec F S1x4x512x128 .f32) (m : Vec F S1x2x4x512 .f32) : FVec F S512x1024 .f32 :=
  k0_pay122 (k0_pay120 (getO o 0 (by decide)) (getH m 1 0 (by decide) (by decide)) (woH I c 0 (by decide))
      (getO o 1 (by decide)) (getH m 1 1 (by decide) (by decide)) (woH I c 1 (by decide)))
    (k0_pay121 (getO o 2 (by decide))) (getH m 1 2 (by decide) (by decide)) (woH I c 2 (by decide))
    (getO o 3 (by decide)) (getH m 1 3 (by decide) (by decide)) (woH I c 3 (by decide))

/-- The output of device `c`, from the final states of its two groups. -/
def outOf (c : Dev nD) (h0 : FVec F S512x1024 .f32) (o : Vec F S1x4x512x128 .f32) (m : Vec F S1x2x4x512 .f32) : FVec F S1x512x1024 .f32 :=
  k0_pay137 h0 (k0_pay134 (getO o 0 (by decide)) (getH m 1 0 (by decide) (by decide)) (woH I c 4 (by decide)))
    (k0_pay135 (getO o 1 (by decide))) (k0_pay136 (getH m 1 1 (by decide) (by decide))) (woH I c 5 (by decide))
    (getO o 2 (by decide)) (getH m 1 2 (by decide) (by decide)) (woH I c 6 (by decide))
    (getO o 3 (by decide)) (getH m 1 3 (by decide) (by decide)) (woH I c 7 (by decide))

/-- The kernel's result. -/
def outV (c : Dev nD) : FVec F S1x512x1024 .f32 :=
  outOf I c (half0 I c (St I 0 (by decide) 3 c).1 (St I 0 (by decide) 3 c).2) (St I 1 (by decide) 3 c).1 (St I 1 (by decide) 3 c).2

end

end Cert.KernelIdealRun
-- ==== Proof.KernelIdealRun.Swap.lean ====
/-
# The exchange's rules at the model's values

A start sends the rounded output state, then the maxima and sums; a finish waits for the two sends and the two
receives, and has the partner's state in its landing slots.
-/
module

public import proofs.«01_k».proof.Proof.KernelIdealRun.Model

@[expose] public section

noncomputable section

namespace Cert.KernelIdealRun

open Cert.KernelIdeal Cert.KernelIdeal.Gen Cert.Piece

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem lt0_2 : 0 < 2 := by decide
theorem lt1_2 : 1 < 2 := by decide
theorem lt0_3 : 0 < 3 := by decide
theorem lt1_3 : 1 < 3 := by decide
theorem lt2_3 : 2 < 3 := by decide
theorem lt0_4 : 0 < 4 := by decide
theorem lt1_4 : 1 < 4 := by decide
theorem lt2_4 : 2 < 4 := by decide
theorem lt3_4 : 3 < 4 := by decide

section
variable (I : In F) (c : Dev nD) {α : Type} {Q : α → sProp (MT nD τ sig Unit (Elt F) ℕ UU ℕ)}

/-- The maxima and sums that a round sends are the state's, -/
theorem ml_eq (g : ℕ) (hg : g < 2) (r : ℕ) : (St I g hg r c).2 = (msgs I).ml c r g := by
  interval_cases g <;> rfl
/-- and the output states that it sends are the state's, rounded. -/
theorem bo_eq (g : ℕ) (hg : g < 2) (r : ℕ) : k0_pay76 (St I g hg r c).1 = (msgs I).bo c r g := by
  interval_cases g <;> rfl

/-- What is owed between the two transfers of a start. -/
def mid (n r g : ℕ) : CellTallies nD τ sig Unit := rem n c + tallyAt (qcell (six 3 r g) (pr r c)) () (amt 3)

/-- What is owed before a round's start is the two transfers' and what is owed after. -/
theorem rem_split (n r g : ℕ) (hg : g < 2) (hn : n + (2 * r + g) = 5) :
    rem (n + 1) c = mid c n r g + tallyAt (qcell (six 1 r g) (pr r c)) () (amt 1) := by
  have e1 : (5 - n) / 2 = r := by omega
  have e2 : (5 - n) % 2 = g := by omega
  show (rem n c + tallyAt (qcell (six 3 ((5 - n) / 2) ((5 - n) % 2)) (pr ((5 - n) / 2) c)) () (amt 3))
    + tallyAt (qcell (six 1 ((5 - n) / 2) ((5 - n) % 2)) (pr ((5 - n) / 2) c)) () (amt 1) = _
  rw [e1, e2]
  rfl

/-- The duties a start fulfils: for the output state, -/
def tokO (r g : ℕ) : sProp (MT nD τ sig Unit (Elt F) ℕ UU ℕ) :=
  iprop(dutyTok ER (qcell (six 0 r g) c) 0 0 ∗ dutyTok ER (qcell (six 1 r g) (pr r c)) 0 0)
/-- for the maxima and sums. -/
def tokM (r g : ℕ) : sProp (MT nD τ sig Unit (Elt F) ℕ UU ℕ) :=
  iprop(dutyTok ER (qcell (six 2 r g) c) 0 0 ∗ dutyTok ER (qcell (six 3 r g) (pr r c)) 0 0)

/-- The right to wait on a transfer semaphore: its place and its credit. -/
def wt (k r g : ℕ) : sProp (MT nD τ sig Unit (Elt F) ℕ UU ℕ) :=
  iprop(cred (tallyAt (qcell (six k r g) c) () (amt k)) ∗ atPos ER (qcell (six k r g) c) 0 ∅ 0)

/-- What the first transfer of a start takes: the partner's slot, the duties, the place on the semaphore. -/
def readyO (r g : ℕ) (hr : r < 3) (hg : g < 2) : sProp (MT nD τ sig Unit (Elt F) ℕ UU ℕ) :=
  iprop(freeO r g hr hg (pr r c) ∗ tokO c r g ∗ atPos ER (qcell (six 0 r g) c) 0 ∅ 0)
/-- What the second takes. -/
def readyM (r g : ℕ) (hr : r < 3) (hg : g < 2) : sProp (MT nD τ sig Unit (Elt F) ℕ UU ℕ) :=
  iprop(freeM r g hr hg (pr r c) ∗ tokM c r g ∗ atPos ER (qcell (six 2 r g) c) 0 ∅ 0)

/-- A group's slab of output states, -/
abbrev oH (g : ℕ) (hg : g < 2) (X : Vec F S1x4x512x128 .f32) : sProp (MT nD τ sig Unit (Elt F) ℕ UU ℕ) := owns (c : Thread nD τ) (oG g hg) fullShare X
/-- of maxima and sums, -/
abbrev mH (g : ℕ) (hg : g < 2) (X : Vec F S1x2x4x512 .f32) : sProp (MT nD τ sig Unit (Elt F) ℕ UU ℕ) := owns (c : Thread nD τ) (mlG g hg) fullShare X
/-- of the rounded states to send. -/
abbrev sH (g : ℕ) (hg : g < 2) (X : Vec F S1x4x512x128 .bf16) : sProp (MT nD τ sig Unit (Elt F) ℕ UU ℕ) := owns (c : Thread nD τ) (sbG g hg) fullShare X
/-- A spent transfer semaphore. -/
abbrev spent (k r g : ℕ) : sProp (MT nD τ sig Unit (Elt F) ℕ UU ℕ) := semVal (qcell (six k r g) c) 0

/-- The first transfer of a start; -/
theorem startO (n r g : ℕ) (hr : r < 3) (hg : g < 2) (hn : n + (2 * r + g) = 5) (p : Dev nD) (hp : p = pr r c)
    {hsc : (coQ r g hr hg : Memref sig (Dev.tc p : Thread nD τ).2.kind .vmem S4x512x128 .bf16).view.ref.isScScratch = false}
    {hsrc : (sbQ g hg).view.WordExact} {hdst : (coQ r g hr hg).view.WordExact}
    {hsem : DmaTarget.Typed .vmem (.dma (pick cc0_scratch6 r g hr hg))
      (.remote (Dev.tc p : Thread nD τ) (coQ r g hr hg) (.dma (pick cc0_scratch5 r g hr hg)) hsc)}
    {k : PUnit → Prog (TpuEff nD τ sig (Elt F) Λ₀ .tc) α} :
    iprop(ctx (msgs I) ∗ sH c g hg ((msgs I).bo c r g) ∗ readyO c r g hr hg ∗ ow c (rem (n + 1) c))
      ⊢ iprop(((wt c 0 r g ∗ ow c (mid c n r g)) -∗ WP c (k ⟨⟩) Q)
          -∗ WP c (.op (.enqueueDma (sbQ g hg) (.remote (Dev.tc p : Thread nD τ) (coQ r g hr hg) (.dma (pick cc0_scratch5 r g hr hg)) hsc)
              (.dma (pick cc0_scratch6 r g hr hg)) hsrc hdst hsem) k) Q) := by
  rw [rem_split c n r g hg hn]
  unfold readyO tokO wt
  iintro ⟨#Hctx, Hs, ⟨Hd, ⟨T, T'⟩, Hat⟩, HO⟩ Hk
  iapply (wp_sendO (msgs I) c p r g hr hg hp (mid c n r g)) $$ [Hs Hd HO T T']
  · isplitr; · iexact Hctx
    isplitl [Hs]; · iexact Hs
    isplitl [Hd]; · iexact Hd
    isplitl [HO]; · iexact HO
    isplitl [T]; · iexact T
    iexact T'
  iintro ⟨Hc, HO⟩
  iapply Hk
  isplitl [Hc Hat]
  · isplitl [Hc]; · iexact Hc
    iexact Hat
  iexact HO

/-- the second. -/
theorem startM (n r g : ℕ) (hr : r < 3) (hg : g < 2) (p : Dev nD) (hp : p = pr r c)
    {hsc : (cmQ r g hr hg : Memref sig (Dev.tc p : Thread nD τ).2.kind .vmem S2x4x512 .f32).view.ref.isScScratch = false}
    {hsrc : (mlQ g hg).view.WordExact} {hdst : (cmQ r g hr hg).view.WordExact}
    {hsem : DmaTarget.Typed .vmem (.dma (pick cc0_scratch8 r g hr hg))
      (.remote (Dev.tc p : Thread nD τ) (cmQ r g hr hg) (.dma (pick cc0_scratch7 r g hr hg)) hsc)}
    {k : PUnit → Prog (TpuEff nD τ sig (Elt F) Λ₀ .tc) α} :
    iprop(ctx (msgs I) ∗ mH c g hg (St I g hg r c).2 ∗ readyM c r g hr hg ∗ ow c (mid c n r g))
      ⊢ iprop(((wt c 2 r g ∗ ow c (rem n c)) -∗ WP c (k ⟨⟩) Q)
          -∗ WP c (.op (.enqueueDma (mlQ g hg) (.remote (Dev.tc p : Thread nD τ) (cmQ r g hr hg) (.dma (pick cc0_scratch7 r g hr hg)) hsc)
              (.dma (pick cc0_scratch8 r g hr hg)) hsrc hdst hsem) k) Q) := by
  rw [ml_eq]
  unfold readyM tokM wt mid
  iintro ⟨#Hctx, Hs, ⟨Hd, ⟨T, T'⟩, Hat⟩, HO⟩ Hk
  iapply (wp_sendM (msgs I) c p r g hr hg hp (rem n c)) $$ [Hs Hd HO T T']
  · isplitr; · iexact Hctx
    isplitl [Hs]; · iexact Hs
    isplitl [Hd]; · iexact Hd
    isplitl [HO]; · iexact HO
    isplitl [T]; · iexact T
    iexact T'
  iintro ⟨Hc, HO⟩
  iapply Hk
  isplitl [Hc Hat]
  · isplitl [Hc]; · iexact Hc
    iexact Hat
  iexact HO

/-- What a wait gives, by its kind. -/
def got (k r g : ℕ) (hr : r < 3) (hg : g < 2) : sProp (MT nD τ sig Unit (Elt F) ℕ UU ℕ) :=
  match k with
  | 0 => owns (c : Thread nD τ) (sbG g hg) fullShare ((msgs I).bo c r g)
  | 1 => owns (c : Thread nD τ) (coG r g hr hg) fullShare (upO (k0_pay76 (St I g hg r (pr r c)).1))
  | 2 => owns (c : Thread nD τ) (mlG g hg) fullShare (St I g hg r c).2
  | _ => owns (c : Thread nD τ) (cmG r g hr hg) fullShare (upM (St I g hg r (pr r c)).2)

/-- What a transfer hands over, at the model's values. -/
theorem got_eq (k r g : ℕ) (hr : r < 3) (hg : g < 2) : dmaPay (msgs I) c k r g hr hg = got I c k r g hr hg := by
  unfold dmaPay got
  simp only [ml_eq, bo_eq]
  rcases k with _ | _ | _ | k <;> rfl

/-- A finish's wait. -/
theorem wait (k r g n : ℕ) (hk : k < 4) (hr : r < 3) (hg : g < 2) (hn : n + (2 * r + g) < 6) {q : DmaSem sig}
    (hq : q = qs (six k r g)) {s' s : Shape} {e' e : EltTy} {src : Memref sig .tc .vmem s' e'} {dst : Memref sig .tc .vmem s e}
    {hsrc : src.view.WordExact} {hdst : dst.view.WordExact} (hN : dst.view.dmaCredit = amt k)
    {kt : PUnit → Prog (TpuEff nD τ sig (Elt F) Λ₀ .tc) α} :
    iprop(ctx (msgs I) ∗ ow c (rem n c) ∗ wt c k r g)
      ⊢ iprop(((ow c (rem n c) ∗ semVal (qcell (six k r g) c) 0 ∗ got I c k r g hr hg) -∗ WP c (kt ⟨⟩) Q)
          -∗ WP c (.op (.waitDma2 q src dst hsrc hdst) kt) Q) := by
  unfold wt
  rw [← got_eq]
  iintro ⟨#Hctx, HO, Hc, Hat⟩ Hk
  iapply (wp_waitQ (msgs I) c k r g n hk hr hg hn hq hN) $$ [HO Hc Hat]
  · isplitr; · iexact Hctx
    isplitl [Hc]; · iexact Hc
    isplitl [HO]; · iexact HO
    iexact Hat
  iintro H
  iapply Hk
  iexact H

/-- The maxima or sums are read, to no use, and written; -/
theorem updK (g k' : ℕ) (hg : g < 2) (hk : k' < 2) {inb inb'} {hl} {hx} {hm} {Y : Vec F S1x2x4x512 .f32} {w : Vec F S1x1x4x512 .f32}
    {k : PUnit → Prog (TpuEff nD τ sig (Elt F) Λ₀ .tc) α} :
    (owns (c : Thread nD τ) (mlG g hg) fullShare Y : sProp 𝕄)
      ⊢ iprop((owns (c : Thread nD τ) (mlG g hg) fullShare (setK Y k' hk w) -∗ WP c (k ⟨⟩) Q)
        -∗ WP c (.op (.load (Memref.whole cc0_scratch1) (Rect.unit (s := S2x2x4x512) ![g, k', 0, 0] S1x1x4x512.size inb').toLoadRect hl)
            fun _ => .op (.store (Memref.whole cc0_scratch1) (Rect.unit (s := S2x2x4x512) ![g, k', 0, 0] S1x1x4x512.size inb) w Finset.univ hx hm) k) Q) := by
  iintro H Hk
  iapply (ldK c g k' hg hk) $$ H
  iintro H
  iapply (stK c g k' hg hk) $$ H
  iintro H
  iapply Hk
  iexact H

/-- so is the output state. -/
theorem updO4 (g : ℕ) (hg : g < 2) {inb inb'} {hl} {hx} {hm} {X w : Vec F S1x4x512x128 .f32}
    {k : PUnit → Prog (TpuEff nD τ sig (Elt F) Λ₀ .tc) α} :
    (owns (c : Thread nD τ) (oG g hg) fullShare X : sProp 𝕄)
      ⊢ iprop((owns (c : Thread nD τ) (oG g hg) fullShare w -∗ WP c (k ⟨⟩) Q)
        -∗ WP c (.op (.load (Memref.whole cc0_scratch0) (Rect.unit (s := S2x4x512x128) ![g, 0, 0, 0] S1x4x512x128.size inb').toLoadRect hl)
            fun _ => .op (.store (Memref.whole cc0_scratch0) (Rect.unit (s := S2x4x512x128) ![g, 0, 0, 0] S1x4x512x128.size inb) w Finset.univ hx hm) k) Q) := by
  iintro H Hk
  iapply (ldO4 c g hg) $$ H
  iintro H
  iapply (stO4 c g hg) $$ H
  iintro H
  iapply Hk
  iexact H

/-- What has landed in round `r`: the partner's maxima and sums, -/
abbrev cmV (g : ℕ) (hg : g < 2) (r : ℕ) : Vec F S1x1x2x4x512 .f32 := upM (St I g hg r (pr r c)).2
/-- and its output state. -/
abbrev coV (g : ℕ) (hg : g < 2) (r : ℕ) : Vec F S1x1x4x512x128 .bf16 := upO (k0_pay76 (St I g hg r (pr r c)).1)
/-- The landing slots that hold them. -/
abbrev cmH (r g : ℕ) (hr : r < 3) (hg : g < 2) : sProp (MT nD τ sig Unit (Elt F) ℕ UU ℕ) := owns (c : Thread nD τ) (cmG r g hr hg) fullShare (cmV I c g hg r)
abbrev coH (r g : ℕ) (hr : r < 3) (hg : g < 2) : sProp (MT nD τ sig Unit (Elt F) ℕ UU ℕ) := owns (c : Thread nD τ) (coG r g hr hg) fullShare (coV I c g hg r)
/-- The state's maxima, -/
abbrev mx (g : ℕ) (hg : g < 2) (r : ℕ) : Vec F S1x1x4x512 .f32 := getK (St I g hg r c).2 0 (by decide)
/-- its sums; -/
abbrev sm (g : ℕ) (hg : g < 2) (r : ℕ) : Vec F S1x1x4x512 .f32 := getK (St I g hg r c).2 1 (by decide)
/-- the partner's maxima, -/
abbrev px (g : ℕ) (hg : g < 2) (r : ℕ) : Vec F S1x1x1x4x512 .f32 := getC (cmV I c g hg r) 0 (by decide)
/-- its sums; -/
abbrev ps (g : ℕ) (hg : g < 2) (r : ℕ) : Vec F S1x1x1x4x512 .f32 := getC (cmV I c g hg r) 1 (by decide)
/-- the merged maxima, -/
abbrev mxW (g : ℕ) (hg : g < 2) (r : ℕ) : Vec F S1x1x4x512 .f32 := k0_pay71 (k0_pay65 (mx I c g hg r)) (px I c g hg r)
/-- and sums. -/
abbrev smW (g : ℕ) (hg : g < 2) (r : ℕ) : Vec F S1x1x4x512 .f32 := k0_pay72 (k0_pay65 (mx I c g hg r)) (sm I c g hg r) (px I c g hg r) (ps I c g hg r)

/-! A finish's four waits, each with what it gives. -/

/-- The send of the output state gives the copy back, -/
theorem wait0 (r g n : ℕ) (hr : r < 3) (hg : g < 2) (hn : n + (2 * r + g) < 6) {s' : Shape} {e' : EltTy} {src : Memref sig .tc .vmem s' e'}
    {hsrc : src.view.WordExact} {hdst : (sbQ g hg).view.WordExact} {kt : PUnit → Prog (TpuEff nD τ sig (Elt F) Λ₀ .tc) α} :
    iprop(ctx (msgs I) ∗ ow c (rem n c) ∗ wt c 0 r g)
      ⊢ iprop(((ow c (rem n c) ∗ spent c 0 r g ∗ sH c g hg ((msgs I).bo c r g)) -∗ WP c (kt ⟨⟩) Q)
          -∗ WP c (.op (.waitDma2 (pick cc0_scratch5 r g hr hg) src (sbQ g hg) hsrc hdst) kt) Q) :=
  wait I c 0 r g n (by decide) hr hg hn (pick5 hr hg) (credit_sb hg)

/-- its receipt shows the partner's, -/
theorem wait1 (r g n : ℕ) (hr : r < 3) (hg : g < 2) (hn : n + (2 * r + g) < 6) {s' : Shape} {e' : EltTy} {src : Memref sig .tc .vmem s' e'}
    {hsrc : src.view.WordExact} {hdst : (coQ r g hr hg).view.WordExact} {kt : PUnit → Prog (TpuEff nD τ sig (Elt F) Λ₀ .tc) α} :
    iprop(ctx (msgs I) ∗ ow c (rem n c) ∗ wt c 1 r g)
      ⊢ iprop(((ow c (rem n c) ∗ spent c 1 r g ∗ coH I c r g hr hg) -∗ WP c (kt ⟨⟩) Q)
          -∗ WP c (.op (.waitDma2 (pick cc0_scratch6 r g hr hg) src (coQ r g hr hg) hsrc hdst) kt) Q) :=
  wait I c 1 r g n (by decide) hr hg hn (pick6 hr hg) (credit_co hr hg)

/-- the send of maxima and sums gives them back, -/
theorem wait2 (r g n : ℕ) (hr : r < 3) (hg : g < 2) (hn : n + (2 * r + g) < 6) {s' : Shape} {e' : EltTy} {src : Memref sig .tc .vmem s' e'}
    {hsrc : src.view.WordExact} {hdst : (mlQ g hg).view.WordExact} {kt : PUnit → Prog (TpuEff nD τ sig (Elt F) Λ₀ .tc) α} :
    iprop(ctx (msgs I) ∗ ow c (rem n c) ∗ wt c 2 r g)
      ⊢ iprop(((ow c (rem n c) ∗ spent c 2 r g ∗ mH c g hg (St I g hg r c).2) -∗ WP c (kt ⟨⟩) Q)
          -∗ WP c (.op (.waitDma2 (pick cc0_scratch7 r g hr hg) src (mlQ g hg) hsrc hdst) kt) Q) :=
  wait I c 2 r g n (by decide) hr hg hn (pick7 hr hg) (credit_ml hg)

/-- their receipt shows the partner's. -/
theorem wait3 (r g n : ℕ) (hr : r < 3) (hg : g < 2) (hn : n + (2 * r + g) < 6) {s' : Shape} {e' : EltTy} {src : Memref sig .tc .vmem s' e'}
    {hsrc : src.view.WordExact} {hdst : (cmQ r g hr hg).view.WordExact} {kt : PUnit → Prog (TpuEff nD τ sig (Elt F) Λ₀ .tc) α} :
    iprop(ctx (msgs I) ∗ ow c (rem n c) ∗ wt c 3 r g)
      ⊢ iprop(((ow c (rem n c) ∗ spent c 3 r g ∗ cmH I c r g hr hg) -∗ WP c (kt ⟨⟩) Q)
          -∗ WP c (.op (.waitDma2 (pick cc0_scratch8 r g hr hg) src (cmQ r g hr hg) hsrc hdst) kt) Q) :=
  wait I c 3 r g n (by decide) hr hg hn (pick8 hr hg) (credit_cm hr hg)

end

end Cert.KernelIdealRun
-- ==== Proof.KernelIdealRun.Attn.lean ====
/-
# The kernel's parts at its buffers
-/
module

public import proofs.«01_k».proof.Proof.KernelIdealRun.Swap

@[expose] public section

noncomputable section

namespace Cert.KernelIdealRun

open Cert.KernelIdeal Cert.KernelIdeal.Gen Cert.Piece

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the kernel at the buffers the launch gives it. -/
abbrev onBufs {β : Type 1} (p : (a0 : Memref sig .tc .vmem S1x512x1024 .f32) → a0.IsWhole → (a1 : Memref sig .tc .vmem S1024x1024 .f32) → a1.IsWhole → (a2 : Memref sig .tc .vmem S1024x1024 .f32) → a2.IsWhole → (a3 : Memref sig .tc .vmem S1x2048x2x128 .f32) → a3.IsWhole → (a4 : Memref sig .tc .vmem S1x2048x2x128 .f32) → a4.IsWhole → (a5 : Memref sig .tc .vmem S1x512x1024 .f32) → a5.IsWhole → (a6 : Memref sig .tc .vmem S2x4x512x128 .f32) → a6.IsWhole → (a7 : Memref sig .tc .vmem S2x2x4x512 .f32) → a7.IsWhole → (a8 : Memref sig .tc .vmem S2x4x512x128 .bf16) → a8.IsWhole → (a9 : Memref sig .tc .vmem S3x2x4x512x128 .bf16) → a9.IsWhole → (a10 : Memref sig .tc .vmem S3x2x2x4x512 .f32) → a10.IsWhole →
    DmaSems sig S3x2 → DmaSems sig S3x2 → DmaSems sig S3x2 → DmaSems sig S3x2 → β) : β :=
  p (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    cc0_scratch5 cc0_scratch6 cc0_scratch7 cc0_scratch8

/-- What device `c` is given, held in its staging buffers. -/
def ins (I : In F) (c : Dev nD) : sProp (MT nD τ sig Unit (Elt F) ℕ UU ℕ) :=
  iprop(owns (c : Thread nD τ) (Memref.whole cc0_stg0_0) fullShare (I.x c) ∗ owns (c : Thread nD τ) (Memref.whole cc0_stg1_0) fullShare (I.wq c)
    ∗ owns (c : Thread nD τ) (Memref.whole cc0_stg3_0) fullShare (I.k c) ∗ owns (c : Thread nD τ) (Memref.whole cc0_stg4_0) fullShare (I.v c))

/-- Its own landing slots of round `r`. -/
def slots (c : Dev nD) (r : ℕ) (hr : r < 3) : sProp (MT nD τ sig Unit (Elt F) ℕ UU ℕ) :=
  iprop(freeO r 0 hr (by decide) c ∗ freeM r 0 hr (by decide) c ∗ freeO r 1 hr (by decide) c ∗ freeM r 1 hr (by decide) c)

section
variable (I : In F) (c : Dev nD)

/-- The barrier and the first group's loads. -/
theorem part1 (K : (Σ' (_ : Dev nD) (_ : BitVec 32) (_ : FVec F S512x512 .f32) (_ : FVec F S2048x128 .f32) (_ : FVec F S2048x128 .f32), FVec F S512x2048 .f32) → sProp (MT nD τ sig Unit (Elt F) ℕ UU ℕ)) :
    iprop(ctx (msgs I) ∗ ow c (O₀ c) ∗ dutyTok ER (barCell (pr 0 c)) 0 0 ∗ dutyTok ER (barCell (pr 1 c)) 0 1 ∗ dutyTok ER (barCell (pr 2 c)) 0 2
        ∗ slots c 0 (by decide) ∗ slots c 1 (by decide) ∗ slots c 2 (by decide)
        ∗ cred (tallyAt (barCell c) () 3) ∗ atPos ER (barCell c) 0 ∅ 0 ∗ ins I c)
      ⊢ iprop(((ow c (rem 6 c) ∗ semVal (barCell c) 0 ∗ (barPay c 0 ∗ barPay c 1 ∗ barPay c 2) ∗ ins I c)
          -∗ WP c (.ret ⟨c, Scalar.remsi (Scalar.divsi (Dev.word c) 1#32) 8#32, qG I c 0 (by decide), kG I c 0 (by decide), vG I c 0 (by decide),
            raw I c 0 (by decide) 0 (by decide)⟩) K)
        -∗ WP c (onBufs (k0_part1 (F := F))) K) := by
  rw [k0_part1_eq_skeleton]; unfold k0_part1_skel
  simp only [semSignalWord, semWaitWord, Prog.lift, Prog.bind_op, Prog.bind_ret, Prog.pure_eq_ret, wp_deviceId]
  unfold slots ins O₀
  iintro ⟨#Hctx, HO, T0, T1, T2, S0, S1, S2, Hc, Hat, Hx, Hq, Hk, Hv⟩ HK
  iapply (wp_sig (msgs I) c _ 0 (dev1_eq c) rfl rfl (rem 6 c + tB 2 c + tB 1 c)) $$ [HO T0 S0]
  · isplitr; · iexact Hctx
    isplitl [HO]; · iexact HO
    isplitl [T0]; · iexact T0
    iexact S0
  iintro HO
  iapply (wp_sig (msgs I) c _ 1 (dev2_eq c) rfl rfl (rem 6 c + tB 2 c)) $$ [HO T1 S1]
  · isplitr; · iexact Hctx
    isplitl [HO]; · iexact HO
    isplitl [T1]; · iexact T1
    iexact S1
  iintro HO
  iapply (wp_sig (msgs I) c _ 2 (dev3_eq c) rfl rfl (rem 6 c)) $$ [HO T2 S2]
  · isplitr; · iexact Hctx
    isplitl [HO]; · iexact HO
    isplitl [T2]; · iexact T2
    iexact S2
  iintro HO
  iapply (wp_waitBar (msgs I) c rfl rfl) $$ [HO Hc Hat]
  · isplitr; · iexact Hctx
    isplitl [Hc]; · iexact Hc
    isplitl [HO]; · iexact HO
    iexact Hat
  iintro ⟨HO, Hz, Hb⟩
  iapply (wp_ld0 𝒱₀ (c : Thread nD τ) none Set.univ) $$ Hx; iintro Hx
  iapply (wp_ld0 𝒱₀ (c : Thread nD τ) none Set.univ) $$ Hq; iintro Hq
  iapply (wp_ld0 𝒱₀ (c : Thread nD τ) none Set.univ) $$ Hk; iintro Hk
  iapply (wp_ld0 𝒱₀ (c : Thread nD τ) none Set.univ) $$ Hv; iintro Hv
  iapply HK
  isplitl [HO]; · iexact HO
  isplitl [Hz]; · iexact Hz
  isplitl [Hb]; · iexact Hb
  isplitl [Hx]; · iexact Hx
  isplitl [Hq]; · iexact Hq
  isplitl [Hk]; · iexact Hk
  iexact Hv

/-- The first group's first head. -/
theorem part2 (Xo : Vec F S1x4x512x128 .f32) (Xm : Vec F S1x2x4x512 .f32) (K : (Σ' (_ : FVec F S512x1 .f32) (_ : FVec F S512x1 .f32), FVec F S512x128 .f32) → sProp (MT nD τ sig Unit (Elt F) ℕ UU ℕ)) :
    iprop(owns (c : Thread nD τ) (oG 0 lt0_2) fullShare (Xo)
        ∗ owns (c : Thread nD τ) (mlG 0 lt0_2) fullShare (Xm))
      ⊢ iprop(((owns (c : Thread nD τ) (oG 0 lt0_2) fullShare (setO (Xo) 0 lt0_4 (hO I c 0 lt0_2 0 lt0_4))
          ∗ owns (c : Thread nD τ) (mlG 0 lt0_2) fullShare (setH (setH (Xm) 0 0 lt0_2 lt0_4 (hM I c 0 lt0_2 0 0 lt0_2 lt0_4)) 1 0 lt1_2 lt0_4 (hM I c 0 lt0_2 1 0 lt1_2 lt0_4))) -∗ WP c (.ret ⟨k0_pay12 (qG I c 0 lt0_2) (kG I c 0 lt0_2), k0_pay14 (qG I c 0 lt0_2) (kG I c 0 lt0_2), k0_pay15 (qG I c 0 lt0_2) (kG I c 0 lt0_2) (vG I c 0 lt0_2)⟩) K)
        -∗ WP c (onBufs (k0_part2 (F := F)) (qG I c 0 lt0_2) (kG I c 0 lt0_2) (vG I c 0 lt0_2) (raw I c 0 lt0_2 0 lt0_4)) K) := by
  rw [k0_part2_eq_skeleton]; unfold k0_part2_skel
  simp only [Prog.lift, Prog.bind_op, Prog.bind_ret, Prog.pure_eq_ret]
  iintro ⟨Ho, Hm⟩ HK
  iapply (updO c 0 0 lt0_2 lt0_4 (w := hO I c 0 lt0_2 0 lt0_4)) $$ Ho; iintro Ho
  iapply (updH c 0 0 0 lt0_2 lt0_2 lt0_4 (w := hM I c 0 lt0_2 0 0 lt0_2 lt0_4)) $$ Hm; iintro Hm
  iapply (updH c 0 1 0 lt0_2 lt1_2 lt0_4 (w := hM I c 0 lt0_2 1 0 lt1_2 lt0_4)) $$ Hm; iintro Hm
  iapply HK
  isplitl [Ho]; · iexact Ho
  iexact Hm

/-- Its second and third heads. -/
theorem part3 (Xo : Vec F S1x4x512x128 .f32) (Xm : Vec F S1x2x4x512 .f32) (K : FVec F S512 .f32 → sProp (MT nD τ sig Unit (Elt F) ℕ UU ℕ)) :
    iprop(owns (c : Thread nD τ) (oG 0 lt0_2) fullShare (Xo)
        ∗ owns (c : Thread nD τ) (mlG 0 lt0_2) fullShare (Xm))
      ⊢ iprop(((owns (c : Thread nD τ) (oG 0 lt0_2) fullShare (setO (setO (Xo) 1 lt1_4 (hO I c 0 lt0_2 1 lt1_4)) 2 lt2_4 (hO I c 0 lt0_2 2 lt2_4))
          ∗ owns (c : Thread nD τ) (mlG 0 lt0_2) fullShare (setH (setH (setH (Xm) 0 1 lt0_2 lt1_4 (hM I c 0 lt0_2 0 1 lt0_2 lt1_4)) 1 1 lt1_2 lt1_4 (hM I c 0 lt0_2 1 1 lt1_2 lt1_4)) 0 2 lt0_2 lt2_4 (hM I c 0 lt0_2 0 2 lt0_2 lt2_4))) -∗ WP c (.ret (k0_pay24 (qG I c 0 lt0_2) (kG I c 0 lt0_2))) K)
        -∗ WP c (onBufs (k0_part3 (F := F)) (qG I c 0 lt0_2) (kG I c 0 lt0_2) (vG I c 0 lt0_2) (k0_pay12 (qG I c 0 lt0_2) (kG I c 0 lt0_2)) (k0_pay14 (qG I c 0 lt0_2) (kG I c 0 lt0_2)) (k0_pay15 (qG I c 0 lt0_2) (kG I c 0 lt0_2) (vG I c 0 lt0_2))) K) := by
  rw [k0_part3_eq_skeleton]; unfold k0_part3_skel
  simp only [Prog.lift, Prog.bind_op, Prog.bind_ret, Prog.pure_eq_ret]
  iintro ⟨Ho, Hm⟩ HK
  iapply (updO c 0 1 lt0_2 lt1_4 (w := hO I c 0 lt0_2 1 lt1_4)) $$ Ho; iintro Ho
  iapply (updH c 0 0 1 lt0_2 lt0_2 lt1_4 (w := hM I c 0 lt0_2 0 1 lt0_2 lt1_4)) $$ Hm; iintro Hm
  iapply (updH c 0 1 1 lt0_2 lt1_2 lt1_4 (w := hM I c 0 lt0_2 1 1 lt1_2 lt1_4)) $$ Hm; iintro Hm
  iapply (updO c 0 2 lt0_2 lt2_4 (w := hO I c 0 lt0_2 2 lt2_4)) $$ Ho; iintro Ho
  iapply (updH c 0 0 2 lt0_2 lt0_2 lt2_4 (w := hM I c 0 lt0_2 0 2 lt0_2 lt2_4)) $$ Hm; iintro Hm
  iapply HK
  isplitl [Ho]; · iexact Ho
  iexact Hm

/-- Its third and fourth heads; the group's state is whole. -/
theorem part4 (Xo : Vec F S1x4x512x128 .f32) (Xm : Vec F S1x2x4x512 .f32) (v2 : BitVec 32) (K : (Σ' (_ : BitVec 32), FVec F S4x512x128 .bf16) → sProp (MT nD τ sig Unit (Elt F) ℕ UU ℕ)) :
    iprop(owns (c : Thread nD τ) (oG 0 lt0_2) fullShare (setO (setO (setO (Xo) 0 lt0_4 (hO I c 0 lt0_2 0 lt0_4)) 1 lt1_4 (hO I c 0 lt0_2 1 lt1_4)) 2 lt2_4 (hO I c 0 lt0_2 2 lt2_4))
        ∗ owns (c : Thread nD τ) (mlG 0 lt0_2) fullShare (setH (setH (setH (setH (setH (Xm) 0 0 lt0_2 lt0_4 (hM I c 0 lt0_2 0 0 lt0_2 lt0_4)) 1 0 lt1_2 lt0_4 (hM I c 0 lt0_2 1 0 lt1_2 lt0_4)) 0 1 lt0_2 lt1_4 (hM I c 0 lt0_2 0 1 lt0_2 lt1_4)) 1 1 lt1_2 lt1_4 (hM I c 0 lt0_2 1 1 lt1_2 lt1_4)) 0 2 lt0_2 lt2_4 (hM I c 0 lt0_2 0 2 lt0_2 lt2_4)))
      ⊢ iprop(((owns (c : Thread nD τ) (oG 0 lt0_2) fullShare (St I 0 lt0_2 0 c).1
          ∗ owns (c : Thread nD τ) (mlG 0 lt0_2) fullShare (St I 0 lt0_2 0 c).2) -∗ WP c (.ret ⟨Scalar.xori v2 1#32, k0_pay32 (St I 0 lt0_2 0 c).1⟩) K)
        -∗ WP c (onBufs (k0_part4 (F := F)) v2 (qG I c 0 lt0_2) (kG I c 0 lt0_2) (vG I c 0 lt0_2) (k0_pay24 (qG I c 0 lt0_2) (kG I c 0 lt0_2))) K) := by
  rw [k0_part4_eq_skeleton]; unfold k0_part4_skel
  simp only [Prog.lift, Prog.bind_op, Prog.bind_ret, Prog.pure_eq_ret]
  iintro ⟨Ho, Hm⟩ HK
  iapply (updH c 0 1 2 lt0_2 lt1_2 lt2_4 (w := hM I c 0 lt0_2 1 2 lt1_2 lt2_4)) $$ Hm; iintro Hm
  iapply (updO c 0 3 lt0_2 lt3_4 (w := hO I c 0 lt0_2 3 lt3_4)) $$ Ho; iintro Ho
  iapply (updH c 0 0 3 lt0_2 lt0_2 lt3_4 (w := hM I c 0 lt0_2 0 3 lt0_2 lt3_4)) $$ Hm; iintro Hm
  iapply (updH c 0 1 3 lt0_2 lt1_2 lt3_4 (w := hM I c 0 lt0_2 1 3 lt1_2 lt3_4)) $$ Hm; iintro Hm
  ihave Ho := (Entails.of_eq (congrArg (fun z => (owns (c : Thread nD τ) (oG 0 lt0_2) fullShare z : sProp 𝕄)) (setO_all Xo (hO I c 0 lt0_2)))) $$ Ho
  ihave Hm := (Entails.of_eq (congrArg (fun z => (owns (c : Thread nD τ) (mlG 0 lt0_2) fullShare z : sProp 𝕄)) (setH_all Xm (hM I c 0 lt0_2)))) $$ Hm
  iapply (ldO4 c 0 lt0_2) $$ Ho; iintro Ho
  iapply HK
  isplitl [Ho]; · iexact Ho
  iexact Hm

end

end Cert.KernelIdealRun
-- ==== Proof.KernelIdealRun.Attn2.lean ====
/-
# The first start, and the second group's local state
-/
module

public import proofs.«01_k».proof.Proof.KernelIdealRun.Attn

@[expose] public section

noncomputable section

namespace Cert.KernelIdealRun

open Cert.KernelIdeal Cert.KernelIdeal.Gen Cert.Piece

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The sums of the second group's first head. -/
def sum10 (I : In F) (c : Dev nD) : FVec F S512 .f32 :=
  k0_pay42 (sub (n := 3) (Size := S1x512x1024.size) (I.x c) ![0, 0, 0] S1x512x1024.size box_x)
    (sub (n := 2) (Size := S1024x1024.size) (I.wq c) ![0, 512 * 1] S1024x512.size (box_wq (by decide)))
    (sub (n := 4) (Size := S1x2048x2x128.size) (I.k c) ![0, 0, 1, 0] S1x2048x1x128.size (box_kv (by decide)))

section
variable (I : In F) (c : Dev nD)

/-- The first group's first start. -/
theorem part5 (Z : Vec F S1x4x512x128 .bf16) (v114 : BitVec 32) (K : PUnit → sProp (MT nD τ sig Unit (Elt F) ℕ UU ℕ)) :
    iprop(ctx (msgs I)
        ∗ sH c 0 lt0_2 Z
        ∗ mH c 0 lt0_2 (St I 0 lt0_2 0 c).2
        ∗ readyO c 0 0 lt0_3 lt0_2
        ∗ readyM c 0 0 lt0_3 lt0_2
        ∗ ow c (rem 6 c))
      ⊢ iprop(((wt c 0 0 0 ∗ wt c 2 0 0 ∗ ow c (rem 5 c))
          -∗ WP c (.ret ⟨⟩) K)
        -∗ WP c (onBufs (k0_part5 (F := F)) c v114 (k0_pay32 (St I 0 lt0_2 0 c).1)) K) := by
  rw [k0_part5_eq_skeleton]; unfold k0_part5_skel
  simp only [Prog.lift, Prog.bind_op, Prog.bind_ret, Prog.pure_eq_ret]
  iintro ⟨#Hctx, Hs, Hm, RO, RM, HO⟩ HK
  iapply (updSb c 0 lt0_2 (w := (msgs I).bo c 0 0)) $$ Hs; iintro Hs
  iapply (startO I c 5 0 0 lt0_3 lt0_2 (by omega) _ (dev4_eq c)) $$ [Hs RO HO]
  · isplitr; · iexact Hctx
    isplitl [Hs]; · iexact Hs
    isplitl [RO]; · iexact RO
    iexact HO
  iintro ⟨W0, HO⟩
  iapply (startM I c 5 0 0 lt0_3 lt0_2 _ (dev5_eq c)) $$ [Hm RM HO]
  · isplitr; · iexact Hctx
    isplitl [Hm]; · iexact Hm
    isplitl [RM]; · iexact RM
    iexact HO
  iintro ⟨W2, HO⟩
  iapply HK
  isplitl [W0]; · iexact W0
  isplitl [W2]; · iexact W2
  iexact HO

/-- The second group's loads and its first head. -/
theorem part6 (Xo : Vec F S1x4x512x128 .f32) (Xm : Vec F S1x2x4x512 .f32) (K : (Σ' (_ : FVec F S512x512 .f32) (_ : FVec F S2048x128 .f32) (_ : FVec F S2048x128 .f32), FVec F S512 .f32) → sProp (MT nD τ sig Unit (Elt F) ℕ UU ℕ)) :
    iprop(ins I c
        ∗ oH c 1 lt1_2 Xo
        ∗ mH c 1 lt1_2 Xm)
      ⊢ iprop(((ins I c ∗ oH c 1 lt1_2 (setO Xo 0 lt0_4 (hO I c 1 lt1_2 0 lt0_4)) ∗ mH c 1 lt1_2 (setH Xm 0 0 lt0_2 lt0_4 (hM I c 1 lt1_2 0 0 lt0_2 lt0_4)))
          -∗ WP c (.ret ⟨qG I c 1 lt1_2, kG I c 1 lt1_2, vG I c 1 lt1_2, sum10 I c⟩) K)
        -∗ WP c (onBufs (k0_part6 (F := F))) K) := by
  rw [k0_part6_eq_skeleton]; unfold k0_part6_skel
  simp only [Prog.lift, Prog.bind_op, Prog.bind_ret, Prog.pure_eq_ret]
  unfold ins
  iintro ⟨⟨Hx, Hq, Hk, Hv⟩, Ho, Hm⟩ HK
  iapply (wp_ld0 𝒱₀ (c : Thread nD τ) none Set.univ) $$ Hx; iintro Hx
  iapply (wp_ld0 𝒱₀ (c : Thread nD τ) none Set.univ) $$ Hq; iintro Hq
  iapply (wp_ld0 𝒱₀ (c : Thread nD τ) none Set.univ) $$ Hk; iintro Hk
  iapply (wp_ld0 𝒱₀ (c : Thread nD τ) none Set.univ) $$ Hv; iintro Hv
  iapply (updO c 1 0 lt1_2 lt0_4 (w := hO I c 1 lt1_2 0 lt0_4)) $$ Ho; iintro Ho
  iapply (updH c 1 0 0 lt1_2 lt0_2 lt0_4 (w := hM I c 1 lt1_2 0 0 lt0_2 lt0_4)) $$ Hm; iintro Hm
  iapply HK
  isplitl [Hx Hq Hk Hv]
  · isplitl [Hx]; · iexact Hx
    isplitl [Hq]; · iexact Hq
    isplitl [Hk]; · iexact Hk
    iexact Hv
  isplitl [Ho]; · iexact Ho
  iexact Hm

/-- Its first and second heads. -/
theorem part7 (Xo : Vec F S1x4x512x128 .f32) (Xm : Vec F S1x2x4x512 .f32) (K : (Σ' (_ : FVec F S512x1 .f32), FVec F S512x2048 .f32) → sProp (MT nD τ sig Unit (Elt F) ℕ UU ℕ)) :
    iprop(oH c 1 lt1_2 Xo
        ∗ mH c 1 lt1_2 Xm)
      ⊢ iprop(((oH c 1 lt1_2 (setO Xo 1 lt1_4 (hO I c 1 lt1_2 1 lt1_4)) ∗ mH c 1 lt1_2 (setH (setH (setH Xm 1 0 lt1_2 lt0_4 (hM I c 1 lt1_2 1 0 lt1_2 lt0_4)) 0 1 lt0_2 lt1_4 (hM I c 1 lt1_2 0 1 lt0_2 lt1_4)) 1 1 lt1_2 lt1_4 (hM I c 1 lt1_2 1 1 lt1_2 lt1_4)))
          -∗ WP c (.ret ⟨k0_pay51 (qG I c 1 lt1_2) (kG I c 1 lt1_2), k0_pay52 (qG I c 1 lt1_2) (kG I c 1 lt1_2)⟩) K)
        -∗ WP c (onBufs (k0_part7 (F := F)) (qG I c 1 lt1_2) (kG I c 1 lt1_2) (vG I c 1 lt1_2) (sum10 I c)) K) := by
  rw [k0_part7_eq_skeleton]; unfold k0_part7_skel
  simp only [Prog.lift, Prog.bind_op, Prog.bind_ret, Prog.pure_eq_ret]
  iintro ⟨Ho, Hm⟩ HK
  iapply (updH c 1 1 0 lt1_2 lt1_2 lt0_4 (w := hM I c 1 lt1_2 1 0 lt1_2 lt0_4)) $$ Hm; iintro Hm
  iapply (updO c 1 1 lt1_2 lt1_4 (w := hO I c 1 lt1_2 1 lt1_4)) $$ Ho; iintro Ho
  iapply (updH c 1 0 1 lt1_2 lt0_2 lt1_4 (w := hM I c 1 lt1_2 0 1 lt0_2 lt1_4)) $$ Hm; iintro Hm
  iapply (updH c 1 1 1 lt1_2 lt1_2 lt1_4 (w := hM I c 1 lt1_2 1 1 lt1_2 lt1_4)) $$ Hm; iintro Hm
  iapply HK
  isplitl [Ho]; · iexact Ho
  iexact Hm

/-- Its third and fourth heads. -/
theorem part8 (Xo : Vec F S1x4x512x128 .f32) (Xm : Vec F S1x2x4x512 .f32) (K : (Σ' (_ : FVec F S512x1 .f32), FVec F S512 .f32) → sProp (MT nD τ sig Unit (Elt F) ℕ UU ℕ)) :
    iprop(oH c 1 lt1_2 Xo
        ∗ mH c 1 lt1_2 Xm)
      ⊢ iprop(((oH c 1 lt1_2 (setO (setO Xo 2 lt2_4 (hO I c 1 lt1_2 2 lt2_4)) 3 lt3_4 (hO I c 1 lt1_2 3 lt3_4)) ∗ mH c 1 lt1_2 (setH (setH Xm 0 2 lt0_2 lt2_4 (hM I c 1 lt1_2 0 2 lt0_2 lt2_4)) 1 2 lt1_2 lt2_4 (hM I c 1 lt1_2 1 2 lt1_2 lt2_4)))
          -∗ WP c (.ret ⟨k0_pay59 (qG I c 1 lt1_2) (kG I c 1 lt1_2), k0_pay61 (qG I c 1 lt1_2) (kG I c 1 lt1_2)⟩) K)
        -∗ WP c (onBufs (k0_part8 (F := F)) (qG I c 1 lt1_2) (kG I c 1 lt1_2) (vG I c 1 lt1_2) (k0_pay51 (qG I c 1 lt1_2) (kG I c 1 lt1_2)) (k0_pay52 (qG I c 1 lt1_2) (kG I c 1 lt1_2))) K) := by
  rw [k0_part8_eq_skeleton]; unfold k0_part8_skel
  simp only [Prog.lift, Prog.bind_op, Prog.bind_ret, Prog.pure_eq_ret]
  iintro ⟨Ho, Hm⟩ HK
  iapply (updO c 1 2 lt1_2 lt2_4 (w := hO I c 1 lt1_2 2 lt2_4)) $$ Ho; iintro Ho
  iapply (updH c 1 0 2 lt1_2 lt0_2 lt2_4 (w := hM I c 1 lt1_2 0 2 lt0_2 lt2_4)) $$ Hm; iintro Hm
  iapply (updH c 1 1 2 lt1_2 lt1_2 lt2_4 (w := hM I c 1 lt1_2 1 2 lt1_2 lt2_4)) $$ Hm; iintro Hm
  iapply (updO c 1 3 lt1_2 lt3_4 (w := hO I c 1 lt1_2 3 lt3_4)) $$ Ho; iintro Ho
  iapply HK
  isplitl [Ho]; · iexact Ho
  iexact Hm

/-- The second group's state is whole, and its first start begins. -/
theorem part9 (Xo : Vec F S1x4x512x128 .f32) (Xm : Vec F S1x2x4x512 .f32) (Z : Vec F S1x4x512x128 .bf16) (v2 : BitVec 32) (K : BitVec 32 → sProp (MT nD τ sig Unit (Elt F) ℕ UU ℕ)) :
    iprop(ctx (msgs I)
        ∗ oH c 1 lt1_2 (setO (setO (setO (setO Xo 0 lt0_4 (hO I c 1 lt1_2 0 lt0_4)) 1 lt1_4 (hO I c 1 lt1_2 1 lt1_4)) 2 lt2_4 (hO I c 1 lt1_2 2 lt2_4)) 3 lt3_4 (hO I c 1 lt1_2 3 lt3_4))
        ∗ mH c 1 lt1_2 (setH (setH (setH (setH (setH (setH Xm 0 0 lt0_2 lt0_4 (hM I c 1 lt1_2 0 0 lt0_2 lt0_4)) 1 0 lt1_2 lt0_4 (hM I c 1 lt1_2 1 0 lt1_2 lt0_4)) 0 1 lt0_2 lt1_4 (hM I c 1 lt1_2 0 1 lt0_2 lt1_4)) 1 1 lt1_2 lt1_4 (hM I c 1 lt1_2 1 1 lt1_2 lt1_4)) 0 2 lt0_2 lt2_4 (hM I c 1 lt1_2 0 2 lt0_2 lt2_4)) 1 2 lt1_2 lt2_4 (hM I c 1 lt1_2 1 2 lt1_2 lt2_4))
        ∗ sH c 1 lt1_2 Z
        ∗ readyO c 0 1 lt0_3 lt1_2
        ∗ ow c (rem 5 c))
      ⊢ iprop(((oH c 1 lt1_2 (St I 1 lt1_2 0 c).1 ∗ mH c 1 lt1_2 (St I 1 lt1_2 0 c).2 ∗ wt c 0 0 1 ∗ ow c (mid c 4 0 1))
          -∗ WP c (.ret (Scalar.xori v2 1#32)) K)
        -∗ WP c (onBufs (k0_part9 (F := F)) c v2 (k0_pay59 (qG I c 1 lt1_2) (kG I c 1 lt1_2)) (k0_pay61 (qG I c 1 lt1_2) (kG I c 1 lt1_2))) K) := by
  rw [k0_part9_eq_skeleton]; unfold k0_part9_skel
  simp only [Prog.lift, Prog.bind_op, Prog.bind_ret, Prog.pure_eq_ret]
  iintro ⟨#Hctx, Ho, Hm, Hs, RO, HO⟩ HK
  iapply (updH c 1 0 3 lt1_2 lt0_2 lt3_4 (w := hM I c 1 lt1_2 0 3 lt0_2 lt3_4)) $$ Hm; iintro Hm
  iapply (updH c 1 1 3 lt1_2 lt1_2 lt3_4 (w := hM I c 1 lt1_2 1 3 lt1_2 lt3_4)) $$ Hm; iintro Hm
  ihave Ho := (Entails.of_eq (congrArg (fun z => (oH c 1 lt1_2 z : sProp 𝕄)) (setO_all Xo (hO I c 1 lt1_2)))) $$ Ho
  ihave Hm := (Entails.of_eq (congrArg (fun z => (mH c 1 lt1_2 z : sProp 𝕄)) (setH_all Xm (hM I c 1 lt1_2)))) $$ Hm
  iapply (ldO4 c 1 lt1_2) $$ Ho; iintro Ho
  iapply (updSb c 1 lt1_2 (w := (msgs I).bo c 0 1)) $$ Hs; iintro Hs
  iapply (startO I c 4 0 1 lt0_3 lt1_2 (by omega) _ (dev6_eq c)) $$ [Hs RO HO]
  · isplitr; · iexact Hctx
    isplitl [Hs]; · iexact Hs
    isplitl [RO]; · iexact RO
    iexact HO
  iintro ⟨W0, HO⟩
  iapply HK
  isplitl [Ho]; · iexact Ho
  isplitl [Hm]; · iexact Hm
  isplitl [W0]; · iexact W0
  iexact HO

end

end Cert.KernelIdealRun
-- ==== Proof.KernelIdealRun.Exchange.lean ====
/-
# The first two rounds' finishes and the last two rounds' starts
-/
module

public import proofs.«01_k».proof.Proof.KernelIdealRun.Attn2

@[expose] public section

noncomputable section

namespace Cert.KernelIdealRun

open Cert.KernelIdeal Cert.KernelIdeal.Gen Cert.Piece

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (I : In F) (c : Dev nD)

/-- The second group's start of the first round ends; the first group's finish of the first round begins. -/
theorem part10 (v114 v242 : BitVec 32) (K : PUnit → sProp (MT nD τ sig Unit (Elt F) ℕ UU ℕ)) :
    iprop(ctx (msgs I)
        ∗ mH c 1 lt1_2 (St I 1 lt1_2 0 c).2
        ∗ readyM c 0 1 lt0_3 lt1_2
        ∗ ow c (mid c 4 0 1)
        ∗ wt c 0 0 0)
      ⊢ iprop(((wt c 2 0 1 ∗ ow c (rem 4 c) ∗ spent c 0 0 0 ∗ sH c 0 lt0_2 ((msgs I).bo c 0 0))
          -∗ WP c (.ret ⟨⟩) K)
        -∗ WP c (onBufs (k0_part10 (F := F)) c v114 v242) K) := by
  rw [k0_part10_eq_skeleton]; unfold k0_part10_skel
  simp only [Prog.lift, Prog.bind_op, Prog.bind_ret, Prog.pure_eq_ret]
  iintro ⟨#Hctx, Hm, RM, HO, W0⟩ HK
  iapply (startM I c 4 0 1 lt0_3 lt1_2 _ (dev7_eq c)) $$ [Hm RM HO]
  · isplitr; · iexact Hctx
    isplitl [Hm]; · iexact Hm
    isplitl [RM]; · iexact RM
    iexact HO
  iintro ⟨W2, HO⟩
  iapply (wait0 I c 0 0 4 lt0_3 lt0_2 (by omega)) $$ [HO W0]
  · isplitr; · iexact Hctx
    isplitl [HO]; · iexact HO
    iexact W0
  iintro ⟨HO, Z0, Hs⟩
  iapply HK
  isplitl [W2]; · iexact W2
  isplitl [HO]; · iexact HO
  isplitl [Z0]; · iexact Z0
  iexact Hs

/-- The rest of the first group's waits of the first round. -/
theorem part11 (v114 : BitVec 32) (K : FVec F S4x512 .f32 → sProp (MT nD τ sig Unit (Elt F) ℕ UU ℕ)) :
    iprop(ctx (msgs I)
        ∗ ow c (rem 4 c)
        ∗ wt c 1 0 0
        ∗ wt c 2 0 0
        ∗ wt c 3 0 0)
      ⊢ iprop(((ow c (rem 4 c) ∗ spent c 1 0 0 ∗ spent c 2 0 0 ∗ spent c 3 0 0 ∗ coH I c 0 0 lt0_3 lt0_2 ∗ mH c 0 lt0_2 (St I 0 lt0_2 0 c).2 ∗ cmH I c 0 0 lt0_3 lt0_2)
          -∗ WP c (.ret (k0_pay65 (mx I c 0 lt0_2 0))) K)
        -∗ WP c (onBufs (k0_part11 (F := F)) v114) K) := by
  rw [k0_part11_eq_skeleton]; unfold k0_part11_skel
  simp only [Prog.lift, Prog.bind_op, Prog.bind_ret, Prog.pure_eq_ret]
  iintro ⟨#Hctx, HO, W1, W2, W3⟩ HK
  iapply (wait1 I c 0 0 4 lt0_3 lt0_2 (by omega)) $$ [HO W1]
  · isplitr; · iexact Hctx
    isplitl [HO]; · iexact HO
    iexact W1
  iintro ⟨HO, Z1, Hd⟩
  iapply (wait2 I c 0 0 4 lt0_3 lt0_2 (by omega)) $$ [HO W2]
  · isplitr; · iexact Hctx
    isplitl [HO]; · iexact HO
    iexact W2
  iintro ⟨HO, Z2, Hm⟩
  iapply (wait3 I c 0 0 4 lt0_3 lt0_2 (by omega)) $$ [HO W3]
  · isplitr; · iexact Hctx
    isplitl [HO]; · iexact HO
    iexact W3
  iintro ⟨HO, Z3, Hc⟩
  iapply (ldK c 0 0 lt0_2 lt0_2) $$ Hm; iintro Hm
  iapply HK
  isplitl [HO]; · iexact HO
  isplitl [Z1]; · iexact Z1
  isplitl [Z2]; · iexact Z2
  isplitl [Z3]; · iexact Z3
  isplitl [Hd]; · iexact Hd
  isplitl [Hm]; · iexact Hm
  iexact Hc

/-- The first group's merge of the first round: maxima and sums. -/
theorem part12 (K : (Σ' (_ : FVec F S4x512x128 .f32) (_ : FVec F S4x512x128 .f32), FVec F S4x512x1 .f32) → sProp (MT nD τ sig Unit (Elt F) ℕ UU ℕ)) :
    iprop(mH c 0 lt0_2 (St I 0 lt0_2 0 c).2
        ∗ oH c 0 lt0_2 (St I 0 lt0_2 0 c).1
        ∗ cmH I c 0 0 lt0_3 lt0_2
        ∗ coH I c 0 0 lt0_3 lt0_2)
      ⊢ iprop(((mH c 0 lt0_2 (St I 0 lt0_2 1 c).2 ∗ oH c 0 lt0_2 (St I 0 lt0_2 0 c).1 ∗ cmH I c 0 0 lt0_3 lt0_2 ∗ coH I c 0 0 lt0_3 lt0_2)
          -∗ WP c (.ret ⟨k0_pay67 (coV I c 0 lt0_2 0), k0_pay73 (k0_pay65 (mx I c 0 lt0_2 0)) (St I 0 lt0_2 0 c).1 (px I c 0 lt0_2 0), k0_pay74 (k0_pay65 (mx I c 0 lt0_2 0)) (px I c 0 lt0_2 0)⟩) K)
        -∗ WP c (onBufs (k0_part12 (F := F)) (k0_pay65 (mx I c 0 lt0_2 0))) K) := by
  rw [k0_part12_eq_skeleton]; unfold k0_part12_skel
  simp only [Prog.lift, Prog.bind_op, Prog.bind_ret, Prog.pure_eq_ret]
  iintro ⟨Hm, Ho, Hc, Hd⟩ HK
  iapply (ldK c 0 1 lt0_2 lt1_2) $$ Hm; iintro Hm
  iapply (ldO4 c 0 lt0_2) $$ Ho; iintro Ho
  iapply (ldC c 0 0 0 lt0_3 lt0_2 lt0_2) $$ Hc; iintro Hc
  iapply (ldC c 0 0 1 lt0_3 lt0_2 lt1_2) $$ Hc; iintro Hc
  iapply (ldCo c 0 0 lt0_3 lt0_2) $$ Hd; iintro Hd
  iapply (updK c 0 0 lt0_2 lt0_2 (w := mxW I c 0 lt0_2 0)) $$ Hm; iintro Hm
  iapply (updK c 0 1 lt0_2 lt1_2 (w := smW I c 0 lt0_2 0)) $$ Hm; iintro Hm
  iapply HK
  isplitl [Hm]; · iexact Hm
  isplitl [Ho]; · iexact Ho
  isplitl [Hc]; · iexact Hc
  iexact Hd

/-- The first group's output state after the first round, and its start of the second. -/
theorem part13 (Z : Vec F S1x4x512x128 .bf16) (v2 : BitVec 32) (K : BitVec 32 → sProp (MT nD τ sig Unit (Elt F) ℕ UU ℕ)) :
    iprop(ctx (msgs I)
        ∗ oH c 0 lt0_2 (St I 0 lt0_2 0 c).1
        ∗ sH c 0 lt0_2 Z
        ∗ readyO c 1 0 lt1_3 lt0_2
        ∗ ow c (rem 4 c))
      ⊢ iprop(((oH c 0 lt0_2 (St I 0 lt0_2 1 c).1 ∗ wt c 0 1 0 ∗ ow c (mid c 3 1 0))
          -∗ WP c (.ret (Scalar.xori v2 2#32)) K)
        -∗ WP c (onBufs (k0_part13 (F := F)) c v2 (k0_pay67 (coV I c 0 lt0_2 0)) (k0_pay73 (k0_pay65 (mx I c 0 lt0_2 0)) (St I 0 lt0_2 0 c).1 (px I c 0 lt0_2 0)) (k0_pay74 (k0_pay65 (mx I c 0 lt0_2 0)) (px I c 0 lt0_2 0))) K) := by
  rw [k0_part13_eq_skeleton]; unfold k0_part13_skel
  simp only [Prog.lift, Prog.bind_op, Prog.bind_ret, Prog.pure_eq_ret]
  iintro ⟨#Hctx, Ho, Hs, RO, HO⟩ HK
  iapply (updO4 c 0 lt0_2 (w := (St I 0 lt0_2 1 c).1)) $$ Ho; iintro Ho
  iapply (ldO4 c 0 lt0_2) $$ Ho; iintro Ho
  iapply (updSb c 0 lt0_2 (w := (msgs I).bo c 1 0)) $$ Hs; iintro Hs
  iapply (startO I c 3 1 0 lt1_3 lt0_2 (by omega) _ (dev8_eq c)) $$ [Hs RO HO]
  · isplitr; · iexact Hctx
    isplitl [Hs]; · iexact Hs
    isplitl [RO]; · iexact RO
    iexact HO
  iintro ⟨W0, HO⟩
  iapply HK
  isplitl [Ho]; · iexact Ho
  isplitl [W0]; · iexact W0
  iexact HO

/-- The first group's start of the second round ends; the second group's finish of the first round begins. -/
theorem part14 (v242 v334 : BitVec 32) (K : PUnit → sProp (MT nD τ sig Unit (Elt F) ℕ UU ℕ)) :
    iprop(ctx (msgs I)
        ∗ mH c 0 lt0_2 (St I 0 lt0_2 1 c).2
        ∗ readyM c 1 0 lt1_3 lt0_2
        ∗ ow c (mid c 3 1 0)
        ∗ wt c 0 0 1)
      ⊢ iprop(((wt c 2 1 0 ∗ ow c (rem 3 c) ∗ spent c 0 0 1 ∗ sH c 1 lt1_2 ((msgs I).bo c 0 1))
          -∗ WP c (.ret ⟨⟩) K)
        -∗ WP c (onBufs (k0_part14 (F := F)) c v242 v334) K) := by
  rw [k0_part14_eq_skeleton]; unfold k0_part14_skel
  simp only [Prog.lift, Prog.bind_op, Prog.bind_ret, Prog.pure_eq_ret]
  iintro ⟨#Hctx, Hm, RM, HO, W0⟩ HK
  iapply (startM I c 3 1 0 lt1_3 lt0_2 _ (dev9_eq c)) $$ [Hm RM HO]
  · isplitr; · iexact Hctx
    isplitl [Hm]; · iexact Hm
    isplitl [RM]; · iexact RM
    iexact HO
  iintro ⟨W2, HO⟩
  iapply (wait0 I c 0 1 3 lt0_3 lt1_2 (by omega)) $$ [HO W0]
  · isplitr; · iexact Hctx
    isplitl [HO]; · iexact HO
    iexact W0
  iintro ⟨HO, Z0, Hs⟩
  iapply HK
  isplitl [W2]; · iexact W2
  isplitl [HO]; · iexact HO
  isplitl [Z0]; · iexact Z0
  iexact Hs

/-- The rest of the second group's waits of the first round. -/
theorem part15 (v242 : BitVec 32) (K : FVec F S4x512 .f32 → sProp (MT nD τ sig Unit (Elt F) ℕ UU ℕ)) :
    iprop(ctx (msgs I)
        ∗ ow c (rem 3 c)
        ∗ wt c 1 0 1
        ∗ wt c 2 0 1
        ∗ wt c 3 0 1)
      ⊢ iprop(((ow c (rem 3 c) ∗ spent c 1 0 1 ∗ spent c 2 0 1 ∗ spent c 3 0 1 ∗ coH I c 0 1 lt0_3 lt1_2 ∗ mH c 1 lt1_2 (St I 1 lt1_2 0 c).2 ∗ cmH I c 0 1 lt0_3 lt1_2)
          -∗ WP c (.ret (k0_pay77 (mx I c 1 lt1_2 0))) K)
        -∗ WP c (onBufs (k0_part15 (F := F)) v242) K) := by
  rw [k0_part15_eq_skeleton]; unfold k0_part15_skel
  simp only [Prog.lift, Prog.bind_op, Prog.bind_ret, Prog.pure_eq_ret]
  iintro ⟨#Hctx, HO, W1, W2, W3⟩ HK
  iapply (wait1 I c 0 1 3 lt0_3 lt1_2 (by omega)) $$ [HO W1]
  · isplitr; · iexact Hctx
    isplitl [HO]; · iexact HO
    iexact W1
  iintro ⟨HO, Z1, Hd⟩
  iapply (wait2 I c 0 1 3 lt0_3 lt1_2 (by omega)) $$ [HO W2]
  · isplitr; · iexact Hctx
    isplitl [HO]; · iexact HO
    iexact W2
  iintro ⟨HO, Z2, Hm⟩
  iapply (wait3 I c 0 1 3 lt0_3 lt1_2 (by omega)) $$ [HO W3]
  · isplitr; · iexact Hctx
    isplitl [HO]; · iexact HO
    iexact W3
  iintro ⟨HO, Z3, Hc⟩
  iapply (ldK c 1 0 lt1_2 lt0_2) $$ Hm; iintro Hm
  iapply HK
  isplitl [HO]; · iexact HO
  isplitl [Z1]; · iexact Z1
  isplitl [Z2]; · iexact Z2
  isplitl [Z3]; · iexact Z3
  isplitl [Hd]; · iexact Hd
  isplitl [Hm]; · iexact Hm
  iexact Hc

/-- The second group's merge of the first round: maxima and sums. -/
theorem part16 (K : (Σ' (_ : FVec F S4x512x128 .f32), FVec F S4x512x128 .f32) → sProp (MT nD τ sig Unit (Elt F) ℕ UU ℕ)) :
    iprop(mH c 1 lt1_2 (St I 1 lt1_2 0 c).2
        ∗ oH c 1 lt1_2 (St I 1 lt1_2 0 c).1
        ∗ cmH I c 0 1 lt0_3 lt1_2
        ∗ coH I c 0 1 lt0_3 lt1_2)
      ⊢ iprop(((mH c 1 lt1_2 (St I 1 lt1_2 1 c).2 ∗ oH c 1 lt1_2 (St I 1 lt1_2 0 c).1 ∗ cmH I c 0 1 lt0_3 lt1_2 ∗ coH I c 0 1 lt0_3 lt1_2)
          -∗ WP c (.ret ⟨k0_pay84 (k0_pay77 (mx I c 1 lt1_2 0)) (St I 1 lt1_2 0 c).1 (px I c 1 lt1_2 0), k0_pay85 (k0_pay77 (mx I c 1 lt1_2 0)) (px I c 1 lt1_2 0) (coV I c 1 lt1_2 0)⟩) K)
        -∗ WP c (onBufs (k0_part16 (F := F)) (k0_pay77 (mx I c 1 lt1_2 0))) K) := by
  rw [k0_part16_eq_skeleton]; unfold k0_part16_skel
  simp only [Prog.lift, Prog.bind_op, Prog.bind_ret, Prog.pure_eq_ret]
  iintro ⟨Hm, Ho, Hc, Hd⟩ HK
  iapply (ldK c 1 1 lt1_2 lt1_2) $$ Hm; iintro Hm
  iapply (ldO4 c 1 lt1_2) $$ Ho; iintro Ho
  iapply (ldC c 0 1 0 lt0_3 lt1_2 lt0_2) $$ Hc; iintro Hc
  iapply (ldC c 0 1 1 lt0_3 lt1_2 lt1_2) $$ Hc; iintro Hc
  iapply (ldCo c 0 1 lt0_3 lt1_2) $$ Hd; iintro Hd
  iapply (updK c 1 0 lt1_2 lt0_2 (w := mxW I c 1 lt1_2 0)) $$ Hm; iintro Hm
  iapply (updK c 1 1 lt1_2 lt1_2 (w := smW I c 1 lt1_2 0)) $$ Hm; iintro Hm
  iapply HK
  isplitl [Hm]; · iexact Hm
  isplitl [Ho]; · iexact Ho
  isplitl [Hc]; · iexact Hc
  iexact Hd

/-- The second group's output state after the first round, and its start of the second. -/
theorem part17 (Z : Vec F S1x4x512x128 .bf16) (v2 : BitVec 32) (K : (Σ' (_ : BitVec 32), BitVec 32) → sProp (MT nD τ sig Unit (Elt F) ℕ UU ℕ)) :
    iprop(ctx (msgs I)
        ∗ oH c 1 lt1_2 (St I 1 lt1_2 0 c).1
        ∗ sH c 1 lt1_2 Z
        ∗ readyO c 1 1 lt1_3 lt1_2
        ∗ ow c (rem 3 c))
      ⊢ iprop(((oH c 1 lt1_2 (St I 1 lt1_2 1 c).1 ∗ wt c 0 1 1 ∗ ow c (mid c 2 1 1))
          -∗ WP c (.ret ⟨Scalar.xori v2 2#32, 1#32⟩) K)
        -∗ WP c (onBufs (k0_part17 (F := F)) c v2 (k0_pay84 (k0_pay77 (mx I c 1 lt1_2 0)) (St I 1 lt1_2 0 c).1 (px I c 1 lt1_2 0)) (k0_pay85 (k0_pay77 (mx I c 1 lt1_2 0)) (px I c 1 lt1_2 0) (coV I c 1 lt1_2 0))) K) := by
  rw [k0_part17_eq_skeleton]; unfold k0_part17_skel
  simp only [Prog.lift, Prog.bind_op, Prog.bind_ret, Prog.pure_eq_ret]
  iintro ⟨#Hctx, Ho, Hs, RO, HO⟩ HK
  iapply (updO4 c 1 lt1_2 (w := (St I 1 lt1_2 1 c).1)) $$ Ho; iintro Ho
  iapply (ldO4 c 1 lt1_2) $$ Ho; iintro Ho
  iapply (updSb c 1 lt1_2 (w := (msgs I).bo c 1 1)) $$ Hs; iintro Hs
  iapply (startO I c 2 1 1 lt1_3 lt1_2 (by omega) _ (dev10_eq c)) $$ [Hs RO HO]
  · isplitr; · iexact Hctx
    isplitl [Hs]; · iexact Hs
    isplitl [RO]; · iexact RO
    iexact HO
  iintro ⟨W0, HO⟩
  iapply HK
  isplitl [Ho]; · iexact Ho
  isplitl [W0]; · iexact W0
  iexact HO

/-- The second group's start of the second round ends; the first group's finish of the second round begins. -/
theorem part18 (v334 v426 z : BitVec 32) (K : PUnit → sProp (MT nD τ sig Unit (Elt F) ℕ UU ℕ)) :
    iprop(ctx (msgs I)
        ∗ mH c 1 lt1_2 (St I 1 lt1_2 1 c).2
        ∗ readyM c 1 1 lt1_3 lt1_2
        ∗ ow c (mid c 2 1 1)
        ∗ wt c 0 1 0)
      ⊢ iprop(((wt c 2 1 1 ∗ ow c (rem 2 c) ∗ spent c 0 1 0 ∗ sH c 0 lt0_2 ((msgs I).bo c 1 0))
          -∗ WP c (.ret ⟨⟩) K)
        -∗ WP c (onBufs (k0_part18 (F := F)) c v334 v426 z) K) := by
  rw [k0_part18_eq_skeleton]; unfold k0_part18_skel
  simp only [Prog.lift, Prog.bind_op, Prog.bind_ret, Prog.pure_eq_ret]
  iintro ⟨#Hctx, Hm, RM, HO, W0⟩ HK
  iapply (startM I c 2 1 1 lt1_3 lt1_2 _ (dev11_eq c)) $$ [Hm RM HO]
  · isplitr; · iexact Hctx
    isplitl [Hm]; · iexact Hm
    isplitl [RM]; · iexact RM
    iexact HO
  iintro ⟨W2, HO⟩
  iapply (wait0 I c 1 0 2 lt1_3 lt0_2 (by omega)) $$ [HO W0]
  · isplitr; · iexact Hctx
    isplitl [HO]; · iexact HO
    iexact W0
  iintro ⟨HO, Z0, Hs⟩
  iapply HK
  isplitl [W2]; · iexact W2
  isplitl [HO]; · iexact HO
  isplitl [Z0]; · iexact Z0
  iexact Hs

/-- The rest of the first group's waits of the second round. -/
theorem part19 (v334 : BitVec 32) (K : (Σ' (_ : FVec F S4x512 .f32), FVec F S4x512 .f32) → sProp (MT nD τ sig Unit (Elt F) ℕ UU ℕ)) :
    iprop(ctx (msgs I)
        ∗ ow c (rem 2 c)
        ∗ wt c 1 1 0
        ∗ wt c 2 1 0
        ∗ wt c 3 1 0)
      ⊢ iprop(((ow c (rem 2 c) ∗ spent c 1 1 0 ∗ spent c 2 1 0 ∗ spent c 3 1 0 ∗ coH I c 1 0 lt1_3 lt0_2 ∗ mH c 0 lt0_2 (St I 0 lt0_2 1 c).2 ∗ cmH I c 1 0 lt1_3 lt0_2)
          -∗ WP c (.ret ⟨k0_pay88 (mx I c 0 lt0_2 1), k0_pay89 (sm I c 0 lt0_2 1)⟩) K)
        -∗ WP c (onBufs (k0_part19 (F := F)) v334) K) := by
  rw [k0_part19_eq_skeleton]; unfold k0_part19_skel
  simp only [Prog.lift, Prog.bind_op, Prog.bind_ret, Prog.pure_eq_ret]
  iintro ⟨#Hctx, HO, W1, W2, W3⟩ HK
  iapply (wait1 I c 1 0 2 lt1_3 lt0_2 (by omega)) $$ [HO W1]
  · isplitr; · iexact Hctx
    isplitl [HO]; · iexact HO
    iexact W1
  iintro ⟨HO, Z1, Hd⟩
  iapply (wait2 I c 1 0 2 lt1_3 lt0_2 (by omega)) $$ [HO W2]
  · isplitr; · iexact Hctx
    isplitl [HO]; · iexact HO
    iexact W2
  iintro ⟨HO, Z2, Hm⟩
  iapply (wait3 I c 1 0 2 lt1_3 lt0_2 (by omega)) $$ [HO W3]
  · isplitr; · iexact Hctx
    isplitl [HO]; · iexact HO
    iexact W3
  iintro ⟨HO, Z3, Hc⟩
  iapply (ldK c 0 0 lt0_2 lt0_2) $$ Hm; iintro Hm
  iapply (ldK c 0 1 lt0_2 lt1_2) $$ Hm; iintro Hm
  iapply HK
  isplitl [HO]; · iexact HO
  isplitl [Z1]; · iexact Z1
  isplitl [Z2]; · iexact Z2
  isplitl [Z3]; · iexact Z3
  isplitl [Hd]; · iexact Hd
  isplitl [Hm]; · iexact Hm
  iexact Hc

/-- The first group's merge of the second round: maxima and sums. -/
theorem part20 (K : FVec F S4x512x128 .f32 → sProp (MT nD τ sig Unit (Elt F) ℕ UU ℕ)) :
    iprop(mH c 0 lt0_2 (St I 0 lt0_2 1 c).2
        ∗ oH c 0 lt0_2 (St I 0 lt0_2 1 c).1
        ∗ cmH I c 1 0 lt1_3 lt0_2
        ∗ coH I c 1 0 lt1_3 lt0_2)
      ⊢ iprop(((mH c 0 lt0_2 (St I 0 lt0_2 2 c).2 ∗ oH c 0 lt0_2 (St I 0 lt0_2 1 c).1 ∗ cmH I c 1 0 lt1_3 lt0_2 ∗ coH I c 1 0 lt1_3 lt0_2)
          -∗ WP c (.ret (k0_pay96 (k0_pay88 (mx I c 0 lt0_2 1)) (St I 0 lt0_2 1 c).1 (px I c 0 lt0_2 1) (coV I c 0 lt0_2 1))) K)
        -∗ WP c (onBufs (k0_part20 (F := F)) (k0_pay88 (mx I c 0 lt0_2 1)) (k0_pay89 (sm I c 0 lt0_2 1))) K) := by
  rw [k0_part20_eq_skeleton]; unfold k0_part20_skel
  simp only [Prog.lift, Prog.bind_op, Prog.bind_ret, Prog.pure_eq_ret]
  iintro ⟨Hm, Ho, Hc, Hd⟩ HK
  iapply (ldO4 c 0 lt0_2) $$ Ho; iintro Ho
  iapply (ldC c 1 0 0 lt1_3 lt0_2 lt0_2) $$ Hc; iintro Hc
  iapply (ldC c 1 0 1 lt1_3 lt0_2 lt1_2) $$ Hc; iintro Hc
  iapply (ldCo c 1 0 lt1_3 lt0_2) $$ Hd; iintro Hd
  iapply (updK c 0 0 lt0_2 lt0_2 (w := mxW I c 0 lt0_2 1)) $$ Hm; iintro Hm
  iapply (updK c 0 1 lt0_2 lt1_2 (w := smW I c 0 lt0_2 1)) $$ Hm; iintro Hm
  iapply HK
  isplitl [Hm]; · iexact Hm
  isplitl [Ho]; · iexact Ho
  isplitl [Hc]; · iexact Hc
  iexact Hd

/-- The first group's output state after the second round, and its start of the third. -/
theorem part21 (Z : Vec F S1x4x512x128 .bf16) (v2 : BitVec 32) (K : (Σ' (_ : BitVec 32) (_ : BitVec 32), BitVec 32) → sProp (MT nD τ sig Unit (Elt F) ℕ UU ℕ)) :
    iprop(ctx (msgs I)
        ∗ oH c 0 lt0_2 (St I 0 lt0_2 1 c).1
        ∗ sH c 0 lt0_2 Z
        ∗ readyO c 2 0 lt2_3 lt0_2
        ∗ ow c (rem 2 c))
      ⊢ iprop(((oH c 0 lt0_2 (St I 0 lt0_2 2 c).1 ∗ wt c 0 2 0 ∗ ow c (mid c 1 2 0))
          -∗ WP c (.ret ⟨Scalar.xori v2 4#32, Scalar.muli (Scalar.xori v2 4#32) 1#32, 0#32⟩) K)
        -∗ WP c (onBufs (k0_part21 (F := F)) c v2 (k0_pay96 (k0_pay88 (mx I c 0 lt0_2 1)) (St I 0 lt0_2 1 c).1 (px I c 0 lt0_2 1) (coV I c 0 lt0_2 1))) K) := by
  rw [k0_part21_eq_skeleton]; unfold k0_part21_skel
  simp only [Prog.lift, Prog.bind_op, Prog.bind_ret, Prog.pure_eq_ret]
  iintro ⟨#Hctx, Ho, Hs, RO, HO⟩ HK
  iapply (updO4 c 0 lt0_2 (w := (St I 0 lt0_2 2 c).1)) $$ Ho; iintro Ho
  iapply (ldO4 c 0 lt0_2) $$ Ho; iintro Ho
  iapply (updSb c 0 lt0_2 (w := (msgs I).bo c 2 0)) $$ Hs; iintro Hs
  iapply (startO I c 1 2 0 lt2_3 lt0_2 (by omega) _ (dev12_eq c)) $$ [Hs RO HO]
  · isplitr; · iexact Hctx
    isplitl [Hs]; · iexact Hs
    isplitl [RO]; · iexact RO
    iexact HO
  iintro ⟨W0, HO⟩
  iapply HK
  isplitl [Ho]; · iexact Ho
  isplitl [W0]; · iexact W0
  iexact HO

/-- The first group's start of the third round ends; the second group's finish of the second round begins. -/
theorem part22 (v426 v535 z : BitVec 32) (K : PUnit → sProp (MT nD τ sig Unit (Elt F) ℕ UU ℕ)) :
    iprop(ctx (msgs I)
        ∗ mH c 0 lt0_2 (St I 0 lt0_2 2 c).2
        ∗ readyM c 2 0 lt2_3 lt0_2
        ∗ ow c (mid c 1 2 0)
        ∗ wt c 0 1 1)
      ⊢ iprop(((wt c 2 2 0 ∗ ow c (rem 1 c) ∗ spent c 0 1 1 ∗ sH c 1 lt1_2 ((msgs I).bo c 1 1))
          -∗ WP c (.ret ⟨⟩) K)
        -∗ WP c (onBufs (k0_part22 (F := F)) c v426 v535 z) K) := by
  rw [k0_part22_eq_skeleton]; unfold k0_part22_skel
  simp only [Prog.lift, Prog.bind_op, Prog.bind_ret, Prog.pure_eq_ret]
  iintro ⟨#Hctx, Hm, RM, HO, W0⟩ HK
  iapply (startM I c 1 2 0 lt2_3 lt0_2 _ (dev13_eq c)) $$ [Hm RM HO]
  · isplitr; · iexact Hctx
    isplitl [Hm]; · iexact Hm
    isplitl [RM]; · iexact RM
    iexact HO
  iintro ⟨W2, HO⟩
  iapply (wait0 I c 1 1 1 lt1_3 lt1_2 (by omega)) $$ [HO W0]
  · isplitr; · iexact Hctx
    isplitl [HO]; · iexact HO
    iexact W0
  iintro ⟨HO, Z0, Hs⟩
  iapply HK
  isplitl [W2]; · iexact W2
  isplitl [HO]; · iexact HO
  isplitl [Z0]; · iexact Z0
  iexact Hs

/-- The rest of the second group's waits of the second round. -/
theorem part23 (v426 : BitVec 32) (K : (Σ' (_ : FVec F S4x512 .f32), FVec F S4x512 .f32) → sProp (MT nD τ sig Unit (Elt F) ℕ UU ℕ)) :
    iprop(ctx (msgs I)
        ∗ ow c (rem 1 c)
        ∗ wt c 1 1 1
        ∗ wt c 2 1 1
        ∗ wt c 3 1 1)
      ⊢ iprop(((ow c (rem 1 c) ∗ spent c 1 1 1 ∗ spent c 2 1 1 ∗ spent c 3 1 1 ∗ coH I c 1 1 lt1_3 lt1_2 ∗ mH c 1 lt1_2 (St I 1 lt1_2 1 c).2 ∗ cmH I c 1 1 lt1_3 lt1_2)
          -∗ WP c (.ret ⟨k0_pay99 (mx I c 1 lt1_2 1), k0_pay100 (sm I c 1 lt1_2 1)⟩) K)
        -∗ WP c (onBufs (k0_part23 (F := F)) v426) K) := by
  rw [k0_part23_eq_skeleton]; unfold k0_part23_skel
  simp only [Prog.lift, Prog.bind_op, Prog.bind_ret, Prog.pure_eq_ret]
  iintro ⟨#Hctx, HO, W1, W2, W3⟩ HK
  iapply (wait1 I c 1 1 1 lt1_3 lt1_2 (by omega)) $$ [HO W1]
  · isplitr; · iexact Hctx
    isplitl [HO]; · iexact HO
    iexact W1
  iintro ⟨HO, Z1, Hd⟩
  iapply (wait2 I c 1 1 1 lt1_3 lt1_2 (by omega)) $$ [HO W2]
  · isplitr; · iexact Hctx
    isplitl [HO]; · iexact HO
    iexact W2
  iintro ⟨HO, Z2, Hm⟩
  iapply (wait3 I c 1 1 1 lt1_3 lt1_2 (by omega)) $$ [HO W3]
  · isplitr; · iexact Hctx
    isplitl [HO]; · iexact HO
    iexact W3
  iintro ⟨HO, Z3, Hc⟩
  iapply (ldK c 1 0 lt1_2 lt0_2) $$ Hm; iintro Hm
  iapply (ldK c 1 1 lt1_2 lt1_2) $$ Hm; iintro Hm
  iapply HK
  isplitl [HO]; · iexact HO
  isplitl [Z1]; · iexact Z1
  isplitl [Z2]; · iexact Z2
  isplitl [Z3]; · iexact Z3
  isplitl [Hd]; · iexact Hd
  isplitl [Hm]; · iexact Hm
  iexact Hc

/-- The second group's merge of the second round: maxima and sums. -/
theorem part24 (K : FVec F S4x512x128 .f32 → sProp (MT nD τ sig Unit (Elt F) ℕ UU ℕ)) :
    iprop(mH c 1 lt1_2 (St I 1 lt1_2 1 c).2
        ∗ oH c 1 lt1_2 (St I 1 lt1_2 1 c).1
        ∗ cmH I c 1 1 lt1_3 lt1_2
        ∗ coH I c 1 1 lt1_3 lt1_2)
      ⊢ iprop(((mH c 1 lt1_2 (St I 1 lt1_2 2 c).2 ∗ oH c 1 lt1_2 (St I 1 lt1_2 1 c).1 ∗ cmH I c 1 1 lt1_3 lt1_2 ∗ coH I c 1 1 lt1_3 lt1_2)
          -∗ WP c (.ret (k0_pay107 (k0_pay99 (mx I c 1 lt1_2 1)) (St I 1 lt1_2 1 c).1 (px I c 1 lt1_2 1) (coV I c 1 lt1_2 1))) K)
        -∗ WP c (onBufs (k0_part24 (F := F)) (k0_pay99 (mx I c 1 lt1_2 1)) (k0_pay100 (sm I c 1 lt1_2 1))) K) := by
  rw [k0_part24_eq_skeleton]; unfold k0_part24_skel
  simp only [Prog.lift, Prog.bind_op, Prog.bind_ret, Prog.pure_eq_ret]
  iintro ⟨Hm, Ho, Hc, Hd⟩ HK
  iapply (ldO4 c 1 lt1_2) $$ Ho; iintro Ho
  iapply (ldC c 1 1 0 lt1_3 lt1_2 lt0_2) $$ Hc; iintro Hc
  iapply (ldC c 1 1 1 lt1_3 lt1_2 lt1_2) $$ Hc; iintro Hc
  iapply (ldCo c 1 1 lt1_3 lt1_2) $$ Hd; iintro Hd
  iapply (updK c 1 0 lt1_2 lt0_2 (w := mxW I c 1 lt1_2 1)) $$ Hm; iintro Hm
  iapply (updK c 1 1 lt1_2 lt1_2 (w := smW I c 1 lt1_2 1)) $$ Hm; iintro Hm
  iapply HK
  isplitl [Hm]; · iexact Hm
  isplitl [Ho]; · iexact Ho
  isplitl [Hc]; · iexact Hc
  iexact Hd

/-- The second group's output state after the second round, and its start of the third. -/
theorem part25 (Z : Vec F S1x4x512x128 .bf16) (v2 : BitVec 32) (K : BitVec 32 → sProp (MT nD τ sig Unit (Elt F) ℕ UU ℕ)) :
    iprop(ctx (msgs I)
        ∗ oH c 1 lt1_2 (St I 1 lt1_2 1 c).1
        ∗ sH c 1 lt1_2 Z
        ∗ readyO c 2 1 lt2_3 lt1_2
        ∗ ow c (rem 1 c))
      ⊢ iprop(((oH c 1 lt1_2 (St I 1 lt1_2 2 c).1 ∗ wt c 0 2 1 ∗ ow c (mid c 0 2 1))
          -∗ WP c (.ret (Scalar.xori v2 4#32)) K)
        -∗ WP c (onBufs (k0_part25 (F := F)) c v2 (k0_pay107 (k0_pay99 (mx I c 1 lt1_2 1)) (St I 1 lt1_2 1 c).1 (px I c 1 lt1_2 1) (coV I c 1 lt1_2 1))) K) := by
  rw [k0_part25_eq_skeleton]; unfold k0_part25_skel
  simp only [Prog.lift, Prog.bind_op, Prog.bind_ret, Prog.pure_eq_ret]
  iintro ⟨#Hctx, Ho, Hs, RO, HO⟩ HK
  iapply (updO4 c 1 lt1_2 (w := (St I 1 lt1_2 2 c).1)) $$ Ho; iintro Ho
  iapply (ldO4 c 1 lt1_2) $$ Ho; iintro Ho
  iapply (updSb c 1 lt1_2 (w := (msgs I).bo c 2 1)) $$ Hs; iintro Hs
  iapply (startO I c 0 2 1 lt2_3 lt1_2 (by omega) _ (dev14_eq c)) $$ [Hs RO HO]
  · isplitr; · iexact Hctx
    isplitl [Hs]; · iexact Hs
    isplitl [RO]; · iexact RO
    iexact HO
  iintro ⟨W0, HO⟩
  iapply HK
  isplitl [Ho]; · iexact Ho
  isplitl [W0]; · iexact W0
  iexact HO

end

end Cert.KernelIdealRun
-- ==== Proof.KernelIdealRun.Output.lean ====
/-
# The last round's finishes and the output
-/
module

public import proofs.«01_k».proof.Proof.KernelIdealRun.Exchange

@[expose] public section

noncomputable section

namespace Cert.KernelIdealRun

open Cert.KernelIdeal Cert.KernelIdeal.Gen Cert.Piece

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (I : In F) (c : Dev nD)

/-- The second group's last start ends; the first group's last finish begins. -/
theorem part26 (v518 : BitVec 32) (K : PUnit → sProp (MT nD τ sig Unit (Elt F) ℕ UU ℕ)) :
    iprop(ctx (msgs I)
        ∗ mH c 1 lt1_2 (St I 1 lt1_2 2 c).2
        ∗ readyM c 2 1 lt2_3 lt1_2
        ∗ ow c (mid c 0 2 1)
        ∗ wt c 0 2 0
        ∗ wt c 1 2 0)
      ⊢ iprop(((wt c 2 2 1 ∗ ow c (rem 0 c) ∗ spent c 0 2 0 ∗ sH c 0 lt0_2 ((msgs I).bo c 2 0) ∗ spent c 1 2 0 ∗ coH I c 2 0 lt2_3 lt0_2)
          -∗ WP c (.ret ⟨⟩) K)
        -∗ WP c (onBufs (k0_part26 (F := F)) c v518) K) := by
  rw [k0_part26_eq_skeleton]; unfold k0_part26_skel
  simp only [Prog.lift, Prog.bind_op, Prog.bind_ret, Prog.pure_eq_ret]
  iintro ⟨#Hctx, Hm, RM, HO, W0, W1⟩ HK
  iapply (startM I c 0 2 1 lt2_3 lt1_2 _ (dev15_eq c)) $$ [Hm RM HO]
  · isplitr; · iexact Hctx
    isplitl [Hm]; · iexact Hm
    isplitl [RM]; · iexact RM
    iexact HO
  iintro ⟨W2, HO⟩
  iapply (wait0 I c 2 0 0 lt2_3 lt0_2 (by omega)) $$ [HO W0]
  · isplitr; · iexact Hctx
    isplitl [HO]; · iexact HO
    iexact W0
  iintro ⟨HO, Z0, Hs⟩
  iapply (wait1 I c 2 0 0 lt2_3 lt0_2 (by omega)) $$ [HO W1]
  · isplitr; · iexact Hctx
    isplitl [HO]; · iexact HO
    iexact W1
  iintro ⟨HO, Z1, Hd⟩
  iapply HK
  isplitl [W2]; · iexact W2
  isplitl [HO]; · iexact HO
  isplitl [Z0]; · iexact Z0
  isplitl [Hs]; · iexact Hs
  isplitl [Z1]; · iexact Z1
  iexact Hd

/-- The rest of its waits. -/
theorem part27 (v518 : BitVec 32) (K : (Σ' (_ : FVec F S4x512 .f32), FVec F S4x512 .f32) → sProp (MT nD τ sig Unit (Elt F) ℕ UU ℕ)) :
    iprop(ctx (msgs I)
        ∗ ow c (rem 0 c)
        ∗ wt c 2 2 0
        ∗ wt c 3 2 0)
      ⊢ iprop(((ow c (rem 0 c) ∗ spent c 2 2 0 ∗ spent c 3 2 0 ∗ mH c 0 lt0_2 (St I 0 lt0_2 2 c).2 ∗ cmH I c 2 0 lt2_3 lt0_2)
          -∗ WP c (.ret ⟨k0_pay110 (mx I c 0 lt0_2 2), k0_pay111 (sm I c 0 lt0_2 2)⟩) K)
        -∗ WP c (onBufs (k0_part27 (F := F)) v518) K) := by
  rw [k0_part27_eq_skeleton]; unfold k0_part27_skel
  simp only [Prog.lift, Prog.bind_op, Prog.bind_ret, Prog.pure_eq_ret]
  iintro ⟨#Hctx, HO, W2, W3⟩ HK
  iapply (wait2 I c 2 0 0 lt2_3 lt0_2 (by omega)) $$ [HO W2]
  · isplitr; · iexact Hctx
    isplitl [HO]; · iexact HO
    iexact W2
  iintro ⟨HO, Z2, Hm⟩
  iapply (wait3 I c 2 0 0 lt2_3 lt0_2 (by omega)) $$ [HO W3]
  · isplitr; · iexact Hctx
    isplitl [HO]; · iexact HO
    iexact W3
  iintro ⟨HO, Z3, Hc⟩
  iapply (ldK c 0 0 lt0_2 lt0_2) $$ Hm; iintro Hm
  iapply (ldK c 0 1 lt0_2 lt1_2) $$ Hm; iintro Hm
  iapply HK
  isplitl [HO]; · iexact HO
  isplitl [Z2]; · iexact Z2
  isplitl [Z3]; · iexact Z3
  isplitl [Hm]; · iexact Hm
  iexact Hc

/-- The first group's merge of the third round: maxima and sums. -/
theorem part28 (K : (Σ' (_ : FVec F S4x512x128 .f32), Vec F S1x4x512x128 .f32) → sProp (MT nD τ sig Unit (Elt F) ℕ UU ℕ)) :
    iprop(mH c 0 lt0_2 (St I 0 lt0_2 2 c).2
        ∗ oH c 0 lt0_2 (St I 0 lt0_2 2 c).1
        ∗ cmH I c 2 0 lt2_3 lt0_2
        ∗ coH I c 2 0 lt2_3 lt0_2)
      ⊢ iprop(((mH c 0 lt0_2 (St I 0 lt0_2 3 c).2 ∗ oH c 0 lt0_2 (St I 0 lt0_2 2 c).1 ∗ cmH I c 2 0 lt2_3 lt0_2 ∗ coH I c 2 0 lt2_3 lt0_2)
          -∗ WP c (.ret ⟨k0_pay118 (k0_pay110 (mx I c 0 lt0_2 2)) (St I 0 lt0_2 2 c).1 (px I c 0 lt0_2 2) (coV I c 0 lt0_2 2), (St I 0 lt0_2 2 c).1⟩) K)
        -∗ WP c (onBufs (k0_part28 (F := F)) (k0_pay110 (mx I c 0 lt0_2 2)) (k0_pay111 (sm I c 0 lt0_2 2))) K) := by
  rw [k0_part28_eq_skeleton]; unfold k0_part28_skel
  simp only [Prog.lift, Prog.bind_op, Prog.bind_ret, Prog.pure_eq_ret]
  iintro ⟨Hm, Ho, Hc, Hd⟩ HK
  iapply (ldO4 c 0 lt0_2) $$ Ho; iintro Ho
  iapply (ldC c 2 0 0 lt2_3 lt0_2 lt0_2) $$ Hc; iintro Hc
  iapply (ldC c 2 0 1 lt2_3 lt0_2 lt1_2) $$ Hc; iintro Hc
  iapply (ldCo c 2 0 lt2_3 lt0_2) $$ Hd; iintro Hd
  iapply (updK c 0 0 lt0_2 lt0_2 (w := mxW I c 0 lt0_2 2)) $$ Hm; iintro Hm
  iapply (updK c 0 1 lt0_2 lt1_2 (w := smW I c 0 lt0_2 2)) $$ Hm; iintro Hm
  iapply (ldO4 c 0 lt0_2) $$ Ho; iintro Ho
  iapply HK
  isplitl [Hm]; · iexact Hm
  isplitl [Ho]; · iexact Ho
  isplitl [Hc]; · iexact Hc
  iexact Hd

/-- The first group's final output state, and its first two heads' part of the output. -/
theorem part29 (X : Vec F S1x4x512x128 .f32) (K : (Σ' (_ : FVec F S512x1024 .f32) (_ : FVec F S512x128 .f32), Vec F S1x1x1x512 .f32) → sProp (MT nD τ sig Unit (Elt F) ℕ UU ℕ)) :
    iprop(oH c 0 lt0_2 (St I 0 lt0_2 2 c).1
        ∗ mH c 0 lt0_2 (St I 0 lt0_2 3 c).2
        ∗ owns (c : Thread nD τ) (Memref.whole cc0_stg2_0) fullShare (I.wo c))
      ⊢ iprop(((oH c 0 lt0_2 (St I 0 lt0_2 3 c).1 ∗ mH c 0 lt0_2 (St I 0 lt0_2 3 c).2 ∗ owns (c : Thread nD τ) (Memref.whole cc0_stg2_0) fullShare (I.wo c))
          -∗ WP c (.ret ⟨(k0_pay120 (getO (St I 0 lt0_2 3 c).1 0 lt0_4) (getH (St I 0 lt0_2 3 c).2 1 0 lt1_2 lt0_4) (woH I c 0 (by decide)) (getO (St I 0 lt0_2 3 c).1 1 lt1_4) (getH (St I 0 lt0_2 3 c).2 1 1 lt1_2 lt1_4) (woH I c 1 (by decide))), (k0_pay121 (getO (St I 0 lt0_2 3 c).1 2 lt2_4)), (getH (St I 0 lt0_2 3 c).2 1 2 lt1_2 lt2_4)⟩) K)
        -∗ WP c (onBufs (k0_part29 (F := F)) (k0_pay118 (k0_pay110 (mx I c 0 lt0_2 2)) (St I 0 lt0_2 2 c).1 (px I c 0 lt0_2 2) (coV I c 0 lt0_2 2)) X) K) := by
  rw [k0_part29_eq_skeleton]; unfold k0_part29_skel
  simp only [Prog.lift, Prog.bind_op, Prog.bind_ret, Prog.pure_eq_ret]
  iintro ⟨Ho, Hm, Hw⟩ HK
  iapply (stO4 c 0 lt0_2 (w := (St I 0 lt0_2 3 c).1)) $$ Ho; iintro Ho
  iapply (ldO c 0 0 lt0_2 lt0_4) $$ Ho; iintro Ho
  iapply (ldH c 0 1 0 lt0_2 lt1_2 lt0_4) $$ Hm; iintro Hm
  iapply (wp_ld0 𝒱₀ (c : Thread nD τ) none Set.univ) $$ Hw; iintro Hw
  iapply (ldO c 0 1 lt0_2 lt1_4) $$ Ho; iintro Ho
  iapply (ldH c 0 1 1 lt0_2 lt1_2 lt1_4) $$ Hm; iintro Hm
  iapply (wp_ld0 𝒱₀ (c : Thread nD τ) none Set.univ) $$ Hw; iintro Hw
  iapply (ldO c 0 2 lt0_2 lt2_4) $$ Ho; iintro Ho
  iapply (ldH c 0 1 2 lt0_2 lt1_2 lt2_4) $$ Hm; iintro Hm
  iapply HK
  isplitl [Ho]; · iexact Ho
  isplitl [Hm]; · iexact Hm
  iexact Hw

/-- The rest of the first group's part; the second group's last finish begins. -/
theorem part30 (K : FVec F S512x1024 .f32 → sProp (MT nD τ sig Unit (Elt F) ℕ UU ℕ)) :
    iprop(ctx (msgs I)
        ∗ oH c 0 lt0_2 (St I 0 lt0_2 3 c).1
        ∗ mH c 0 lt0_2 (St I 0 lt0_2 3 c).2
        ∗ owns (c : Thread nD τ) (Memref.whole cc0_stg2_0) fullShare (I.wo c)
        ∗ ow c (rem 0 c)
        ∗ wt c 0 2 1)
      ⊢ iprop(((oH c 0 lt0_2 (St I 0 lt0_2 3 c).1 ∗ mH c 0 lt0_2 (St I 0 lt0_2 3 c).2 ∗ owns (c : Thread nD τ) (Memref.whole cc0_stg2_0) fullShare (I.wo c) ∗ ow c (rem 0 c) ∗ spent c 0 2 1 ∗ sH c 1 lt1_2 ((msgs I).bo c 2 1))
          -∗ WP c (.ret (half0 I c (St I 0 lt0_2 3 c).1 (St I 0 lt0_2 3 c).2)) K)
        -∗ WP c (onBufs (k0_part30 (F := F)) (k0_pay120 (getO (St I 0 lt0_2 3 c).1 0 lt0_4) (getH (St I 0 lt0_2 3 c).2 1 0 lt1_2 lt0_4) (woH I c 0 (by decide)) (getO (St I 0 lt0_2 3 c).1 1 lt1_4) (getH (St I 0 lt0_2 3 c).2 1 1 lt1_2 lt1_4) (woH I c 1 (by decide))) (k0_pay121 (getO (St I 0 lt0_2 3 c).1 2 lt2_4)) (getH (St I 0 lt0_2 3 c).2 1 2 lt1_2 lt2_4)) K) := by
  rw [k0_part30_eq_skeleton]; unfold k0_part30_skel
  simp only [Prog.lift, Prog.bind_op, Prog.bind_ret, Prog.pure_eq_ret]
  iintro ⟨#Hctx, Ho, Hm, Hw, HO, W0⟩ HK
  iapply (wp_ld0 𝒱₀ (c : Thread nD τ) none Set.univ) $$ Hw; iintro Hw
  iapply (ldO c 0 3 lt0_2 lt3_4) $$ Ho; iintro Ho
  iapply (ldH c 0 1 3 lt0_2 lt1_2 lt3_4) $$ Hm; iintro Hm
  iapply (wp_ld0 𝒱₀ (c : Thread nD τ) none Set.univ) $$ Hw; iintro Hw
  iapply (wait0 I c 2 1 0 lt2_3 lt1_2 (by omega)) $$ [HO W0]
  · isplitr; · iexact Hctx
    isplitl [HO]; · iexact HO
    iexact W0
  iintro ⟨HO, Z0, Hs⟩
  iapply HK
  isplitl [Ho]; · iexact Ho
  isplitl [Hm]; · iexact Hm
  isplitl [Hw]; · iexact Hw
  isplitl [HO]; · iexact HO
  isplitl [Z0]; · iexact Z0
  iexact Hs

/-- Its next two waits. -/
theorem part31 (v610 : BitVec 32) (K : PUnit → sProp (MT nD τ sig Unit (Elt F) ℕ UU ℕ)) :
    iprop(ctx (msgs I)
        ∗ ow c (rem 0 c)
        ∗ wt c 1 2 1
        ∗ wt c 2 2 1)
      ⊢ iprop(((ow c (rem 0 c) ∗ spent c 1 2 1 ∗ coH I c 2 1 lt2_3 lt1_2 ∗ spent c 2 2 1 ∗ mH c 1 lt1_2 (St I 1 lt1_2 2 c).2)
          -∗ WP c (.ret ⟨⟩) K)
        -∗ WP c (onBufs (k0_part31 (F := F)) v610) K) := by
  rw [k0_part31_eq_skeleton]; unfold k0_part31_skel
  simp only [Prog.lift, Prog.bind_op, Prog.bind_ret, Prog.pure_eq_ret]
  iintro ⟨#Hctx, HO, W1, W2⟩ HK
  iapply (wait1 I c 2 1 0 lt2_3 lt1_2 (by omega)) $$ [HO W1]
  · isplitr; · iexact Hctx
    isplitl [HO]; · iexact HO
    iexact W1
  iintro ⟨HO, Z1, Hd⟩
  iapply (wait2 I c 2 1 0 lt2_3 lt1_2 (by omega)) $$ [HO W2]
  · isplitr; · iexact Hctx
    isplitl [HO]; · iexact HO
    iexact W2
  iintro ⟨HO, Z2, Hm⟩
  iapply HK
  isplitl [HO]; · iexact HO
  isplitl [Z1]; · iexact Z1
  isplitl [Hd]; · iexact Hd
  isplitl [Z2]; · iexact Z2
  iexact Hm

/-- Its last wait, and its merged maxima. -/
theorem part32 (K : (Σ' (_ : FVec F S4x512x128 .f32) (_ : FVec F S4x512x128 .f32) (_ : FVec F S4x512 .f32) (_ : FVec F S4x512 .f32), FVec F S4x512 .f32) → sProp (MT nD τ sig Unit (Elt F) ℕ UU ℕ)) :
    iprop(ctx (msgs I)
        ∗ ow c (rem 0 c)
        ∗ wt c 3 2 1
        ∗ mH c 1 lt1_2 (St I 1 lt1_2 2 c).2
        ∗ oH c 1 lt1_2 (St I 1 lt1_2 2 c).1
        ∗ coH I c 2 1 lt2_3 lt1_2)
      ⊢ iprop(((ow c (rem 0 c) ∗ spent c 3 2 1 ∗ mH c 1 lt1_2 (setK (St I 1 lt1_2 2 c).2 0 lt0_2 (mxW I c 1 lt1_2 2)) ∗ oH c 1 lt1_2 (St I 1 lt1_2 2 c).1 ∗ coH I c 2 1 lt2_3 lt1_2 ∗ cmH I c 2 1 lt2_3 lt1_2)
          -∗ WP c (.ret ⟨k0_pay124 (St I 1 lt1_2 2 c).1, k0_pay126 (coV I c 1 lt1_2 2), k0_pay128 (mx I c 1 lt1_2 2) (px I c 1 lt1_2 2), k0_pay129 (mx I c 1 lt1_2 2) (px I c 1 lt1_2 2), k0_pay131 (mx I c 1 lt1_2 2) (sm I c 1 lt1_2 2) (px I c 1 lt1_2 2) (ps I c 1 lt1_2 2)⟩) K)
        -∗ WP c (onBufs (k0_part32 (F := F))) K) := by
  rw [k0_part32_eq_skeleton]; unfold k0_part32_skel
  simp only [Prog.lift, Prog.bind_op, Prog.bind_ret, Prog.pure_eq_ret]
  iintro ⟨#Hctx, HO, W3, Hm, Ho, Hd⟩ HK
  iapply (wait3 I c 2 1 0 lt2_3 lt1_2 (by omega)) $$ [HO W3]
  · isplitr; · iexact Hctx
    isplitl [HO]; · iexact HO
    iexact W3
  iintro ⟨HO, Z3, Hc⟩
  iapply (ldK c 1 0 lt1_2 lt0_2) $$ Hm; iintro Hm
  iapply (ldK c 1 1 lt1_2 lt1_2) $$ Hm; iintro Hm
  iapply (ldO4 c 1 lt1_2) $$ Ho; iintro Ho
  iapply (ldC c 2 1 0 lt2_3 lt1_2 lt0_2) $$ Hc; iintro Hc
  iapply (ldC c 2 1 1 lt2_3 lt1_2 lt1_2) $$ Hc; iintro Hc
  iapply (ldCo c 2 1 lt2_3 lt1_2) $$ Hd; iintro Hd
  iapply (updK c 1 0 lt1_2 lt0_2 (w := mxW I c 1 lt1_2 2)) $$ Hm; iintro Hm
  iapply HK
  isplitl [HO]; · iexact HO
  isplitl [Z3]; · iexact Z3
  isplitl [Hm]; · iexact Hm
  isplitl [Ho]; · iexact Ho
  isplitl [Hd]; · iexact Hd
  iexact Hc

/-- Its final state, and its first head's part of the output. -/
theorem part33 (K : (Σ' (_ : FVec F S512x1024 .f32) (_ : FVec F S512x128 .f32), FVec F S512x128 .f32) → sProp (MT nD τ sig Unit (Elt F) ℕ UU ℕ)) :
    iprop(mH c 1 lt1_2 (setK (St I 1 lt1_2 2 c).2 0 lt0_2 (mxW I c 1 lt1_2 2))
        ∗ oH c 1 lt1_2 (St I 1 lt1_2 2 c).1
        ∗ owns (c : Thread nD τ) (Memref.whole cc0_stg2_0) fullShare (I.wo c))
      ⊢ iprop(((mH c 1 lt1_2 (St I 1 lt1_2 3 c).2 ∗ oH c 1 lt1_2 (St I 1 lt1_2 3 c).1 ∗ owns (c : Thread nD τ) (Memref.whole cc0_stg2_0) fullShare (I.wo c))
          -∗ WP c (.ret ⟨(k0_pay134 (getO (St I 1 lt1_2 3 c).1 0 lt0_4) (getH (St I 1 lt1_2 3 c).2 1 0 lt1_2 lt0_4) (woH I c 4 (by decide))), (k0_pay135 (getO (St I 1 lt1_2 3 c).1 1 lt1_4)), (k0_pay136 (getH (St I 1 lt1_2 3 c).2 1 1 lt1_2 lt1_4))⟩) K)
        -∗ WP c (onBufs (k0_part33 (F := F)) (k0_pay124 (St I 1 lt1_2 2 c).1) (k0_pay126 (coV I c 1 lt1_2 2)) (k0_pay128 (mx I c 1 lt1_2 2) (px I c 1 lt1_2 2)) (k0_pay129 (mx I c 1 lt1_2 2) (px I c 1 lt1_2 2)) (k0_pay131 (mx I c 1 lt1_2 2) (sm I c 1 lt1_2 2) (px I c 1 lt1_2 2) (ps I c 1 lt1_2 2))) K) := by
  rw [k0_part33_eq_skeleton]; unfold k0_part33_skel
  simp only [Prog.lift, Prog.bind_op, Prog.bind_ret, Prog.pure_eq_ret]
  iintro ⟨Hm, Ho, Hw⟩ HK
  iapply (updK c 1 1 lt1_2 lt1_2 (w := smW I c 1 lt1_2 2)) $$ Hm; iintro Hm
  iapply (updO4 c 1 lt1_2 (w := (St I 1 lt1_2 3 c).1)) $$ Ho; iintro Ho
  iapply (ldO c 1 0 lt1_2 lt0_4) $$ Ho; iintro Ho
  iapply (ldH c 1 1 0 lt1_2 lt1_2 lt0_4) $$ Hm; iintro Hm
  iapply (wp_ld0 𝒱₀ (c : Thread nD τ) none Set.univ) $$ Hw; iintro Hw
  iapply (ldO c 1 1 lt1_2 lt1_4) $$ Ho; iintro Ho
  iapply (ldH c 1 1 1 lt1_2 lt1_2 lt1_4) $$ Hm; iintro Hm
  iapply HK
  isplitl [Hm]; · iexact Hm
  isplitl [Ho]; · iexact Ho
  iexact Hw

/-- The rest of the output. -/
theorem part34 (Y : Vec F S1x512x1024 .f32) (K : PUnit → sProp (MT nD τ sig Unit (Elt F) ℕ UU ℕ)) :
    iprop(mH c 1 lt1_2 (St I 1 lt1_2 3 c).2
        ∗ oH c 1 lt1_2 (St I 1 lt1_2 3 c).1
        ∗ owns (c : Thread nD τ) (Memref.whole cc0_stg2_0) fullShare (I.wo c)
        ∗ owns (c : Thread nD τ) (Memref.whole cc0_stg5_0) fullShare Y)
      ⊢ iprop(((mH c 1 lt1_2 (St I 1 lt1_2 3 c).2 ∗ oH c 1 lt1_2 (St I 1 lt1_2 3 c).1 ∗ owns (c : Thread nD τ) (Memref.whole cc0_stg2_0) fullShare (I.wo c) ∗ owns (c : Thread nD τ) (Memref.whole cc0_stg5_0) fullShare (outV I c))
          -∗ WP c (.ret ⟨⟩) K)
        -∗ WP c (onBufs (k0_part34 (F := F)) (half0 I c (St I 0 lt0_2 3 c).1 (St I 0 lt0_2 3 c).2) (k0_pay134 (getO (St I 1 lt1_2 3 c).1 0 lt0_4) (getH (St I 1 lt1_2 3 c).2 1 0 lt1_2 lt0_4) (woH I c 4 (by decide))) (k0_pay135 (getO (St I 1 lt1_2 3 c).1 1 lt1_4)) (k0_pay136 (getH (St I 1 lt1_2 3 c).2 1 1 lt1_2 lt1_4))) K) := by
  rw [k0_part34_eq_skeleton]; unfold k0_part34_skel
  simp only [Prog.lift, Prog.bind_op, Prog.bind_ret, Prog.pure_eq_ret]
  iintro ⟨Hm, Ho, Hw, Hy⟩ HK
  iapply (wp_ld0 𝒱₀ (c : Thread nD τ) none Set.univ) $$ Hw; iintro Hw
  iapply (ldO c 1 2 lt1_2 lt2_4) $$ Ho; iintro Ho
  iapply (ldH c 1 1 2 lt1_2 lt1_2 lt2_4) $$ Hm; iintro Hm
  iapply (wp_ld0 𝒱₀ (c : Thread nD τ) none Set.univ) $$ Hw; iintro Hw
  iapply (ldO c 1 3 lt1_2 lt3_4) $$ Ho; iintro Ho
  iapply (ldH c 1 1 3 lt1_2 lt1_2 lt3_4) $$ Hm; iintro Hm
  iapply (wp_ld0 𝒱₀ (c : Thread nD τ) none Set.univ) $$ Hw; iintro Hw
  iapply (wp_ld0 𝒱₀ (c : Thread nD τ) none Set.univ) $$ Hy; iintro Hy
  iapply (wp_st0 𝒱₀ (c : Thread nD τ) none Set.univ (w := outV I c) z3) $$ Hy; iintro Hy
  iapply HK
  isplitl [Hm]; · iexact Hm
  isplitl [Ho]; · iexact Ho
  isplitl [Hw]; · iexact Hw
  iexact Hy

end

end Cert.KernelIdealRun
-- ==== Proof.KernelIdealRun.Body.lean ====
/-
# The body
-/
module

public import proofs.«01_k».proof.Proof.KernelIdealRun.Output

@[expose] public section

noncomputable section

namespace Cert.KernelIdealRun

open Cert.KernelIdeal Cert.KernelIdeal.Gen Cert.Piece

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (I : In F) (c : Dev nD)

/-- What device `c` holds for one swap: the duties of its start, its places on the four semaphores, and the credit of
    what it receives. -/
def kit (r g : ℕ) : sProp (MT nD τ sig Unit (Elt F) ℕ UU ℕ) :=
  iprop(tokO c r g ∗ tokM c r g ∗ atPos ER (qcell (six 0 r g) c) 0 ∅ 0 ∗ atPos ER (qcell (six 2 r g) c) 0 ∅ 0 ∗ wt c 1 r g ∗ wt c 3 r g)

/-- What it has of the swap at the end: the landing slots, and four spent semaphores. -/
def after (r g : ℕ) (hr : r < 3) (hg : g < 2) : sProp (MT nD τ sig Unit (Elt F) ℕ UU ℕ) :=
  iprop(coH I c r g hr hg ∗ cmH I c r g hr hg ∗ spent c 0 r g ∗ spent c 1 r g ∗ spent c 2 r g ∗ spent c 3 r g)

/-- The partner's free slot and the transfer's tokens make the start of the output states' transfer ready, -/
theorem mkRO (r g : ℕ) (hr : r < 3) (hg : g < 2) :
    iprop(freeO r g hr hg (pr r c) ∗ tokO c r g ∗ atPos ER (qcell (six 0 r g) c) 0 ∅ 0) ⊢ (readyO c r g hr hg : sProp 𝕄) := .rfl
/-- and likewise that of the maxima and sums. -/
theorem mkRM (r g : ℕ) (hr : r < 3) (hg : g < 2) :
    iprop(freeM r g hr hg (pr r c) ∗ tokM c r g ∗ atPos ER (qcell (six 2 r g) c) 0 ∅ 0) ⊢ (readyM c r g hr hg : sProp 𝕄) := .rfl

/-- A part, and then the rest of the body at what the part returns. -/
theorem step {α β : Type} {p : Prog (TpuEff nD τ sig (Elt F) Λ₀ .tc) α} {k : α → Prog (TpuEff nD τ sig (Elt F) Λ₀ .tc) β}
    {a : α} {P R : sProp (MT nD τ sig Unit (Elt F) ℕ UU ℕ)} (h : ∀ K : α → sProp (MT nD τ sig Unit (Elt F) ℕ UU ℕ), P ⊢ iprop((R -∗ WP c (.ret a) K) -∗ WP c p K))
    {Q : β → sProp (MT nD τ sig Unit (Elt F) ℕ UU ℕ)} :
    P ⊢ iprop((R -∗ WP c (k a) Q) -∗ WP c (p >>= k) Q) := by
  unfold WP
  rw [wp_bind]
  iintro HP Hk
  iapply (h fun x => WP c (k x) Q) $$ HP
  iintro HR
  unfold WP
  rw [wp_ret]
  imodintro
  iapply Hk
  iexact HR

set_option maxHeartbeats 4000000 in
/-- The kernel's body on device `c`, its scratch slabs taken apart. -/
theorem body_core (Xo Xo' : Vec F S1x4x512x128 .f32) (Xm Xm' : Vec F S1x2x4x512 .f32) (Z Z' : Vec F S1x4x512x128 .bf16) (Y : Vec F S1x512x1024 .f32)
    (K : PUnit → sProp (MT nD τ sig Unit (Elt F) ℕ UU ℕ)) :
    iprop(ctx (msgs I) ∗ ow c (O₀ c) ∗ dutyTok ER (barCell (pr 0 c)) 0 0 ∗ dutyTok ER (barCell (pr 1 c)) 0 1 ∗ dutyTok ER (barCell (pr 2 c)) 0 2 ∗ slots c 0 lt0_3 ∗ slots c 1 lt1_3 ∗ slots c 2 lt2_3 ∗ cred (tallyAt (barCell c) () 3) ∗ atPos ER (barCell c) 0 ∅ 0 ∗ ins I c ∗ owns (c : Thread nD τ) (Memref.whole cc0_stg2_0) fullShare (I.wo c) ∗ owns (c : Thread nD τ) (Memref.whole cc0_stg5_0) fullShare Y ∗ oH c 0 lt0_2 Xo ∗ mH c 0 lt0_2 Xm ∗ oH c 1 lt1_2 Xo' ∗ mH c 1 lt1_2 Xm' ∗ sH c 0 lt0_2 Z ∗ sH c 1 lt1_2 Z' ∗ kit c 0 0 ∗ kit c 0 1 ∗ kit c 1 0 ∗ kit c 1 1 ∗ kit c 2 0 ∗ kit c 2 1)
      ⊢ iprop(((ow c 0 ∗ semVal (barCell c) 0 ∗ ins I c ∗ owns (c : Thread nD τ) (Memref.whole cc0_stg2_0) fullShare (I.wo c) ∗ owns (c : Thread nD τ) (Memref.whole cc0_stg5_0) fullShare (outV I c) ∗ oH c 0 lt0_2 (St I 0 lt0_2 3 c).1 ∗ mH c 0 lt0_2 (St I 0 lt0_2 3 c).2 ∗ oH c 1 lt1_2 (St I 1 lt1_2 3 c).1 ∗ mH c 1 lt1_2 (St I 1 lt1_2 3 c).2 ∗ sH c 0 lt0_2 ((msgs I).bo c 2 0) ∗ sH c 1 lt1_2 ((msgs I).bo c 2 1) ∗ after I c 0 0 lt0_3 lt0_2 ∗ after I c 0 1 lt0_3 lt1_2 ∗ after I c 1 0 lt1_3 lt0_2 ∗ after I c 1 1 lt1_3 lt1_2 ∗ after I c 2 0 lt2_3 lt0_2 ∗ after I c 2 1 lt2_3 lt1_2)
          -∗ K ⟨⟩) -∗ WP c (onBufs (cc0_body (F := F))) K) := by
  rw [cc0_body_eq_skeleton]; unfold cc0_body_skel kit
  iintro ⟨#Hctx, HO, T0, T1, T2, L0, L1, L2, Hcb, Hab, Hi, Hw, Hy, O0, M0, O1, M1, S0, S1, ⟨t00, u00, a00, b00, W100, W300⟩, ⟨t01, u01, a01, b01, W101, W301⟩, ⟨t10, u10, a10, b10, W110, W310⟩, ⟨t11, u11, a11, b11, W111, W311⟩, ⟨t20, u20, a20, b20, W120, W320⟩, ⟨t21, u21, a21, b21, W121, W321⟩⟩ HK
  iapply (step c (part1 I c)) $$ [HO T0 T1 T2 L0 L1 L2 Hcb Hab Hi]
  · isplitr; · iexact Hctx
    isplitl [HO]; · iexact HO
    isplitl [T0]; · iexact T0
    isplitl [T1]; · iexact T1
    isplitl [T2]; · iexact T2
    isplitl [L0]; · iexact L0
    isplitl [L1]; · iexact L1
    isplitl [L2]; · iexact L2
    isplitl [Hcb]; · iexact Hcb
    isplitl [Hab]; · iexact Hab
    iexact Hi
  iintro ⟨HO, Zb, Hb, Hi⟩
  unfold barPay
  icases Hb with ⟨⟨F00, G00, F01, G01⟩, ⟨F10, G10, F11, G11⟩, ⟨F20, G20, F21, G21⟩⟩
  ihave RO00 := (mkRO c 0 0 lt0_3 lt0_2) $$ [F00 t00 a00]
  · isplitl [F00]; · iexact F00
    isplitl [t00]; · iexact t00
    iexact a00
  ihave RM00 := (mkRM c 0 0 lt0_3 lt0_2) $$ [G00 u00 b00]
  · isplitl [G00]; · iexact G00
    isplitl [u00]; · iexact u00
    iexact b00
  ihave RO01 := (mkRO c 0 1 lt0_3 lt1_2) $$ [F01 t01 a01]
  · isplitl [F01]; · iexact F01
    isplitl [t01]; · iexact t01
    iexact a01
  ihave RM01 := (mkRM c 0 1 lt0_3 lt1_2) $$ [G01 u01 b01]
  · isplitl [G01]; · iexact G01
    isplitl [u01]; · iexact u01
    iexact b01
  ihave RO10 := (mkRO c 1 0 lt1_3 lt0_2) $$ [F10 t10 a10]
  · isplitl [F10]; · iexact F10
    isplitl [t10]; · iexact t10
    iexact a10
  ihave RM10 := (mkRM c 1 0 lt1_3 lt0_2) $$ [G10 u10 b10]
  · isplitl [G10]; · iexact G10
    isplitl [u10]; · iexact u10
    iexact b10
  ihave RO11 := (mkRO c 1 1 lt1_3 lt1_2) $$ [F11 t11 a11]
  · isplitl [F11]; · iexact F11
    isplitl [t11]; · iexact t11
    iexact a11
  ihave RM11 := (mkRM c 1 1 lt1_3 lt1_2) $$ [G11 u11 b11]
  · isplitl [G11]; · iexact G11
    isplitl [u11]; · iexact u11
    iexact b11
  ihave RO20 := (mkRO c 2 0 lt2_3 lt0_2) $$ [F20 t20 a20]
  · isplitl [F20]; · iexact F20
    isplitl [t20]; · iexact t20
    iexact a20
  ihave RM20 := (mkRM c 2 0 lt2_3 lt0_2) $$ [G20 u20 b20]
  · isplitl [G20]; · iexact G20
    isplitl [u20]; · iexact u20
    iexact b20
  ihave RO21 := (mkRO c 2 1 lt2_3 lt1_2) $$ [F21 t21 a21]
  · isplitl [F21]; · iexact F21
    isplitl [t21]; · iexact t21
    iexact a21
  ihave RM21 := (mkRM c 2 1 lt2_3 lt1_2) $$ [G21 u21 b21]
  · isplitl [G21]; · iexact G21
    isplitl [u21]; · iexact u21
    iexact b21
  iapply (step c (part2 I c _ _)) $$ [O0 M0]
  · isplitl [O0]; · iexact O0
    iexact M0
  iintro ⟨O0, M0⟩
  iapply (step c (part3 I c _ _)) $$ [O0 M0]
  · isplitl [O0]; · iexact O0
    iexact M0
  iintro ⟨O0, M0⟩
  iapply (step c (part4 I c Xo Xm _)) $$ [O0 M0]
  · isplitl [O0]; · iexact O0
    iexact M0
  iintro ⟨O0, M0⟩
  iapply (step c (part5 I c Z _)) $$ [S0 M0 RO00 RM00 HO]
  · isplitr; · iexact Hctx
    isplitl [S0]; · iexact S0
    isplitl [M0]; · iexact M0
    isplitl [RO00]; · iexact RO00
    isplitl [RM00]; · iexact RM00
    iexact HO
  iintro ⟨W000, W200, HO⟩
  iapply (step c (part6 I c _ _)) $$ [Hi O1 M1]
  · isplitl [Hi]; · iexact Hi
    isplitl [O1]; · iexact O1
    iexact M1
  iintro ⟨Hi, O1, M1⟩
  iapply (step c (part7 I c _ _)) $$ [O1 M1]
  · isplitl [O1]; · iexact O1
    iexact M1
  iintro ⟨O1, M1⟩
  iapply (step c (part8 I c _ _)) $$ [O1 M1]
  · isplitl [O1]; · iexact O1
    iexact M1
  iintro ⟨O1, M1⟩
  iapply (step c (part9 I c Xo' Xm' Z' _)) $$ [O1 M1 S1 RO01 HO]
  · isplitr; · iexact Hctx
    isplitl [O1]; · iexact O1
    isplitl [M1]; · iexact M1
    isplitl [S1]; · iexact S1
    isplitl [RO01]; · iexact RO01
    iexact HO
  iintro ⟨O1, M1, W001, HO⟩
  iapply (step c (part10 I c _ _)) $$ [M1 RM01 HO W000]
  · isplitr; · iexact Hctx
    isplitl [M1]; · iexact M1
    isplitl [RM01]; · iexact RM01
    isplitl [HO]; · iexact HO
    iexact W000
  iintro ⟨W201, HO, Z000, S0⟩
  iapply (step c (part11 I c _)) $$ [HO W100 W200 W300]
  · isplitr; · iexact Hctx
    isplitl [HO]; · iexact HO
    isplitl [W100]; · iexact W100
    isplitl [W200]; · iexact W200
    iexact W300
  iintro ⟨HO, Z100, Z200, Z300, D00, M0, C00⟩
  iapply (step c (part12 I c)) $$ [M0 O0 C00 D00]
  · isplitl [M0]; · iexact M0
    isplitl [O0]; · iexact O0
    isplitl [C00]; · iexact C00
    iexact D00
  iintro ⟨M0, O0, C00, D00⟩
  iapply (step c (part13 I c _ _)) $$ [O0 S0 RO10 HO]
  · isplitr; · iexact Hctx
    isplitl [O0]; · iexact O0
    isplitl [S0]; · iexact S0
    isplitl [RO10]; · iexact RO10
    iexact HO
  iintro ⟨O0, W010, HO⟩
  iapply (step c (part14 I c _ _)) $$ [M0 RM10 HO W001]
  · isplitr; · iexact Hctx
    isplitl [M0]; · iexact M0
    isplitl [RM10]; · iexact RM10
    isplitl [HO]; · iexact HO
    iexact W001
  iintro ⟨W210, HO, Z001, S1⟩
  iapply (step c (part15 I c _)) $$ [HO W101 W201 W301]
  · isplitr; · iexact Hctx
    isplitl [HO]; · iexact HO
    isplitl [W101]; · iexact W101
    isplitl [W201]; · iexact W201
    iexact W301
  iintro ⟨HO, Z101, Z201, Z301, D01, M1, C01⟩
  iapply (step c (part16 I c)) $$ [M1 O1 C01 D01]
  · isplitl [M1]; · iexact M1
    isplitl [O1]; · iexact O1
    isplitl [C01]; · iexact C01
    iexact D01
  iintro ⟨M1, O1, C01, D01⟩
  iapply (step c (part17 I c _ _)) $$ [O1 S1 RO11 HO]
  · isplitr; · iexact Hctx
    isplitl [O1]; · iexact O1
    isplitl [S1]; · iexact S1
    isplitl [RO11]; · iexact RO11
    iexact HO
  iintro ⟨O1, W011, HO⟩
  iapply (step c (part18 I c _ _ _)) $$ [M1 RM11 HO W010]
  · isplitr; · iexact Hctx
    isplitl [M1]; · iexact M1
    isplitl [RM11]; · iexact RM11
    isplitl [HO]; · iexact HO
    iexact W010
  iintro ⟨W211, HO, Z010, S0⟩
  iapply (step c (part19 I c _)) $$ [HO W110 W210 W310]
  · isplitr; · iexact Hctx
    isplitl [HO]; · iexact HO
    isplitl [W110]; · iexact W110
    isplitl [W210]; · iexact W210
    iexact W310
  iintro ⟨HO, Z110, Z210, Z310, D10, M0, C10⟩
  iapply (step c (part20 I c)) $$ [M0 O0 C10 D10]
  · isplitl [M0]; · iexact M0
    isplitl [O0]; · iexact O0
    isplitl [C10]; · iexact C10
    iexact D10
  iintro ⟨M0, O0, C10, D10⟩
  iapply (step c (part21 I c _ _)) $$ [O0 S0 RO20 HO]
  · isplitr; · iexact Hctx
    isplitl [O0]; · iexact O0
    isplitl [S0]; · iexact S0
    isplitl [RO20]; · iexact RO20
    iexact HO
  iintro ⟨O0, W020, HO⟩
  iapply (step c (part22 I c _ _ _)) $$ [M0 RM20 HO W011]
  · isplitr; · iexact Hctx
    isplitl [M0]; · iexact M0
    isplitl [RM20]; · iexact RM20
    isplitl [HO]; · iexact HO
    iexact W011
  iintro ⟨W220, HO, Z011, S1⟩
  iapply (step c (part23 I c _)) $$ [HO W111 W211 W311]
  · isplitr; · iexact Hctx
    isplitl [HO]; · iexact HO
    isplitl [W111]; · iexact W111
    isplitl [W211]; · iexact W211
    iexact W311
  iintro ⟨HO, Z111, Z211, Z311, D11, M1, C11⟩
  iapply (step c (part24 I c)) $$ [M1 O1 C11 D11]
  · isplitl [M1]; · iexact M1
    isplitl [O1]; · iexact O1
    isplitl [C11]; · iexact C11
    iexact D11
  iintro ⟨M1, O1, C11, D11⟩
  iapply (step c (part25 I c _ _)) $$ [O1 S1 RO21 HO]
  · isplitr; · iexact Hctx
    isplitl [O1]; · iexact O1
    isplitl [S1]; · iexact S1
    isplitl [RO21]; · iexact RO21
    iexact HO
  iintro ⟨O1, W021, HO⟩
  iapply (step c (part26 I c _)) $$ [M1 RM21 HO W020 W120]
  · isplitr; · iexact Hctx
    isplitl [M1]; · iexact M1
    isplitl [RM21]; · iexact RM21
    isplitl [HO]; · iexact HO
    isplitl [W020]; · iexact W020
    iexact W120
  iintro ⟨W221, HO, Z020, S0, Z120, D20⟩
  iapply (step c (part27 I c _)) $$ [HO W220 W320]
  · isplitr; · iexact Hctx
    isplitl [HO]; · iexact HO
    isplitl [W220]; · iexact W220
    iexact W320
  iintro ⟨HO, Z220, Z320, M0, C20⟩
  iapply (step c (part28 I c)) $$ [M0 O0 C20 D20]
  · isplitl [M0]; · iexact M0
    isplitl [O0]; · iexact O0
    isplitl [C20]; · iexact C20
    iexact D20
  iintro ⟨M0, O0, C20, D20⟩
  iapply (step c (part29 I c _)) $$ [O0 M0 Hw]
  · isplitl [O0]; · iexact O0
    isplitl [M0]; · iexact M0
    iexact Hw
  iintro ⟨O0, M0, Hw⟩
  iapply (step c (part30 I c)) $$ [O0 M0 Hw HO W021]
  · isplitr; · iexact Hctx
    isplitl [O0]; · iexact O0
    isplitl [M0]; · iexact M0
    isplitl [Hw]; · iexact Hw
    isplitl [HO]; · iexact HO
    iexact W021
  iintro ⟨O0, M0, Hw, HO, Z021, S1⟩
  iapply (step c (part31 I c _)) $$ [HO W121 W221]
  · isplitr; · iexact Hctx
    isplitl [HO]; · iexact HO
    isplitl [W121]; · iexact W121
    iexact W221
  iintro ⟨HO, Z121, D21, Z221, M1⟩
  iapply (step c (part32 I c)) $$ [HO W321 M1 O1 D21]
  · isplitr; · iexact Hctx
    isplitl [HO]; · iexact HO
    isplitl [W321]; · iexact W321
    isplitl [M1]; · iexact M1
    isplitl [O1]; · iexact O1
    iexact D21
  iintro ⟨HO, Z321, M1, O1, D21, C21⟩
  iapply (step c (part33 I c)) $$ [M1 O1 Hw]
  · isplitl [M1]; · iexact M1
    isplitl [O1]; · iexact O1
    iexact Hw
  iintro ⟨M1, O1, Hw⟩
  iapply (step c (part34 I c _)) $$ [M1 O1 Hw Hy]
  · isplitl [M1]; · iexact M1
    isplitl [O1]; · iexact O1
    isplitl [Hw]; · iexact Hw
    iexact Hy
  iintro ⟨M1, O1, Hw, Hy⟩
  unfold WP
  rw [wp_pure]
  imodintro
  unfold after
  iapply HK
  isplitl [HO]; · iexact HO
  isplitl [Zb]; · iexact Zb
  isplitl [Hi]; · iexact Hi
  isplitl [Hw]; · iexact Hw
  isplitl [Hy]; · iexact Hy
  isplitl [O0]; · iexact O0
  isplitl [M0]; · iexact M0
  isplitl [O1]; · iexact O1
  isplitl [M1]; · iexact M1
  isplitl [S0]; · iexact S0
  isplitl [S1]; · iexact S1
  isplitl [D00 C00 Z000 Z100 Z200 Z300]
  · isplitl [D00]; · iexact D00
    isplitl [C00]; · iexact C00
    isplitl [Z000]; · iexact Z000
    isplitl [Z100]; · iexact Z100
    isplitl [Z200]; · iexact Z200
    iexact Z300
  isplitl [D01 C01 Z001 Z101 Z201 Z301]
  · isplitl [D01]; · iexact D01
    isplitl [C01]; · iexact C01
    isplitl [Z001]; · iexact Z001
    isplitl [Z101]; · iexact Z101
    isplitl [Z201]; · iexact Z201
    iexact Z301
  isplitl [D10 C10 Z010 Z110 Z210 Z310]
  · isplitl [D10]; · iexact D10
    isplitl [C10]; · iexact C10
    isplitl [Z010]; · iexact Z010
    isplitl [Z110]; · iexact Z110
    isplitl [Z210]; · iexact Z210
    iexact Z310
  isplitl [D11 C11 Z011 Z111 Z211 Z311]
  · isplitl [D11]; · iexact D11
    isplitl [C11]; · iexact C11
    isplitl [Z011]; · iexact Z011
    isplitl [Z111]; · iexact Z111
    isplitl [Z211]; · iexact Z211
    iexact Z311
  isplitl [D20 C20 Z020 Z120 Z220 Z320]
  · isplitl [D20]; · iexact D20
    isplitl [C20]; · iexact C20
    isplitl [Z020]; · iexact Z020
    isplitl [Z120]; · iexact Z120
    isplitl [Z220]; · iexact Z220
    iexact Z320
  isplitl [D21]; · iexact D21
  isplitl [C21]; · iexact C21
  isplitl [Z021]; · iexact Z021
  isplitl [Z121]; · iexact Z121
  isplitl [Z221]; · iexact Z221
  iexact Z321

end

end Cert.KernelIdealRun
-- ==== Proof.KernelIdealRun.Slabs.lean ====
/-
# The scratch buffers, whole and in slabs

At the launch a device holds its five scratch buffers whole, at contents nobody knows. The body works on their slabs:
two of each of the first three, and six landing slots of each of the last two.
-/
module

public import proofs.«01_k».proof.Proof.KernelIdealRun.Body

@[expose] public section

noncomputable section

namespace Cert.KernelIdealRun

open Cert.KernelIdeal Cert.KernelIdeal.Gen Cert.Piece

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every element type has a value. -/
instance elt_nonempty (e : EltTy) : Nonempty (Elt F e) := by
  cases e <;> first | exact ⟨(0 : BitVec _)⟩ | exact ⟨FloatOps.ofBits _ 0⟩

/-! ## The boxes cover and do not meet -/

abbrev boxO (t : Fin 2) : Rect S2x4x512x128 := Rect.unit (s := S2x4x512x128) ![t.val, 0, 0, 0] S1x4x512x128.size (inb_o t.isLt)
abbrev boxM (t : Fin 2) : Rect S2x2x4x512 := Rect.unit (s := S2x2x4x512) ![t.val, 0, 0, 0] S1x2x4x512.size (inb_ml t.isLt)
abbrev boxCO (t : Fin 3 × Fin 2) : Rect S3x2x4x512x128 :=
  Rect.unit (s := S3x2x4x512x128) ![t.1.val, t.2.val, 0, 0, 0] S1x1x4x512x128.size (inb_co t.1.isLt t.2.isLt)
abbrev boxCM (t : Fin 3 × Fin 2) : Rect S3x2x2x4x512 :=
  Rect.unit (s := S3x2x2x4x512) ![t.1.val, t.2.val, 0, 0, 0] S1x1x2x4x512.size (inb_cm t.1.isLt t.2.isLt)

/-- The slabs of the output states do not meet, -/
theorem boxO_disj (t t' : Fin 2) (h : t ≠ t') : Disjoint (boxO t).set (boxO t').set :=
  Rect.unit_disjoint 0 (show t.val + 1 ≤ t'.val ∨ t'.val + 1 ≤ t.val by have := fun e => h (Fin.ext e); omega)
/-- nor those of the maxima and sums, -/
theorem boxM_disj (t t' : Fin 2) (h : t ≠ t') : Disjoint (boxM t).set (boxM t').set :=
  Rect.unit_disjoint 0 (show t.val + 1 ≤ t'.val ∨ t'.val + 1 ≤ t.val by have := fun e => h (Fin.ext e); omega)

/-- (two different slabs differ in the round or in the group) -/
theorem pair_ne {t t' : Fin 3 × Fin 2} (h : t ≠ t') : t.1.val ≠ t'.1.val ∨ t.2.val ≠ t'.2.val := by
  by_contra hn
  rw [not_or, not_not, not_not] at hn
  exact h (Prod.ext (Fin.ext hn.1) (Fin.ext hn.2))

/-- nor those of the received output states -/
theorem boxCO_disj (t t' : Fin 3 × Fin 2) (h : t ≠ t') : Disjoint (boxCO t).set (boxCO t').set := by
  rcases pair_ne h with h1 | h1
  · exact Rect.unit_disjoint 0 (show t.1.val + 1 ≤ t'.1.val ∨ t'.1.val + 1 ≤ t.1.val by omega)
  · exact Rect.unit_disjoint 1 (show t.2.val + 1 ≤ t'.2.val ∨ t'.2.val + 1 ≤ t.2.val by omega)
/-- or of the received maxima and sums. -/
theorem boxCM_disj (t t' : Fin 3 × Fin 2) (h : t ≠ t') : Disjoint (boxCM t).set (boxCM t').set := by
  rcases pair_ne h with h1 | h1
  · exact Rect.unit_disjoint 0 (show t.1.val + 1 ≤ t'.1.val ∨ t'.1.val + 1 ≤ t.1.val by omega)
  · exact Rect.unit_disjoint 1 (show t.2.val + 1 ≤ t'.2.val ∨ t'.2.val + 1 ≤ t.2.val by omega)

/-- A coordinate that is its own box's, and one that the box takes whole. -/
theorem at_one (n : ℕ) : n ≤ n ∧ n < n + 1 := ⟨le_rfl, Nat.lt_succ_self n⟩
/-- A coordinate of a whole axis lies in it. -/
theorem at_all {n k : ℕ} (h : n < k) : 0 ≤ n ∧ n < 0 + k := ⟨Nat.zero_le _, by omega⟩

/-- The slabs are all of the output states, -/
theorem boxO_cov (i : S2x4x512x128.Idx) : ∃ t, i ∈ (boxO t).set := by
  refine ⟨⟨(i 0).val, (i 0).isLt⟩, Rect.mem_set_unit.mpr fun a => ?_⟩
  fin_cases a
  exacts [at_one _, at_all (i 1).isLt, at_all (i 2).isLt, at_all (i 3).isLt]
/-- of the maxima and sums, -/
theorem boxM_cov (i : S2x2x4x512.Idx) : ∃ t, i ∈ (boxM t).set := by
  refine ⟨⟨(i 0).val, (i 0).isLt⟩, Rect.mem_set_unit.mpr fun a => ?_⟩
  fin_cases a
  exacts [at_one _, at_all (i 1).isLt, at_all (i 2).isLt, at_all (i 3).isLt]
/-- of the received output states -/
theorem boxCO_cov (i : S3x2x4x512x128.Idx) : ∃ t, i ∈ (boxCO t).set := by
  refine ⟨(⟨(i 0).val, (i 0).isLt⟩, ⟨(i 1).val, (i 1).isLt⟩), Rect.mem_set_unit.mpr fun a => ?_⟩
  fin_cases a
  exacts [at_one _, at_one _, at_all (i 2).isLt, at_all (i 3).isLt, at_all (i 4).isLt]
/-- and of the received maxima and sums. -/
theorem boxCM_cov (i : S3x2x2x4x512.Idx) : ∃ t, i ∈ (boxCM t).set := by
  refine ⟨(⟨(i 0).val, (i 0).isLt⟩, ⟨(i 1).val, (i 1).isLt⟩), Rect.mem_set_unit.mpr fun a => ?_⟩
  fin_cases a
  exacts [at_one _, at_one _, at_all (i 2).isLt, at_all (i 3).isLt, at_all (i 4).isLt]

/-! ## A buffer held at unknown contents -/

/-- A whole buffer at some contents, in the two spellings. -/
theorem whole_some (c : Dev nD) (b : Ref sig .tc) :
    iprop(∃ f : Buf (Elt F) ((c : Thread nD τ).loc b), ((c : Thread nD τ).loc b) ↦{fullShare} f)
      = (ownsSome (c : Thread nD τ) (Memref.whole b) fullShare : sProp 𝕄) := by
  unfold ownsSome
  refine congrArg _ (funext fun f => ?_)
  exact (owns_whole (c : Thread nD τ) b fullShare f).symm

/-- A buffer with some contents known is a buffer with some contents. -/
theorem some_intro (c : Thread nD τ) {sp : Space} {s : Shape} {e : EltTy} (m : Memref sig c.2.kind sp s e) (X : s.Idx → Elt F e) :
    (owns c m fullShare X : sProp 𝕄) ⊢ ownsSome c m fullShare := by
  unfold ownsSome
  iintro H
  iexists X
  iexact H

/-- Two things side by side, -/
theorem sep_fin2 (Φ : Fin 2 → sProp (MT nD τ sig Unit (Elt F) ℕ UU ℕ)) : bigSep Finset.univ Φ = iprop(Φ 0 ∗ Φ 1) :=
  bigSep_univ_eq_bigSepL [0, 1] (by decide) (by decide) Φ
/-- and six. -/
theorem sep_fin6 (Φ : Fin 3 × Fin 2 → sProp (MT nD τ sig Unit (Elt F) ℕ UU ℕ)) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

section
variable (c : Dev nD)

abbrev someO (g : ℕ) (hg : g < 2) : sProp (MT nD τ sig Unit (Elt F) ℕ UU ℕ) := ownsSome (c : Thread nD τ) (oG g hg) fullShare
abbrev someM (g : ℕ) (hg : g < 2) : sProp (MT nD τ sig Unit (Elt F) ℕ UU ℕ) := ownsSome (c : Thread nD τ) (mlG g hg) fullShare
abbrev someS (g : ℕ) (hg : g < 2) : sProp (MT nD τ sig Unit (Elt F) ℕ UU ℕ) := ownsSome (c : Thread nD τ) (sbG g hg) fullShare

/-- The scratch buffers, whole, are their slabs: the output states, -/
theorem split0 : (ownsSome (c : Thread nD τ) (Memref.whole cc0_scratch0) fullShare : sProp 𝕄) ⊢ iprop(someO c 0 lt0_2 ∗ someO c 1 lt1_2) :=
  (ownsSome_split (c : Thread nD τ) (Memref.whole cc0_scratch0) fullShare boxO (fun _ _ => rfl) boxO_disj boxO_cov).trans (Entails.of_eq (sep_fin2 _))
/-- the maxima and sums, -/
theorem split1 : (ownsSome (c : Thread nD τ) (Memref.whole cc0_scratch1) fullShare : sProp 𝕄) ⊢ iprop(someM c 0 lt0_2 ∗ someM c 1 lt1_2) :=
  (ownsSome_split (c : Thread nD τ) (Memref.whole cc0_scratch1) fullShare boxM (fun _ _ => rfl) boxM_disj boxM_cov).trans (Entails.of_eq (sep_fin2 _))
/-- the send buffers, -/
theorem split2 : (ownsSome (c : Thread nD τ) (Memref.whole cc0_scratch2) fullShare : sProp 𝕄) ⊢ iprop(someS c 0 lt0_2 ∗ someS c 1 lt1_2) :=
  (ownsSome_split (c : Thread nD τ) (Memref.whole cc0_scratch2) fullShare boxO (fun _ _ => rfl) boxO_disj boxO_cov).trans (Entails.of_eq (sep_fin2 _))
/-- the received output states -/
theorem split3 : (ownsSome (c : Thread nD τ) (Memref.whole cc0_scratch3) fullShare : sProp 𝕄)
    ⊢ iprop(freeO 0 0 lt0_3 lt0_2 c ∗ freeO 0 1 lt0_3 lt1_2 c ∗ freeO 1 0 lt1_3 lt0_2 c ∗ freeO 1 1 lt1_3 lt1_2 c ∗ freeO 2 0 lt2_3 lt0_2 c ∗ freeO 2 1 lt2_3 lt1_2 c) :=
  (ownsSome_split (c : Thread nD τ) (Memref.whole cc0_scratch3) fullShare boxCO (fun _ _ => rfl) boxCO_disj boxCO_cov).trans (Entails.of_eq (sep_fin6 _))
/-- and the received maxima and sums. -/
theorem split4 : (ownsSome (c : Thread nD τ) (Memref.whole cc0_scratch4) fullShare : sProp 𝕄)
    ⊢ iprop(freeM 0 0 lt0_3 lt0_2 c ∗ freeM 0 1 lt0_3 lt1_2 c ∗ freeM 1 0 lt1_3 lt0_2 c ∗ freeM 1 1 lt1_3 lt1_2 c ∗ freeM 2 0 lt2_3 lt0_2 c ∗ freeM 2 1 lt2_3 lt1_2 c) :=
  (ownsSome_split (c : Thread nD τ) (Memref.whole cc0_scratch4) fullShare boxCM (fun _ _ => rfl) boxCM_disj boxCM_cov).trans (Entails.of_eq (sep_fin6 _))

/-- Back again: the output states, -/
theorem join0 : iprop(someO c 0 lt0_2 ∗ someO c 1 lt1_2) ⊢ (ownsSome (c : Thread nD τ) (Memref.whole cc0_scratch0) fullShare : sProp 𝕄) :=
  (Entails.of_eq (sep_fin2 _).symm).trans (ownsSome_join (c : Thread nD τ) (Memref.whole cc0_scratch0) fullShare boxO (fun _ _ => rfl) boxO_disj boxO_cov)
/-- the maxima and sums, -/
theorem join1 : iprop(someM c 0 lt0_2 ∗ someM c 1 lt1_2) ⊢ (ownsSome (c : Thread nD τ) (Memref.whole cc0_scratch1) fullShare : sProp 𝕄) :=
  (Entails.of_eq (sep_fin2 _).symm).trans (ownsSome_join (c : Thread nD τ) (Memref.whole cc0_scratch1) fullShare boxM (fun _ _ => rfl) boxM_disj boxM_cov)
/-- the send buffers, -/
theorem join2 : iprop(someS c 0 lt0_2 ∗ someS c 1 lt1_2) ⊢ (ownsSome (c : Thread nD τ) (Memref.whole cc0_scratch2) fullShare : sProp 𝕄) :=
  (Entails.of_eq (sep_fin2 _).symm).trans (ownsSome_join (c : Thread nD τ) (Memref.whole cc0_scratch2) fullShare boxO (fun _ _ => rfl) boxO_disj boxO_cov)
/-- the received output states -/
theorem join3 : iprop(freeO 0 0 lt0_3 lt0_2 c ∗ freeO 0 1 lt0_3 lt1_2 c ∗ freeO 1 0 lt1_3 lt0_2 c ∗ freeO 1 1 lt1_3 lt1_2 c ∗ freeO 2 0 lt2_3 lt0_2 c ∗ freeO 2 1 lt2_3 lt1_2 c)
    ⊢ (ownsSome (c : Thread nD τ) (Memref.whole cc0_scratch3) fullShare : sProp 𝕄) :=
  (Entails.of_eq (sep_fin6 _).symm).trans (ownsSome_join (c : Thread nD τ) (Memref.whole cc0_scratch3) fullShare boxCO (fun _ _ => rfl) boxCO_disj boxCO_cov)
/-- and the received maxima and sums. -/
theorem join4 : iprop(freeM 0 0 lt0_3 lt0_2 c ∗ freeM 0 1 lt0_3 lt1_2 c ∗ freeM 1 0 lt1_3 lt0_2 c ∗ freeM 1 1 lt1_3 lt1_2 c ∗ freeM 2 0 lt2_3 lt0_2 c ∗ freeM 2 1 lt2_3 lt1_2 c)
    ⊢ (ownsSome (c : Thread nD τ) (Memref.whole cc0_scratch4) fullShare : sProp 𝕄) :=
  (Entails.of_eq (sep_fin6 _).symm).trans (ownsSome_join (c : Thread nD τ) (Memref.whole cc0_scratch4) fullShare boxCM (fun _ _ => rfl) boxCM_disj boxCM_cov)

end

end Cert.KernelIdealRun
-- ==== Proof.KernelIdealRun.Ghost.lean ====
/-
# The launch's ghost state

The launch makes the twenty-five cells of every device with their counters at zero, a token for each duty, and the
credit that all devices together owe each cell. The tokens minted at a cell go to the device that pays the duty: a
send duty stays, a receive duty or a signal goes to the partner.
-/
module

public import proofs.«01_k».proof.Proof.KernelIdealRun.Slabs

@[expose] public section

noncomputable section

namespace Cert.KernelIdealRun

open Cert.KernelIdeal Cert.KernelIdeal.Gen Cert.Piece

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens -/

set_option backward.proofsInPublic true in
/-- Duty `j` of the twenty-seven that a device's cells have: its semaphore, -/
def jsem (j : Fin 27) : SemLoc sig := if j.val < 24 then .dma (qs (6 + j.val)) else .reg barS
set_option backward.proofsInPublic true in
/-- its number in its cell's round, -/
def jduty (j : Fin 27) : Fin 3 := if h : j.val < 24 then 0 else ⟨j.val - 24, by omega⟩
/-- and the device that pays the duty `j` of device `c`. -/
def payer (j : Fin 27) (c : Dev nD) : Dev nD :=
  if j.val < 24 then (if j.val / 6 % 2 = 1 then pr (j.val % 6 / 2) c else c) else pr (j.val - 24) c

/-- The payer's payer is the device itself. -/
theorem payer_payer (j : Fin 27) (c : Dev nD) : payer j (payer j c) = c := by revert j c; decide +kernel

/-- The duties, each with its payer for its device. -/
def deal : Dev nD × Fin 27 ≃ Dev nD × Fin 27 where
  toFun x := (payer x.2 x.1, x.2)
  invFun x := (payer x.2 x.1, x.2)
  left_inv x := Prod.ext (payer_payer x.2 x.1) rfl
  right_inv x := Prod.ext (payer_payer x.2 x.1) rfl

/-- The list names no semaphore twice, -/
theorem csem_injective : Function.Injective (csem : Fin 25 → SemLoc sig) := by
  have h : ∀ k k' : Fin 25, csem k = csem k' → k = k' := by decide +kernel
  exact fun k k' e => h k k' e

/-- nor a counter. -/
theorem kcell_injective : Function.Injective (kcell : Dev nD × Fin 25 → GSem nD τ sig) := by
  rintro ⟨c, k⟩ ⟨c', k'⟩ h
  have h1 : c = c' := congrArg (fun g : GSem nD τ sig => g.1.1) h
  have h2 : csem k = csem k' := congrArg Prod.snd h
  exact Prod.ext h1 (csem_injective h2)

/-- All counters of all devices. -/
def allCells : Finset (GSem nD τ sig) := Finset.univ.map ⟨kcell, kcell_injective⟩

abbrev tokAt (x : Dev nD × Fin 27) : GSem nD τ sig × ℕ × Fin 3 := (((x.1 : Thread nD τ), jsem x.2), 0, jduty x.2)

/-- No payment is listed twice. -/
theorem tokAt_injective : Function.Injective tokAt := by
  rintro ⟨c, j⟩ ⟨c', j'⟩ h
  have h1 : c = c' := congrArg (fun x : GSem nD τ sig × ℕ × Fin 3 => x.1.1.1) h
  have h2 : jsem j = jsem j' := congrArg (fun x : GSem nD τ sig × ℕ × Fin 3 => x.1.2) h
  have h3 : jduty j = jduty j' := congrArg (fun x : GSem nD τ sig × ℕ × Fin 3 => x.2.2) h
  have : ∀ j j' : Fin 27, jsem j = jsem j' → jduty j = jduty j' → j = j' := by decide +kernel
  exact Prod.ext h1 (this j j' h2 h3)

/-- All payments of all devices. -/
def allToks : Finset (GSem nD τ sig × ℕ × Fin 3) := Finset.univ.map ⟨tokAt, tokAt_injective⟩

/-- The launch's element: the pipeline's own part and the exchange's. -/
def u₀ : UU := (initOf (Pipeline.cells cfgs cellOf_inj) (Pipeline.launchToks cfgs cellOf_inj), initOf allCells allToks)

/-- The token of duty `j` of device `c`. -/
abbrev tok (c : Dev nD) (j : Fin 27) : sProp (MT nD τ sig Unit (Elt F) ℕ UU ℕ) := dutyTok ER ((c : Thread nD τ), jsem j) 0 (jduty j)

/-- The tokens of device `c`'s own cells; the tokens of the duties that device `c` pays. -/
def ownToks (c : Dev nD) : sProp (MT nD τ sig Unit (Elt F) ℕ UU ℕ) := bigSep Finset.univ fun j : Fin 27 => tok c j
/-- The payments that a device will make. -/
def payToks (c : Dev nD) : sProp (MT nD τ sig Unit (Elt F) ℕ UU ℕ) := bigSep Finset.univ fun j : Fin 27 => tok (payer j c) j

/-- Device `c`'s places on its cells. -/
def places (c : Dev nD) : sProp (MT nD τ sig Unit (Elt F) ℕ UU ℕ) := bigSep Finset.univ fun k : Fin 25 => atPos ER (kcell (c, k)) 0 ∅ 0

/-- The payments, sorted by who receives them, are those sorted by who makes them. -/
theorem toks_dealt : (bigSep Finset.univ fun c : Dev nD => (ownToks c : sProp 𝕄)) = bigSep Finset.univ fun c : Dev nD => payToks c := by
  unfold ownToks payToks
  rw [← bigSep_univ_prod (fun x : Dev nD × Fin 27 => (tok x.1 x.2 : sProp 𝕄)), bigSep_univ_equiv deal, bigSep_univ_prod]
  rfl

section
variable (X : Msgs F)

/-- What the launch's element deals device `c`, -/
def G (c : Dev nD) : sProp (MT nD τ sig Unit (Elt F) ℕ UU ℕ) :=
  iprop((bigSep Finset.univ fun k : Fin 25 => roundState ER (Rd X) (kcell (c, k)) 0) ∗ places c
    ∗ (bigSep Finset.univ fun k : Fin 25 => reached ER (kcell (c, k)) 0) ∗ ownToks c)

/-- what all devices know once the cells' invariants are in place, -/
def known : sProp (MT nD τ sig Unit (Elt F) ℕ UU ℕ) :=
  bigSep Finset.univ fun ck : Dev nD × Fin 25 => iprop(Inv X (kcell ck) ∗ reached ER (kcell ck) 0)

/-- What all devices know may be used again and again. -/
instance known_persistent : BI.Persistent (known X : sProp 𝕄) := by unfold known; infer_instance

/-- and what device `c` goes on with. -/
def G' (c : Dev nD) : sProp (MT nD τ sig Unit (Elt F) ℕ UU ℕ) := iprop(known X ∗ places c ∗ payToks c)

/-- At the start every counter's record is set up with its payments. -/
theorem fund_cells : BI.own (ER (initOf allCells allToks)) ⊢ (|==> bigSep Finset.univ (G X) : sProp 𝕄) := by
  have hC (Φ : GSem nD τ sig → sProp 𝕄) : bigSep allCells Φ = bigSep Finset.univ fun c : Dev nD => bigSep Finset.univ fun k : Fin 25 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks ownToks; rw [bigSep_map, bigSep_univ_prod]; rfl
  iintro H
  imod (Rounds.fund ER (Rd X) allCells allToks) $$ H with ⟨Hst, Hr, Hat, Htok⟩
  imodintro
  ihave Hst := (Entails.of_eq (hC fun g => roundState ER (Rd X) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold G places
  simp only [bigSep_sep']
  isplitl [Hst]; · iexact Hst
  isplitl [Hat]; · iexact Hat
  isplitl [Hr]; · iexact Hr
  iexact Htok

/-- The kernel's own semaphores are those listed, -/
theorem ownSemFacts : Pipeline.OwnSemFacts cfg0.spec osem := by decide +kernel

/-- besides the barrier; -/
theorem unscoped_eq (c : Dev nD) : (unscopedSems0 c : sProp 𝕄) = semVal (barCell c) 0 := by
  unfold unscopedSems0; rw [bigSep_eq_bigSepL_of_eq [SemLoc.reg barS] (by decide +kernel) (by decide +kernel)]; rfl

/-- they start at zero. -/
theorem own_eq (c : Dev nD) : (Pipeline.ownSems0 (Ix := Unit) (Name := ℕ) (U := UU) (Lvl := ℕ) (Val := Elt F) (τ := τ) osem c : sProp 𝕄)
    = bigSep Finset.univ fun k : Fin 24 => semVal (qcell (6 + k.val) c) 0 := rfl

/-- The counters at zero, by cell. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [own_eq, unscoped_eq, bigSep_univ_eq_bigSepL [0, 1, 2, 3, 4, 5, 6, 7, 8, 9, 10, 11, 12, 13, 14, 15, 16, 17, 18, 19, 20, 21, 22, 23] (by decide) (by decide),
    bigSep_univ_eq_bigSepL [24, 0, 1, 2, 3, 4, 5, 6, 7, 8, 9, 10, 11, 12, 13, 14, 15, 16, 17, 18, 19, 20, 21, 22, 23] (by decide) (by decide)]
  exact sep_comm.1

/-- Each device's cells get their invariants. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Fin 25 => Inv X (kcell (c, k))) ∗ (bigSep Finset.univ fun k : Fin 25 => reached ER (kcell (c, k)) 0)
          ∗ places c ∗ ownToks c) := by
  have hmk : iprop((bigSep Finset.univ fun k : Fin 25 => semVal (kcell (c, k)) 0) ∗ bigSep Finset.univ fun k : Fin 25 => roundState ER (Rd X) (kcell (c, k)) 0)
      ⊢ (|={Set.univ}=> bigSep Finset.univ fun k : Fin 25 => Inv X (kcell (c, k)) : sProp 𝕄) := by
    rw [← bigSep_sep']
    exact (bigSep_mono fun k _ => (Rounds.body_intro ER (Rd X) (kcell (c, k))).trans inv_alloc).trans (bigSep_fupd _ _)
  unfold G
  iintro ⟨Hos, Hus, Hst, Hat, Hr, Htok⟩
  ihave Hv := (sems_eq (F := F) c) $$ [Hos Hus]
  · isplitl [Hos] <;> iassumption
  imod hmk $$ [Hv Hst] with Hinv
  · isplitl [Hv] <;> iassumption
  imodintro
  isplitl [Hinv]; · iexact Hinv
  isplitl [Hr]; · iexact Hr
  isplitl [Hat]; · iexact Hat
  iexact Htok

/-- What is known goes to everyone. -/
theorem with_known {R : sProp (MT nD τ sig Unit (Elt F) ℕ UU ℕ)} [BI.Persistent R] {Φ Ψ : Dev nD → sProp (MT nD τ sig Unit (Elt F) ℕ UU ℕ)}
    (h : ∀ c, iprop(R ∗ Φ c) ⊢ Ψ c) : iprop(R ∗ bigSep Finset.univ Φ) ⊢ bigSep Finset.univ Ψ := by
  refine (sep_mono_left (BI.bigSep_of_persistent (Finset.univ : Finset (Dev nD)) R)).trans ?_
  rw [← bigSep_sep']
  exact bigSep_mono fun c _ => h c

/-- Counters listed by device and by place in the list are the same counters. -/
theorem regroup :
    (bigSep Finset.univ fun c : Dev nD => iprop((bigSep Finset.univ fun k : Fin 25 => Inv X (kcell (c, k))) ∗ (bigSep Finset.univ fun k : Fin 25 => reached ER (kcell (c, k)) 0)
          ∗ places c ∗ ownToks c) : sProp 𝕄)
      ⊢ bigSep Finset.univ (G' X) := by
  rw [bigSep_sep', bigSep_sep', bigSep_sep', toks_dealt, ← bigSep_univ_prod (fun ck : Dev nD × Fin 25 => Inv X (kcell ck)),
    ← bigSep_univ_prod (fun ck : Dev nD × Fin 25 => (reached ER (kcell ck) 0 : sProp 𝕄))]
  iintro ⟨HI, HR, Hat, Htok⟩
  iapply (with_known (R := known X) (Φ := fun c => iprop(places c ∗ payToks c)) fun c => .rfl)
  isplitl [HI HR]
  · unfold known
    rw [bigSep_sep']
    isplitl [HI] <;> iassumption
  · rw [bigSep_sep']
    isplitl [Hat] <;> iassumption

/-- From every device's counters at zero, what all devices know and what each starts with. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

end

/-! ## The credit of the launch -/

/-- Summed over all devices, what each owes its partner's cell is what is owed a cell. -/
theorem sum_tally {σ : Dev nD → Dev nD} (hσ : ∀ c, σ (σ c) = c) (c : Dev nD) (q q' : SemLoc sig) (a : ℕ) :
    ∑ d : Dev nD, (tallyAt (((σ d : Dev nD) : Thread nD τ), q) () a : CellTallies nD τ sig Unit) ((c : Thread nD τ), q') () = if q' = q then a else 0 := by
  rw [Finset.sum_eq_single (σ c)]
  · rw [tallyAt_apply, hσ]
    by_cases h : q' = q
    · subst h; rw [if_pos ⟨rfl, rfl⟩, if_pos rfl]
    · rw [if_neg (fun h' => h (congrArg Prod.snd h'.1)), if_neg h]
  · intro d _ hd
    rw [tallyAt_apply, if_neg]
    rintro ⟨h, -⟩
    have h1 : c = σ d := congrArg (fun g : GSem nD τ sig => g.1.1) h
    exact hd (by rw [h1, hσ])
  · intro h; exact absurd (Finset.mem_univ _) h

/-- What is owed the cell of semaphore `q` of device `c`. -/
def due (q : SemLoc sig) : ℕ → ℕ
  | 0 => 0
  | n + 1 => due q n + (if q = .dma (qs (six 3 ((5 - n) / 2) ((5 - n) % 2))) then amt 3 else 0)
      + (if q = .dma (qs (six 1 ((5 - n) / 2) ((5 - n) % 2))) then amt 1 else 0)

/-- What all devices owe a counter is what the schedule says is due there; -/
theorem sum_rem (c : Dev nD) (q : SemLoc sig) : ∀ n, ∑ d : Dev nD, rem n d ((c : Thread nD τ), q) () = due q n
  | 0 => by unfold rem due; exact Finset.sum_const_zero
  | n + 1 => by
    have h := sum_rem c q n
    have hr : (5 - n) / 2 < 3 := by omega
    unfold rem due
    simp only [Pi.add_apply, Finsupp.add_apply, Finset.sum_add_distrib]
    rw [h, sum_tally (pr_pr hr), sum_tally (pr_pr hr)]

/-- so at the start of the run, too, -/
theorem sum_owed (c : Dev nD) (q : SemLoc sig) :
    ∑ d : Dev nD, O₀ d ((c : Thread nD τ), q) () = due q 6 + (if q = .reg barS then 1 else 0) + (if q = .reg barS then 1 else 0) + (if q = .reg barS then 1 else 0) := by
  unfold O₀
  simp only [Pi.add_apply, Finsupp.add_apply, Finset.sum_add_distrib]
  rw [sum_rem, sum_tally pr_pr2, sum_tally pr_pr1, sum_tally pr_pr0]

/-- and so is the credit of the launch. -/
theorem launch_of {c : Dev nD} {q : SemLoc sig} {a : ℕ}
    (h : due q 6 + (if q = .reg barS then 1 else 0) + (if q = .reg barS then 1 else 0) + (if q = .reg barS then 1 else 0) = a) :
    tallyOn ((c : Thread nD τ), q) (launchCredit (Pipeline.owing O₀) 0 ((c : Thread nD τ), q)) = (tallyAt ((c : Thread nD τ), q) () a : CellTallies nD τ sig Unit) := by
  unfold tallyAt
  refine congrArg _ (Finsupp.ext fun u => ?_)
  cases u
  rw [Pipeline.launchCredit_owing, Finsupp.single_eq_same, sum_owed, h]

/-- The credit of a cell: three units at the barrier, a transfer's worth where something lands. -/
def crd (k : Fin 25) : ℕ := due (csem k) 6 + (if csem k = .reg barS then 1 else 0) + (if csem k = .reg barS then 1 else 0) + (if csem k = .reg barS then 1 else 0)

/-- The credits that a device starts with, -/
def creds (c : Dev nD) : sProp (MT nD τ sig Unit (Elt F) ℕ UU ℕ) := bigSep Finset.univ fun k : Fin 25 => cred (tallyAt (kcell (c, k)) () (crd k))

/-- out of the launch's. -/
theorem creds_of_launch (c : Dev nD) : (Pipeline.launchCred O₀ c : sProp 𝕄) ⊢ creds c := by
  unfold Pipeline.launchCred creds
  refine (BI.bigSep_subset (Finset.subset_univ (Finset.univ.map ⟨csem, csem_injective⟩))).trans ?_
  rw [bigSep_map]
  exact bigSep_mono fun k _ => Entails.of_eq (congrArg cred (launch_of (q := csem k) rfl))

/-- How many of the starts pay the cell of semaphore `q`, by kind. -/
def times (k : ℕ) (q : SemLoc sig) : ℕ → ℕ
  | 0 => 0
  | n + 1 => times k q n + (if q = .dma (qs (six k ((5 - n) / 2) ((5 - n) % 2))) then 1 else 0)

/-- What is due at a semaphore, by the number of transfers of either kind. -/
theorem due_eq (q : SemLoc sig) : ∀ n, due q n = times 3 q n * amt 3 + times 1 q n * amt 1
  | 0 => by unfold due times; omega
  | n + 1 => by
    unfold due times
    rw [due_eq q n]
    split <;> split <;> simp only [Nat.add_mul, Nat.one_mul, Nat.zero_mul] <;> omega

/-- The barrier is owed three units, -/
theorem crd_bar : crd 24 = 3 := by
  have h : times 3 (csem 24) 6 = 0 ∧ times 1 (csem 24) 6 = 0 := by decide +kernel
  unfold crd
  rw [due_eq, h.1, h.2, if_pos csem_last, Nat.zero_mul, Nat.zero_mul]

/-- the transfers of the output states theirs, -/
theorem crd_q {k : Fin 25} (h3 : times 3 (csem k) 6 = 0) (h1 : times 1 (csem k) 6 = 1) (hb : csem k ≠ .reg barS) : crd k = amt 1 := by
  unfold crd
  rw [due_eq, h3, h1, if_neg hb, Nat.zero_mul, Nat.one_mul, Nat.zero_add]
  rfl
/-- and the transfers of the maxima and sums theirs. -/
theorem crd_q' {k : Fin 25} (h3 : times 3 (csem k) 6 = 1) (h1 : times 1 (csem k) 6 = 0) (hb : csem k ≠ .reg barS) : crd k = amt 3 := by
  unfold crd
  rw [due_eq, h3, h1, if_neg hb, Nat.zero_mul, Nat.one_mul, Nat.add_zero]

/-- The place of a swap's semaphore among the cells, and among the duties. -/
def ix (k r g : ℕ) : Fin 25 := ⟨(6 * k + 2 * r + g) % 25, Nat.mod_lt _ (by decide)⟩
/-- The place of a payment in the list. -/
def iy (k r g : ℕ) : Fin 27 := ⟨(6 * k + 2 * r + g) % 27, Nat.mod_lt _ (by decide)⟩

/-- A family over the cells, swap by swap, the barrier's last. -/
theorem sep_cells (Φ : Fin 25 → sProp (MT nD τ sig Unit (Elt F) ℕ UU ℕ)) : bigSep Finset.univ Φ
    = iprop(Φ (ix 0 0 0) ∗ Φ (ix 1 0 0) ∗ Φ (ix 2 0 0) ∗ Φ (ix 3 0 0) ∗ Φ (ix 0 0 1) ∗ Φ (ix 1 0 1) ∗ Φ (ix 2 0 1) ∗ Φ (ix 3 0 1) ∗ Φ (ix 0 1 0) ∗ Φ (ix 1 1 0) ∗ Φ (ix 2 1 0) ∗ Φ (ix 3 1 0) ∗ Φ (ix 0 1 1) ∗ Φ (ix 1 1 1) ∗ Φ (ix 2 1 1) ∗ Φ (ix 3 1 1) ∗ Φ (ix 0 2 0) ∗ Φ (ix 1 2 0) ∗ Φ (ix 2 2 0) ∗ Φ (ix 3 2 0) ∗ Φ (ix 0 2 1) ∗ Φ (ix 1 2 1) ∗ Φ (ix 2 2 1) ∗ Φ (ix 3 2 1) ∗ Φ 24) :=
  bigSep_univ_eq_bigSepL [ix 0 0 0, ix 1 0 0, ix 2 0 0, ix 3 0 0, ix 0 0 1, ix 1 0 1, ix 2 0 1, ix 3 0 1, ix 0 1 0, ix 1 1 0, ix 2 1 0, ix 3 1 0, ix 0 1 1, ix 1 1 1, ix 2 1 1, ix 3 1 1, ix 0 2 0, ix 1 2 0, ix 2 2 0, ix 3 2 0, ix 0 2 1, ix 1 2 1, ix 2 2 1, ix 3 2 1, 24]
    (by decide +kernel) (by decide +kernel) Φ
/-- A family over the duties, swap by swap, the barrier's three last. -/
theorem sep_duties (Φ : Fin 27 → sProp (MT nD τ sig Unit (Elt F) ℕ UU ℕ)) : bigSep Finset.univ Φ
    = iprop(Φ (iy 0 0 0) ∗ Φ (iy 1 0 0) ∗ Φ (iy 2 0 0) ∗ Φ (iy 3 0 0) ∗ Φ (iy 0 0 1) ∗ Φ (iy 1 0 1) ∗ Φ (iy 2 0 1) ∗ Φ (iy 3 0 1) ∗ Φ (iy 0 1 0) ∗ Φ (iy 1 1 0) ∗ Φ (iy 2 1 0) ∗ Φ (iy 3 1 0) ∗ Φ (iy 0 1 1) ∗ Φ (iy 1 1 1) ∗ Φ (iy 2 1 1) ∗ Φ (iy 3 1 1) ∗ Φ (iy 0 2 0) ∗ Φ (iy 1 2 0) ∗ Φ (iy 2 2 0) ∗ Φ (iy 3 2 0) ∗ Φ (iy 0 2 1) ∗ Φ (iy 1 2 1) ∗ Φ (iy 2 2 1) ∗ Φ (iy 3 2 1) ∗ Φ 24 ∗ Φ 25 ∗ Φ 26) :=
  bigSep_univ_eq_bigSepL [iy 0 0 0, iy 1 0 0, iy 2 0 0, iy 3 0 0, iy 0 0 1, iy 1 0 1, iy 2 0 1, iy 3 0 1, iy 0 1 0, iy 1 1 0, iy 2 1 0, iy 3 1 0, iy 0 1 1, iy 1 1 1, iy 2 1 1, iy 3 1 1, iy 0 2 0, iy 1 2 0, iy 2 2 0, iy 3 2 0, iy 0 2 1, iy 1 2 1, iy 2 2 1, iy 3 2 1, 24, 25, 26]
    (by decide +kernel) (by decide +kernel) Φ

section
variable (c : Dev nD)

/-- The transfers' places in the list of counters -/
theorem csem_ix {k r g : ℕ} (hk : k < 4) (hr : r < 3) (hg : g < 2) : csem (ix k r g) = .dma (qs (six k r g)) := by
  interval_cases k <;> interval_cases r <;> interval_cases g <;> decide +kernel
/-- and in that of payments, -/
theorem jsem_iy {k r g : ℕ} (hk : k < 4) (hr : r < 3) (hg : g < 2) : jsem (iy k r g) = .dma (qs (six k r g)) ∧ jduty (iy k r g) = 0 := by
  interval_cases k <;> interval_cases r <;> interval_cases g <;> decide +kernel
/-- whom a payment is made to, -/
theorem payer_iy {k r g : ℕ} (hk : k < 4) (hr : r < 3) (hg : g < 2) : payer (iy k r g) c = if k % 2 = 1 then pr r c else c := by
  revert c
  interval_cases k <;> interval_cases r <;> interval_cases g <;> decide +kernel
/-- what is owed to a counter, -/
theorem crd_ix {k r g : ℕ} (hk : k = 1 ∨ k = 3) (hr : r < 3) (hg : g < 2) : crd (ix k r g) = amt k := by
  rcases hk with rfl | rfl
  · have h : times 3 (csem (ix 1 r g)) 6 = 0 ∧ times 1 (csem (ix 1 r g)) 6 = 1 ∧ csem (ix 1 r g) ≠ .reg barS := by
      interval_cases r <;> interval_cases g <;> decide +kernel
    exact crd_q h.1 h.2.1 h.2.2
  · have h : times 3 (csem (ix 3 r g)) 6 = 1 ∧ times 1 (csem (ix 3 r g)) 6 = 0 ∧ csem (ix 3 r g) ≠ .reg barS := by
      interval_cases r <;> interval_cases g <;> decide +kernel
    exact crd_q' h.1 h.2.1 h.2.2

/-- the counter itself -/
theorem kcell_ix {k r g : ℕ} (hk : k < 4) (hr : r < 3) (hg : g < 2) : kcell (c, ix k r g) = qcell (six k r g) c := by
  unfold kcell; rw [csem_ix hk hr hg]
/-- and the payment itself, by kind, round and group. -/
theorem tok_iy {k r g : ℕ} (hk : k < 4) (hr : r < 3) (hg : g < 2) :
    (tok (payer (iy k r g) c) (iy k r g) : sProp 𝕄) = dutyTok ER (qcell (six k r g) (if k % 2 = 1 then pr r c else c)) 0 0 := by
  unfold tok
  rw [payer_iy c hk hr hg, (jsem_iy hk hr hg).1, (jsem_iy hk hr hg).2]

/-- A counter's position, at its start. -/
abbrev place (k : Fin 25) : sProp (MT nD τ sig Unit (Elt F) ℕ UU ℕ) := atPos ER (kcell (c, k)) 0 ∅ 0
/-- The credit for a counter. -/
abbrev credit (k : Fin 25) : sProp (MT nD τ sig Unit (Elt F) ℕ UU ℕ) := cred (tallyAt (kcell (c, k)) () (crd k))
/-- A payment that the device will make. -/
abbrev paid (j : Fin 27) : sProp (MT nD τ sig Unit (Elt F) ℕ UU ℕ) := tok (payer j c) j

/-- One swap's tokens, places and credit make its kit. -/
theorem mkKit {r g : ℕ} (hr : r < 3) (hg : g < 2) :
    iprop(paid c (iy 0 r g) ∗ paid c (iy 1 r g) ∗ paid c (iy 2 r g) ∗ paid c (iy 3 r g) ∗ place c (ix 0 r g) ∗ place c (ix 1 r g) ∗ place c (ix 2 r g)
        ∗ place c (ix 3 r g) ∗ credit c (ix 1 r g) ∗ credit c (ix 3 r g)) ⊢ (kit c r g : sProp 𝕄) := by
  unfold paid place credit kit tokO tokM wt
  rw [tok_iy c (by decide) hr hg, tok_iy c (by decide) hr hg, tok_iy c (by decide) hr hg, tok_iy c (by decide) hr hg,
    kcell_ix c (by decide) hr hg, kcell_ix c (by decide) hr hg, kcell_ix c (by decide) hr hg, kcell_ix c (by decide) hr hg,
    crd_ix (Or.inl rfl) hr hg, crd_ix (Or.inr rfl) hr hg]
  iintro ⟨T0, T1, T2, T3, P0, P1, P2, P3, C1, C3⟩
  isplitl [T0 T1]
  · isplitl [T0]; · iexact T0
    iexact T1
  isplitl [T2 T3]
  · isplitl [T2]; · iexact T2
    iexact T3
  isplitl [P0]; · iexact P0
  isplitl [P2]; · iexact P2
  isplitl [C1 P1]
  · isplitl [C1]; · iexact C1
    iexact P1
  isplitl [C3]; · iexact C3
  iexact P3

/-- The three payments to the barriers. -/
theorem paid_bar : iprop(paid c 24 ∗ paid c 25 ∗ paid c 26)
    = (iprop(dutyTok ER (barCell (pr 0 c)) 0 0 ∗ dutyTok ER (barCell (pr 1 c)) 0 1 ∗ dutyTok ER (barCell (pr 2 c)) 0 2) : sProp 𝕄) := rfl

/-- The six kits and the barrier's tokens, place and credit. -/
def kits : sProp (MT nD τ sig Unit (Elt F) ℕ UU ℕ) :=
  iprop((dutyTok ER (barCell (pr 0 c)) 0 0 ∗ dutyTok ER (barCell (pr 1 c)) 0 1 ∗ dutyTok ER (barCell (pr 2 c)) 0 2) ∗ cred (tallyAt (barCell c) () 3)
    ∗ atPos ER (barCell c) 0 ∅ 0 ∗ kit c 0 0 ∗ kit c 0 1 ∗ kit c 1 0 ∗ kit c 1 1 ∗ kit c 2 0 ∗ kit c 2 1)

set_option maxHeartbeats 1000000 in
theorem mkKits : iprop(payToks c ∗ places c ∗ creds c) ⊢ (kits c : sProp 𝕄) := by
  have hb : (credit c 24 : sProp 𝕄) ⊢ cred (tallyAt (barCell c) () 3) := by unfold credit; rw [crd_bar]; exact .rfl
  unfold payToks places creds
  rw [sep_duties, sep_cells, sep_cells]
  iintro ⟨⟨T000, T100, T200, T300, T001, T101, T201, T301, T010, T110, T210, T310, T011, T111, T211, T311, T020, T120, T220, T320, T021, T121, T221, T321, B0, B1, B2⟩, ⟨P000, P100, P200, P300, P001, P101, P201, P301, P010, P110, P210, P310, P011, P111, P211, P311, P020, P120, P220, P320, P021, P121, P221, P321, PB⟩, ⟨C000, C100, C200, C300, C001, C101, C201, C301, C010, C110, C210, C310, C011, C111, C211, C311, C020, C120, C220, C320, C021, C121, C221, C321, CB⟩⟩
  unfold kits
  isplitl [B0 B1 B2]
  · iapply (Entails.of_eq (paid_bar c))
    isplitl [B0]; · iexact B0
    isplitl [B1]; · iexact B1
    iexact B2
  isplitl [CB]; · iapply hb; iexact CB
  isplitl [PB]; · iexact PB
  isplitl [T000 T100 T200 T300 P000 P100 P200 P300 C100 C300]
  · iapply (mkKit c lt0_3 lt0_2)
    isplitl [T000]; · iexact T000
    isplitl [T100]; · iexact T100
    isplitl [T200]; · iexact T200
    isplitl [T300]; · iexact T300
    isplitl [P000]; · iexact P000
    isplitl [P100]; · iexact P100
    isplitl [P200]; · iexact P200
    isplitl [P300]; · iexact P300
    isplitl [C100]; · iexact C100
    iexact C300
  isplitl [T001 T101 T201 T301 P001 P101 P201 P301 C101 C301]
  · iapply (mkKit c lt0_3 lt1_2)
    isplitl [T001]; · iexact T001
    isplitl [T101]; · iexact T101
    isplitl [T201]; · iexact T201
    isplitl [T301]; · iexact T301
    isplitl [P001]; · iexact P001
    isplitl [P101]; · iexact P101
    isplitl [P201]; · iexact P201
    isplitl [P301]; · iexact P301
    isplitl [C101]; · iexact C101
    iexact C301
  isplitl [T010 T110 T210 T310 P010 P110 P210 P310 C110 C310]
  · iapply (mkKit c lt1_3 lt0_2)
    isplitl [T010]; · iexact T010
    isplitl [T110]; · iexact T110
    isplitl [T210]; · iexact T210
    isplitl [T310]; · iexact T310
    isplitl [P010]; · iexact P010
    isplitl [P110]; · iexact P110
    isplitl [P210]; · iexact P210
    isplitl [P310]; · iexact P310
    isplitl [C110]; · iexact C110
    iexact C310
  isplitl [T011 T111 T211 T311 P011 P111 P211 P311 C111 C311]
  · iapply (mkKit c lt1_3 lt1_2)
    isplitl [T011]; · iexact T011
    isplitl [T111]; · iexact T111
    isplitl [T211]; · iexact T211
    isplitl [T311]; · iexact T311
    isplitl [P011]; · iexact P011
    isplitl [P111]; · iexact P111
    isplitl [P211]; · iexact P211
    isplitl [P311]; · iexact P311
    isplitl [C111]; · iexact C111
    iexact C311
  isplitl [T020 T120 T220 T320 P020 P120 P220 P320 C120 C320]
  · iapply (mkKit c lt2_3 lt0_2)
    isplitl [T020]; · iexact T020
    isplitl [T120]; · iexact T120
    isplitl [T220]; · iexact T220
    isplitl [T320]; · iexact T320
    isplitl [P020]; · iexact P020
    isplitl [P120]; · iexact P120
    isplitl [P220]; · iexact P220
    isplitl [P320]; · iexact P320
    isplitl [C120]; · iexact C120
    iexact C320
  · iapply (mkKit c lt2_3 lt1_2)
    isplitl [T021]; · iexact T021
    isplitl [T121]; · iexact T121
    isplitl [T221]; · iexact T221
    isplitl [T321]; · iexact T321
    isplitl [P021]; · iexact P021
    isplitl [P121]; · iexact P121
    isplitl [P221]; · iexact P221
    isplitl [P321]; · iexact P321
    isplitl [C121]; · iexact C121
    iexact C321

end

end Cert.KernelIdealRun
-- ==== Proof.KernelIdealRun.Main.lean ====
/-
# The launch

The library's launch theorem over the body: what a device is handed, what its body leaves, and the run of all eight.
-/
module

public import proofs.«01_k».proof.Proof.KernelIdealRun.Ghost
public import proofs.«01_k».proof.Proof.Gen.KernelIdeal.Points
public import proofs.«01_k».proof.Proof.Gen.KernelIdeal.Frame
public import Idealize.ShloMosaic.Lib.Pipeline.CollectiveSegs

@[expose] public section

noncomputable section

namespace Cert.KernelIdealRun

open Cert.KernelIdeal Cert.KernelIdeal.Gen Cert.Piece

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device holds as the kernel ends -/

section
variable (I : In F) (c : Dev nD)

/-- The place of a swap's semaphore among the kernel's own twenty-four. -/
def iz (k r g : ℕ) : Fin 24 := ⟨(6 * k + 2 * r + g) % 24, Nat.mod_lt _ (by decide)⟩
/-- The kernel's own counters at zero, swap by swap. -/
theorem zeros_eq : (bigSep Finset.univ fun k : Fin 24 => (semVal (qcell (6 + k.val) c) 0 : sProp 𝕄))
    = iprop(spent c 0 0 0 ∗ spent c 1 0 0 ∗ spent c 2 0 0 ∗ spent c 3 0 0 ∗ spent c 0 0 1 ∗ spent c 1 0 1 ∗ spent c 2 0 1 ∗ spent c 3 0 1 ∗ spent c 0 1 0 ∗ spent c 1 1 0 ∗ spent c 2 1 0 ∗ spent c 3 1 0 ∗ spent c 0 1 1 ∗ spent c 1 1 1 ∗ spent c 2 1 1 ∗ spent c 3 1 1 ∗ spent c 0 2 0 ∗ spent c 1 2 0 ∗ spent c 2 2 0 ∗ spent c 3 2 0 ∗ spent c 0 2 1 ∗ spent c 1 2 1 ∗ spent c 2 2 1 ∗ spent c 3 2 1) :=
  bigSep_univ_eq_bigSepL [iz 0 0 0, iz 1 0 0, iz 2 0 0, iz 3 0 0, iz 0 0 1, iz 1 0 1, iz 2 0 1, iz 3 0 1, iz 0 1 0, iz 1 1 0, iz 2 1 0, iz 3 1 0, iz 0 1 1, iz 1 1 1, iz 2 1 1, iz 3 1 1, iz 0 2 0, iz 1 2 0, iz 2 2 0, iz 3 2 0, iz 0 2 1, iz 1 2 1, iz 2 2 1, iz 3 2 1] (by decide +kernel) (by decide +kernel) _

/-- The five scratch buffers at whatever they hold. -/
def scratch : sProp (MT nD τ sig Unit (Elt F) ℕ UU ℕ) :=
  iprop(ownsSome (c : Thread nD τ) (Memref.whole cc0_scratch0) fullShare ∗ ownsSome (c : Thread nD τ) (Memref.whole cc0_scratch1) fullShare
    ∗ ownsSome (c : Thread nD τ) (Memref.whole cc0_scratch2) fullShare ∗ ownsSome (c : Thread nD τ) (Memref.whole cc0_scratch3) fullShare
    ∗ ownsSome (c : Thread nD τ) (Memref.whole cc0_scratch4) fullShare)

/-- What the body leaves besides its windows: the scratch buffers and all counters at zero. -/
def Φ₁ : sProp (MT nD τ sig Unit (Elt F) ℕ UU ℕ) :=
  iprop(scratch c ∗ (bigSep Finset.univ fun k : Fin 24 => semVal (qcell (6 + k.val) c) 0) ∗ semVal (barCell c) 0)

set_option maxHeartbeats 1000000 in
/-- The slots the body ends with are the scratch buffers again, and its spent cells are all counters. -/
theorem close_up : iprop(semVal (barCell c) 0 ∗ oH c 0 lt0_2 (St I 0 lt0_2 3 c).1 ∗ mH c 0 lt0_2 (St I 0 lt0_2 3 c).2 ∗ oH c 1 lt1_2 (St I 1 lt1_2 3 c).1 ∗ mH c 1 lt1_2 (St I 1 lt1_2 3 c).2 ∗ sH c 0 lt0_2 ((msgs I).bo c 2 0) ∗ sH c 1 lt1_2 ((msgs I).bo c 2 1) ∗ after I c 0 0 lt0_3 lt0_2 ∗ after I c 0 1 lt0_3 lt1_2 ∗ after I c 1 0 lt1_3 lt0_2 ∗ after I c 1 1 lt1_3 lt1_2 ∗ after I c 2 0 lt2_3 lt0_2 ∗ after I c 2 1 lt2_3 lt1_2)
    ⊢ (Φ₁ c : sProp 𝕄) := by
  unfold after
  iintro ⟨Zb, O0, M0, O1, M1, S0, S1, ⟨CO00, CM00, Z000, Z100, Z200, Z300⟩, ⟨CO01, CM01, Z001, Z101, Z201, Z301⟩, ⟨CO10, CM10, Z010, Z110, Z210, Z310⟩, ⟨CO11, CM11, Z011, Z111, Z211, Z311⟩, ⟨CO20, CM20, Z020, Z120, Z220, Z320⟩, ⟨CO21, CM21, Z021, Z121, Z221, Z321⟩⟩
  unfold Φ₁ scratch
  isplitl [O0 M0 O1 M1 S0 S1 CO00 CO01 CO10 CO11 CO20 CO21 CM00 CM01 CM10 CM11 CM20 CM21]
  · isplitl [O0 O1]
    · iapply (join0 c)
      isplitl [O0]; · iapply (some_intro (c : Thread nD τ) _ _); iexact O0
      iapply (some_intro (c : Thread nD τ) _ _); iexact O1
    isplitl [M0 M1]
    · iapply (join1 c)
      isplitl [M0]; · iapply (some_intro (c : Thread nD τ) _ _); iexact M0
      iapply (some_intro (c : Thread nD τ) _ _); iexact M1
    isplitl [S0 S1]
    · iapply (join2 c)
      isplitl [S0]; · iapply (some_intro (c : Thread nD τ) _ _); iexact S0
      iapply (some_intro (c : Thread nD τ) _ _); iexact S1
    isplitl [CO00 CO01 CO10 CO11 CO20 CO21]
    · iapply (join3 c)
      isplitl [CO00]; · iapply (some_intro (c : Thread nD τ) _ _); iexact CO00
      isplitl [CO01]; · iapply (some_intro (c : Thread nD τ) _ _); iexact CO01
      isplitl [CO10]; · iapply (some_intro (c : Thread nD τ) _ _); iexact CO10
      isplitl [CO11]; · iapply (some_intro (c : Thread nD τ) _ _); iexact CO11
      isplitl [CO20]; · iapply (some_intro (c : Thread nD τ) _ _); iexact CO20
      iapply (some_intro (c : Thread nD τ) _ _); iexact CO21
    iapply (join4 c)
    isplitl [CM00]; · iapply (some_intro (c : Thread nD τ) _ _); iexact CM00
    isplitl [CM01]; · iapply (some_intro (c : Thread nD τ) _ _); iexact CM01
    isplitl [CM10]; · iapply (some_intro (c : Thread nD τ) _ _); iexact CM10
    isplitl [CM11]; · iapply (some_intro (c : Thread nD τ) _ _); iexact CM11
    isplitl [CM20]; · iapply (some_intro (c : Thread nD τ) _ _); iexact CM20
    iapply (some_intro (c : Thread nD τ) _ _); iexact CM21
  isplitl [Z000 Z100 Z200 Z300 Z001 Z101 Z201 Z301 Z010 Z110 Z210 Z310 Z011 Z111 Z211 Z311 Z020 Z120 Z220 Z320 Z021 Z121 Z221 Z321]
  · rw [zeros_eq]
    isplitl [Z000]; · iexact Z000
    isplitl [Z100]; · iexact Z100
    isplitl [Z200]; · iexact Z200
    isplitl [Z300]; · iexact Z300
    isplitl [Z001]; · iexact Z001
    isplitl [Z101]; · iexact Z101
    isplitl [Z201]; · iexact Z201
    isplitl [Z301]; · iexact Z301
    isplitl [Z010]; · iexact Z010
    isplitl [Z110]; · iexact Z110
    isplitl [Z210]; · iexact Z210
    isplitl [Z310]; · iexact Z310
    isplitl [Z011]; · iexact Z011
    isplitl [Z111]; · iexact Z111
    isplitl [Z211]; · iexact Z211
    isplitl [Z311]; · iexact Z311
    isplitl [Z020]; · iexact Z020
    isplitl [Z120]; · iexact Z120
    isplitl [Z220]; · iexact Z220
    isplitl [Z320]; · iexact Z320
    isplitl [Z021]; · iexact Z021
    isplitl [Z121]; · iexact Z121
    isplitl [Z221]; · iexact Z221
    iexact Z321
  iexact Zb

end

/-! ## The launch -/

section
variable (m : (ℓ : Loc nD τ sig) → Buf (Elt F) ℓ) (ρ : Dev nD → PrngReg)

/-- Memory as launched. -/
def s₀ : MemSt nD τ sig (Elt F) := ⟨m, fun _ => 0, ρ⟩

/-- What each device is given: its argument arrays as launched. -/
def inM : In F where
  x c := iblk m c 0 t0_0
  wq c := iblk m c 1 t0_0
  wo c := iblk m c 2 t0_0
  k c := iblk m c 3 t0_0
  v c := iblk m c 4 t0_0

/-- What a device's body starts from besides its buffers. -/
def start (c : Dev nD) : sProp (MT nD τ sig Unit (Elt F) ℕ UU ℕ) :=
  iprop(ctx (msgs (inM m)) ∗ kits c)

/-- What a device holds before the body runs. -/
def Φ₀ (c : Dev nD) : sProp (MT nD τ sig Unit (Elt F) ℕ UU ℕ) := iprop(start m c ∗ scratch c)

/-- The launch's windows, their contents before and after, and what the devices hold. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inM m).x c
    | ⟨1, _⟩ => (inM m).wq c
    | ⟨2, _⟩ => (inM m).wo c
    | ⟨3, _⟩ => (inM m).k c
    | ⟨4, _⟩ => (inM m).v c
    | ⟨5, _⟩ => outV (inM m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A fetched window's buffer holds its block before the body. -/
theorem before_x (c : Dev nD) (d) : (dats m ρ 0 c).before (0 : Fin 6) t0_0 d = (inM m).x c := by
  unfold Dat.before; rw [if_pos (fetch0_0 t0_0)]; rfl
/-- Each window's contents when the body starts: the queries' weights, -/
theorem before_wq (c : Dev nD) (d) : (dats m ρ 0 c).before (1 : Fin 6) t0_0 d = (inM m).wq c := by
  unfold Dat.before; rw [if_pos (fetch0_1 t0_0)]; rfl
/-- the output's weights, -/
theorem before_wo (c : Dev nD) (d) : (dats m ρ 0 c).before (2 : Fin 6) t0_0 d = (inM m).wo c := by
  unfold Dat.before; rw [if_pos (fetch0_2 t0_0)]; rfl
/-- the keys -/
theorem before_k (c : Dev nD) (d) : (dats m ρ 0 c).before (3 : Fin 6) t0_0 d = (inM m).k c := by
  unfold Dat.before; rw [if_pos (fetch0_3 t0_0)]; rfl
/-- and the values. -/
theorem before_v (c : Dev nD) (d) : (dats m ρ 0 c).before (4 : Fin 6) t0_0 d = (inM m).v c := by
  unfold Dat.before; rw [if_pos (fetch0_4 t0_0)]; rfl

/-- What the pipeline hands the body, and what the body hands back. -/
def bodyPre (c : Dev nD) : sProp (MT nD τ sig Unit (Elt F) ℕ UU ℕ) :=
  iprop(Φ₀ m c ∗ (dats m ρ 0 c).owesAt () t0_0.castSucc
    ∗ (∃ d, owns (c : Thread nD τ) (Memref.whole cc0_stg0_0) fullShare ((dats m ρ 0 c).before (0 : Fin 6) t0_0 d))
    ∗ (∃ d, owns (c : Thread nD τ) (Memref.whole cc0_stg1_0) fullShare ((dats m ρ 0 c).before (1 : Fin 6) t0_0 d))
    ∗ (∃ d, owns (c : Thread nD τ) (Memref.whole cc0_stg2_0) fullShare ((dats m ρ 0 c).before (2 : Fin 6) t0_0 d))
    ∗ (∃ d, owns (c : Thread nD τ) (Memref.whole cc0_stg3_0) fullShare ((dats m ρ 0 c).before (3 : Fin 6) t0_0 d))
    ∗ (∃ d, owns (c : Thread nD τ) (Memref.whole cc0_stg4_0) fullShare ((dats m ρ 0 c).before (4 : Fin 6) t0_0 d))
    ∗ (∃ d, owns (c : Thread nD τ) (Memref.whole cc0_stg5_0) fullShare ((dats m ρ 0 c).before (5 : Fin 6) t0_0 d)))
/-- What the body leaves. -/
def bodyPost (c : Dev nD) : sProp (MT nD τ sig Unit (Elt F) ℕ UU ℕ) :=
  iprop(Φ₁ c ∗ (dats m ρ 0 c).owesAt () t0_0.succ
    ∗ owns (c : Thread nD τ) (Memref.whole cc0_stg0_0) fullShare ((inM m).x c)
    ∗ owns (c : Thread nD τ) (Memref.whole cc0_stg1_0) fullShare ((inM m).wq c)
    ∗ owns (c : Thread nD τ) (Memref.whole cc0_stg2_0) fullShare ((inM m).wo c)
    ∗ owns (c : Thread nD τ) (Memref.whole cc0_stg3_0) fullShare ((inM m).k c)
    ∗ owns (c : Thread nD τ) (Memref.whole cc0_stg4_0) fullShare ((inM m).v c)
    ∗ owns (c : Thread nD τ) (Memref.whole cc0_stg5_0) fullShare (outV (inM m) c))

/-- The output states, group by group, -/
theorem split0' (c : Dev nD) : (ownsSome (c : Thread nD τ) (Memref.whole cc0_scratch0) fullShare : sProp 𝕄)
    ⊢ iprop((∃ f, oH c 0 lt0_2 f) ∗ (∃ f, oH c 1 lt1_2 f)) := split0 c
/-- the maxima and sums -/
theorem split1' (c : Dev nD) : (ownsSome (c : Thread nD τ) (Memref.whole cc0_scratch1) fullShare : sProp 𝕄)
    ⊢ iprop((∃ f, mH c 0 lt0_2 f) ∗ (∃ f, mH c 1 lt1_2 f)) := split1 c
/-- and the send buffers likewise. -/
theorem split2' (c : Dev nD) : (ownsSome (c : Thread nD τ) (Memref.whole cc0_scratch2) fullShare : sProp 𝕄)
    ⊢ iprop((∃ f, sH c 0 lt0_2 f) ∗ (∃ f, sH c 1 lt1_2 f)) := split2 c

set_option maxHeartbeats 1000000 in
/-- The body, from what the pipeline hands it to what it hands back. -/
theorem body_runs (c : Dev nD) : bodyPre m ρ c ⊢ WP c (onBufs (cc0_body (F := F))) (fun _ => bodyPost m ρ c) := by
  unfold bodyPre Φ₀ start scratch kits Dat.owesAt Pipeline.owesWithin
  iintro ⟨⟨⟨Hctx, ⟨T0, T1, T2⟩, Hcb, Hab, K00, K01, K10, K11, K20, K21⟩, S0, S1, S2, S3, S4⟩, ⟨%W, -, HO⟩, ⟨%d0, H0⟩, ⟨%d1, H1⟩, ⟨%d2, H2⟩, ⟨%d3, H3⟩, ⟨%d4, H4⟩, ⟨%d5, H5⟩⟩
  rw [before_x, before_wq, before_wo, before_k, before_v, show (dats m ρ 0 c).owed t0_0.castSucc = O₀ c from rfl]
  ihave S0 := (split0' c) $$ S0
  icases S0 with ⟨⟨%X0, O0⟩, ⟨%X1, O1⟩⟩
  ihave S1 := (split1' c) $$ S1
  icases S1 with ⟨⟨%Y0, M0⟩, ⟨%Y1, M1⟩⟩
  ihave S2 := (split2' c) $$ S2
  icases S2 with ⟨⟨%Z0, B0⟩, ⟨%Z1, B1⟩⟩
  ihave S3 := (split3 c) $$ S3
  icases S3 with ⟨A00, A01, A10, A11, A20, A21⟩
  ihave S4 := (split4 c) $$ S4
  icases S4 with ⟨L00, L01, L10, L11, L20, L21⟩
  iapply (body_core (inM m) c X0 X1 Y0 Y1 Z0 Z1 ((dats m ρ 0 c).before (5 : Fin 6) t0_0 d5) (fun _ => bodyPost m ρ c)) $$ [Hctx HO T0 T1 T2 Hcb Hab K00 A00 L00 K01 A01 L01 K10 A10 L10 K11 A11 L11 K20 A20 L20 K21 A21 L21 O0 O1 M0 M1 B0 B1 H0 H1 H2 H3 H4 H5]
  · isplitl [Hctx]; · iexact Hctx
    isplitl [HO]; · unfold ow; iexists W; iexact HO
    isplitl [T0]; · iexact T0
    isplitl [T1]; · iexact T1
    isplitl [T2]; · iexact T2
    isplitl [A00 L00 A01 L01]
    · unfold slots
      isplitl [A00]; · iexact A00
      isplitl [L00]; · iexact L00
      isplitl [A01]; · iexact A01
      iexact L01
    isplitl [A10 L10 A11 L11]
    · unfold slots
      isplitl [A10]; · iexact A10
      isplitl [L10]; · iexact L10
      isplitl [A11]; · iexact A11
      iexact L11
    isplitl [A20 L20 A21 L21]
    · unfold slots
      isplitl [A20]; · iexact A20
      isplitl [L20]; · iexact L20
      isplitl [A21]; · iexact A21
      iexact L21
    isplitl [Hcb]; · iexact Hcb
    isplitl [Hab]; · iexact Hab
    isplitl [H0 H1 H3 H4]
    · unfold ins
      isplitl [H0]; · iexact H0
      isplitl [H1]; · iexact H1
      isplitl [H3]; · iexact H3
      iexact H4
    isplitl [H2]; · iexact H2
    isplitl [H5]; · iexact H5
    isplitl [O0]; · iexact O0
    isplitl [M0]; · iexact M0
    isplitl [O1]; · iexact O1
    isplitl [M1]; · iexact M1
    isplitl [B0]; · iexact B0
    isplitl [B1]; · iexact B1
    isplitl [K00]; · iexact K00
    isplitl [K01]; · iexact K01
    isplitl [K10]; · iexact K10
    isplitl [K11]; · iexact K11
    isplitl [K20]; · iexact K20
    iexact K21
  iintro ⟨HO, Zb, Hi, H2, H5, O0, M0, O1, M1, B0, B1, E00, E01, E10, E11, E20, E21⟩
  unfold ins ow
  icases Hi with ⟨H0, H1, H3, H4⟩
  icases HO with ⟨%W', HO⟩
  unfold bodyPost Dat.owesAt Pipeline.owesWithin
  isplitl [Zb O0 M0 O1 M1 B0 B1 E00 E01 E10 E11 E20 E21]
  · iapply (close_up (inM m) c)
    isplitl [Zb]; · iexact Zb
    isplitl [O0]; · iexact O0
    isplitl [M0]; · iexact M0
    isplitl [O1]; · iexact O1
    isplitl [M1]; · iexact M1
    isplitl [B0]; · iexact B0
    isplitl [B1]; · iexact B1
    isplitl [E00]; · iexact E00
    isplitl [E01]; · iexact E01
    isplitl [E10]; · iexact E10
    isplitl [E11]; · iexact E11
    isplitl [E20]; · iexact E20
    iexact E21
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

set_option maxRecDepth 8000 in
/-- The library's body obligation. -/
theorem body_obligation (c : Dev nD) : BodyObligation (dats (F := F) m ρ 0 c) (defs₀ (F := F)) 𝒱₀ () Set.univ := fun t => by
  rw [fin_N0 t, bigSep_W0, bigSep_W0]
  exact body_runs m ρ c

/-- What a device starts with, out of the launch's set-up. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (msgs (inM m)) c)
      ⊢ |={Set.univ}=> iprop(start m c ∗ emp) := by
  iintro ⟨-, Hlev, Hcr, -, HG⟩
  ihave Hc := (creds_of_launch (F := F) c) $$ Hcr
  unfold G'
  icases HG with ⟨Hk, Hp, Ht⟩
  imodintro
  unfold start
  isplitl
  · isplitl [Hk Hlev]
    · unfold ctx known
      isplitl [Hk]; · iexact Hk
      iexact Hlev
    iapply (mkKits c)
    isplitl [Ht]; · iexact Ht
    isplitl [Hp]; · iexact Hp
    iexact Hc
  · iempintro

/-- The scratch buffers as the pipeline holds them. -/
theorem scratch_eq (c : Dev nD) : (Pipeline.scopedRest cfg0.spec c : sProp 𝕄) = scratch c := by
  rw [scopedRest0_eq, whole_some, whole_some, whole_some, whole_some, whole_some]; rfl

/-- What it holds before the body, out of that and the scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs]; · iexact Hs
  iexact Hr

/-- What it holds after, given back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, own_eq, unscoped_eq]
  unfold Φ₁
  iintro ⟨Hr, Hz, Hb⟩
  isplitl [Hb]; · iexact Hb
  isplitl [Hz]; · iexact Hz
  iexact Hr

/-- Every window is held in full. -/
theorem share_eq (c : Dev nD) (w : Fin cfg0.W) : (dats m ρ 0 c).share w = fullShare := by
  unfold Dat.share; split <;> rfl

/-- The windows' own transfers may be waited for. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array as the launch leaves it. -/
def finalA (c : Dev nD) (w : Fin cfg0.W) : Buf (Elt F) ((cfg0.win w).arr.view.loc (c : Thread nD τ)) := (dats m ρ 0 c).arrAt w cfg0.N

/-- The run's result: every array of every device holds what the launch leaves in it. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, the eight devices' kernels run to the end; every device's
    windows then hold the computed contents and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (msgs (inM m))) (G' := G' (msgs (inM m))) (u₀ := u₀)
    (hu₀ := by
      unfold u₀
      iintro Hu
      ihave H := (ownU_pair _ _) $$ Hu
      icases H with ⟨HP, HX⟩
      imod (fund_cells (msgs (inM m))) $$ HX with HG
      imodintro
      isplitl [HP] <;> iassumption)
    (hglob := glob (msgs (inM m)))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array's one block as the launch leaves it is what the body computed. -/
theorem finalA_out (c : Dev nD) :
    (win0_5.blk t0_0).view.read (Elt F) (finalA m ρ c (5 : Fin 6)) = outV (inM m) c := by
  unfold finalA
  rw [show cfg0.N = (t0_0 : Fin cfg0.N).val + 1 from N_0, (dats m ρ 0 c).arrAt_succ (5 : Fin 6) t0_0]
  rw [if_pos (flush0_5 t0_0)]
  exact View.read_write_univ _ _

/-- What the run says of a device's arrays: the arguments as they were, the result's block as computed, all counters zero. -/
theorem run_arrays : θ_run defs (onTc (τ := τ) (main (F := F))) ⟨m, fun _ => 0, ρ⟩ (fun r => (∀ c : Dev nD,
    (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ (win0_5.blk t0_0).view.read (Elt F) (r.2.mem ((c.tc : Thread nD τ).loc main_v1)) = outV (inM m) c)
    ∧ r.2.sem = fun _ => 0) := by
  refine (θ_run defs _ _).mono (fun r h => ⟨fun c => ⟨⟨?_, ?_, ?_, ?_, ?_⟩, ?_⟩, h.2⟩) (run_main (F := F) m ρ)
  · exact (h.1 c (0 : Fin 6)).trans ((dats (F := F) m ρ 0 c).arrAt_in (0 : Fin 6) rfl _)
  · exact (h.1 c (1 : Fin 6)).trans ((dats (F := F) m ρ 0 c).arrAt_in (1 : Fin 6) rfl _)
  · exact (h.1 c (3 : Fin 6)).trans ((dats (F := F) m ρ 0 c).arrAt_in (3 : Fin 6) rfl _)
  · exact (h.1 c (4 : Fin 6)).trans ((dats (F := F) m ρ 0 c).arrAt_in (4 : Fin 6) rfl _)
  · exact (h.1 c (2 : Fin 6)).trans ((dats (F := F) m ρ 0 c).arrAt_in (2 : Fin 6) rfl _)
  · exact (congrArg ((win0_5.blk t0_0).view.read (Elt F)) (h.1 c (5 : Fin 6))).trans (finalA_out m ρ c)

end

end Cert.KernelIdealRun
-- ==== Proof.Value.Flash.lean ====
/-
  Attention over a set of keys, read off one set of numbers at a time: the largest score, the sum of the exponentials
  of the scores less it, and the same sum weighted by the values. This file states, for scores and values in the
  extended reals, how these three pass to a larger set of keys. Nothing is asked of the scores or of the values.
-/
module

public import Idealize.ShloMosaic.Lib.Pointwise

@[expose] public section

noncomputable section

namespace Cert.Flash

open Idealize.ShloMosaic

variable {ι : Type} [DecidableEq ι]

/-- The largest score over the keys of `S`; over no keys, minus infinity. -/
def top (s : ι → EReal) (S : Finset ι) : EReal := S.sup s

/-- The sum over the keys of `S` of `v`, each weighted by the exponential of its score less the largest. -/
def wsum (s : ι → EReal) (S : Finset ι) (v : ι → EReal) : EReal := ∑ j ∈ S, Ideal.exp (s j - top s S) * v j

/-- The sum over the keys of `S` of the exponentials of the scores less the largest. -/
def lsum (s : ι → EReal) (S : Finset ι) : EReal := ∑ j ∈ S, Ideal.exp (s j - top s S)

/-- The unweighted sum is the one weighted by ones. -/
theorem lsum_eq (s : ι → EReal) (S : Finset ι) : lsum s S = wsum s S fun _ => 1 := by
  simp only [lsum, wsum, mul_one]

/-- A factor that is neither negative nor plus infinity passes through a finite sum. -/
theorem mul_sum_of {a : EReal} (h0 : 0 ≤ a) (ht : a ≠ ⊤) (S : Finset ι) (f : ι → EReal) :
    a * ∑ j ∈ S, f j = ∑ j ∈ S, a * f j := by
  induction S using Finset.induction_on with
  | empty => simp
  | insert j S hj ih => rw [Finset.sum_insert hj, Finset.sum_insert hj, EReal.left_distrib_of_nonneg_of_ne_top h0 ht, ih]

/-- The exponential of minus infinity is zero. -/
theorem exp_bot : Ideal.exp ⊥ = 0 := rfl

/-- The exponential of a real number is its real exponential. -/
theorem exp_coe (r : ℝ) : Ideal.exp (r : EReal) = (Real.exp r : EReal) := rfl

/-- Anything less plus infinity is minus infinity. -/
theorem sub_top' (x : EReal) : x - ⊤ = ⊥ := by
  rw [sub_eq_add_neg, EReal.neg_top, EReal.add_bot]

/-- Minus infinity less anything is minus infinity. -/
theorem bot_sub' (x : EReal) : (⊥ : EReal) - x = ⊥ := by
  rw [sub_eq_add_neg, EReal.bot_add]

/-- The exponentials of `s - m` and of `m - M` multiply to that of `s - M`, for `s ≤ m ≤ M` with `m` a real number or
    `M` plus infinity. -/
theorem exp_mul_exp {s m M : EReal} (hs : s ≤ m) (hm : m ≤ M) : Ideal.exp (m - M) * Ideal.exp (s - m) = Ideal.exp (s - M) := by
  induction M with
  | top => rw [sub_top', sub_top', exp_bot, zero_mul]
  | bot =>
    rw [le_bot_iff] at hm
    subst hm
    rw [le_bot_iff] at hs
    subst hs
    rw [bot_sub', exp_bot, zero_mul]
  | coe M =>
    induction m with
    | top => exact absurd hm (by simp)
    | bot =>
      rw [le_bot_iff] at hs
      subst hs
      rw [bot_sub', bot_sub', exp_bot, zero_mul]
    | coe m =>
      induction s with
      | top => exact absurd hs (by simp)
      | bot => rw [bot_sub', bot_sub', exp_bot, mul_zero]
      | coe s =>
        rw [← EReal.coe_sub, ← EReal.coe_sub, ← EReal.coe_sub, exp_coe, exp_coe, exp_coe, ← EReal.coe_mul, ← Real.exp_add]
        congr 2
        ring

/-- The exponential of a difference `m - M` with `m ≤ M` is neither negative nor plus infinity. -/
theorem exp_sub_bounds {m M : EReal} (hm : m ≤ M) : 0 ≤ Ideal.exp (m - M) ∧ Ideal.exp (m - M) ≠ ⊤ := by
  have key : ∀ x : EReal, x ≠ ⊤ → 0 ≤ Ideal.exp x ∧ Ideal.exp x ≠ ⊤ := by
    intro x hx
    induction x with
    | top => exact absurd rfl hx
    | bot => rw [exp_bot]; exact ⟨le_refl _, EReal.zero_ne_top⟩
    | coe r =>
      rw [exp_coe]
      exact ⟨EReal.coe_nonneg.2 (Real.exp_pos r).le, EReal.coe_ne_top _⟩
  apply key
  induction M with
  | top => rw [sub_top']; exact bot_ne_top
  | bot => rw [le_bot_iff] at hm; subst hm; rw [bot_sub']; exact bot_ne_top
  | coe M =>
    induction m with
    | top => exact absurd hm (by simp)
    | bot => rw [bot_sub']; exact bot_ne_top
    | coe m => rw [← EReal.coe_sub]; exact EReal.coe_ne_top _

/-- A weighted sum over `S` moved to a larger maximum: scaled by the exponential of the difference of the two, it is
    the sum weighted against the larger one. -/
theorem rescale (s : ι → EReal) (S : Finset ι) (v : ι → EReal) {M : EReal} (hM : top s S ≤ M) :
    Ideal.exp (top s S - M) * wsum s S v = ∑ j ∈ S, Ideal.exp (s j - M) * v j := by
  obtain ⟨h0, ht⟩ := exp_sub_bounds hM
  rw [wsum, mul_sum_of h0 ht]
  refine Finset.sum_congr rfl fun j hj => ?_
  have hs : s j ≤ top s S := Finset.le_sup (f := s) hj
  rw [← mul_assoc, exp_mul_exp hs hM]

/-- The largest score over two sets of keys is the larger of the two largest. -/
theorem top_union (s : ι → EReal) (S T : Finset ι) : top s (S ∪ T) = max (top s S) (top s T) := Finset.sup_union

/-- The weighted sum over two disjoint sets: the two sums, each scaled to the larger maximum. -/
theorem wsum_union (s : ι → EReal) {S T : Finset ι} (h : Disjoint S T) (v : ι → EReal) :
    wsum s (S ∪ T) v
      = Ideal.exp (top s S - max (top s S) (top s T)) * wsum s S v
        + Ideal.exp (top s T - max (top s S) (top s T)) * wsum s T v := by
  rw [rescale s S v (le_max_left _ _), rescale s T v (le_max_right _ _), wsum, Finset.sum_union h, top_union]

/-- The same of the unweighted sum. -/
theorem lsum_union (s : ι → EReal) {S T : Finset ι} (h : Disjoint S T) :
    lsum s (S ∪ T)
      = Ideal.exp (top s S - max (top s S) (top s T)) * lsum s S
        + Ideal.exp (top s T - max (top s S) (top s T)) * lsum s T := by
  rw [lsum_eq, lsum_eq, lsum_eq, wsum_union s h]

/-- A weighted sum over `S` taken with a further disjoint set of keys `T`, whose exponentials are taken against the
    larger maximum directly. -/
theorem wsum_step (s : ι → EReal) {S T : Finset ι} (h : Disjoint S T) (v : ι → EReal) :
    wsum s (S ∪ T) v
      = Ideal.exp (top s S - max (top s S) (top s T)) * wsum s S v
        + ∑ j ∈ T, Ideal.exp (s j - max (top s S) (top s T)) * v j := by
  rw [wsum_union s h, rescale s T v (le_max_right _ _)]

/-- The same of the unweighted sum. -/
theorem lsum_step (s : ι → EReal) {S T : Finset ι} (h : Disjoint S T) :
    lsum s (S ∪ T)
      = Ideal.exp (top s S - max (top s S) (top s T)) * lsum s S
        + ∑ j ∈ T, Ideal.exp (s j - max (top s S) (top s T)) := by
  rw [lsum_eq, lsum_eq, wsum_step s h]
  simp only [mul_one]

/-- Over no keys the largest score is minus infinity. -/
theorem top_empty (s : ι → EReal) : top s ∅ = ⊥ := rfl

/-- Over no keys the sum is zero. -/
theorem wsum_empty (s : ι → EReal) (v : ι → EReal) : wsum s ∅ v = 0 := rfl

/-- Over no keys the unweighted sum is zero. -/
theorem lsum_empty (s : ι → EReal) : lsum s ∅ = 0 := rfl

/-- A maximum taken from minus infinity over every member of a type is the largest value. -/
theorem fold_max_eq {κ : Type} [DecidableEq κ] (S : Finset κ) (f : κ → EReal) : S.fold max ⊥ f = S.sup f := by
  induction S using Finset.induction_on with
  | empty => rfl
  | insert j S hj ih => rw [Finset.fold_insert hj, Finset.sup_insert, ih]

/-- The word from which a running maximum starts denotes minus infinity. -/
theorem negInf : Ideal.ofBits .f32 0xFF800000#32 = ⊥ := by
  simp [Ideal.ofBits, Ideal.ieee]

end Cert.Flash
-- ==== Proof.Value.Spec.lean ====
/-
  What both programs compute, over the extended reals: for each of eight heads, attention of 512 queries over 16384
  keys, the head's share of the output's columns; four heads share one group of keys and values.
-/
module

public import proofs.«01_k».proof.Proof.Value.Flash

@[expose] public section

noncomputable section

namespace Cert.Flash

open Idealize.ShloMosaic

/-- The arrays of one call. -/
structure Args where
  x : Fin 512 → Fin 1024 → EReal
  wq : Fin 1024 → Fin 1024 → EReal
  k : Fin 16384 → Fin 2 → Fin 128 → EReal
  v : Fin 16384 → Fin 2 → Fin 128 → EReal
  wo : Fin 1024 → Fin 1024 → EReal

/-- Column `d` of head `h` among the 1024 columns of all heads. -/
def col (h : Fin 8) (d : Fin 128) : Fin 1024 := ⟨128 * h.val + d.val, by omega⟩

/-- The group of keys that head `h` reads. -/
def grp (h : Fin 8) : Fin 2 := ⟨h.val / 4, by omega⟩

variable (A : Args)

/-- The queries. -/
def query (i : Fin 512) (n : Fin 1024) : EReal := ∑ k : Fin 1024, A.x i k * A.wq k n

/-- The score of key `j` under query `i` of head `h`: their product, scaled. -/
def score (i : Fin 512) (h : Fin 8) (j : Fin 16384) : EReal :=
  (∑ d : Fin 128, query A i (col h d) * A.k j (grp h) d) * Ideal.ofBits .f32 0x3DB504F3#32

/-- Entry `d` of head `h`'s attention under query `i`. -/
def attn (i : Fin 512) (h : Fin 8) (d : Fin 128) : EReal :=
  Ideal.div (wsum (score A i h) Finset.univ fun j => A.v j (grp h) d) (lsum (score A i h) Finset.univ)

/-- Head `h`'s part of the output. -/
def headOut (i : Fin 512) (n : Fin 1024) (h : Fin 8) : EReal := ∑ d : Fin 128, attn A i h d * A.wo (col h d) n

/-- The output. -/
def result (i : Fin 512) (n : Fin 1024) : EReal := ∑ h : Fin 8, headOut A i n h

/-- The output's sum over all 1024 columns is its sum head by head. -/
theorem result_eq (i : Fin 512) (n : Fin 1024) (f : Fin 1024 → EReal)
    (hf : ∀ h d, f (col h d) = attn A i h d * A.wo (col h d) n) : ∑ k, f k = result A i n := by
  have e : ∑ k, f k = ∑ p : Fin 8 × Fin 128, f (finProdFinEquiv p) := (Equiv.sum_comp (finProdFinEquiv (m := 8) (n := 128)) f).symm
  rw [e, Fintype.sum_prod_type]
  refine Finset.sum_congr rfl fun h _ => Finset.sum_congr rfl fun d _ => ?_
  rw [← hf]
  exact congrArg f (Fin.ext (Nat.add_comm _ _))

end Cert.Flash
-- ==== Proof.Value.Kernel.lean ====
/-
  The kernel's values over the extended reals: each payload at an index, then the state after every round.
-/
module

public import proofs.«01_k».proof.Proof.KernelIdealRun.Model
public import proofs.«01_k».proof.Proof.Value.Spec

@[expose] public section

set_option maxRecDepth 16384

noncomputable section

namespace Cert.KernelValue

open Cert.KernelIdeal Cert.KernelIdeal.Gen Cert.Piece Cert.KernelIdealRun Cert.Flash
open Idealize.ShloMosaic

/-! ## Parts of arrays at an index -/

/-- An entry of a box of an array is the array's entry at the shifted place. -/
theorem sub_eq {α : Type} {n : ℕ} {Size : Fin n → ℕ} (X : (⟨n, Size⟩ : Shape).Idx → α) (ioff size : Fin n → ℕ)
    (h : ∀ a, ioff a + size a ≤ Size a) (x : (⟨n, size⟩ : Shape).Idx) (y : (⟨n, Size⟩ : Shape).Idx)
    (e : ∀ a, (y a).val = ioff a + (x a).val) : sub X ioff size h x = X y :=
  congrArg X (funext fun a => Fin.ext (by rw [emb_val, e]))

/-- An entry of one head's output state, -/
theorem getO_at (X : Vec Ideal S1x4x512x128 .f32) (h : ℕ) (hh : h < 4) (i : Fin 512) (d : Fin 128) :
    getO X h hh (ix4 0 0 i d) = X (ix4 0 ⟨h, hh⟩ i d) :=
  sub_eq X _ _ _ _ _ fun a => by fin_cases a <;> simp [ix4]

/-- of one head's maxima or sums, -/
theorem getH_at (Y : Vec Ideal S1x2x4x512 .f32) (k h : ℕ) (hk : k < 2) (hh : h < 4) (i : Fin 512) :
    getH Y k h hk hh (ix4 0 0 0 i) = Y (ix4 0 ⟨k, hk⟩ ⟨h, hh⟩ i) :=
  sub_eq Y _ _ _ _ _ fun a => by fin_cases a <;> simp [ix4]

/-- of all heads' maxima or sums, -/
theorem getK_at (Y : Vec Ideal S1x2x4x512 .f32) (k : ℕ) (hk : k < 2) (h : Fin 4) (i : Fin 512) :
    getK Y k hk (ix4 0 0 h i) = Y (ix4 0 ⟨k, hk⟩ h i) :=
  sub_eq Y _ _ _ _ _ fun a => by fin_cases a <;> simp [ix4]

/-- and of the same as they arrive. -/
theorem getC_at (Z : Vec Ideal S1x1x2x4x512 .f32) (k : ℕ) (hk : k < 2) (h : Fin 4) (i : Fin 512) :
    getC Z k hk (ix5 0 0 0 h i) = Z (ix5 0 0 ⟨k, hk⟩ h i) :=
  sub_eq Z _ _ _ _ _ fun a => by fin_cases a <;> simp [ix5]

/-- An entry of the maxima or of the sums once the other of the two is replaced, -/
theorem setK_ne (Y : Vec Ideal S1x2x4x512 .f32) (k k' : ℕ) (hk : k < 2) (hk' : k' < 2) (hne : k' ≠ k) (w : Vec Ideal S1x1x4x512 .f32)
    (h : Fin 4) (i : Fin 512) : setK Y k hk w (ix4 0 ⟨k', hk'⟩ h i) = Y (ix4 0 ⟨k', hk'⟩ h i) := by
  refine put_of_not (n := 4) (Size := S1x2x4x512.size) Y (box_k hk) w _ 1 ?_
  show k' < k ∨ k + 1 ≤ k'
  omega

/-- and once they themselves are. -/
theorem setK_at (Y : Vec Ideal S1x2x4x512 .f32) (k : ℕ) (hk : k < 2) (w : Vec Ideal S1x1x4x512 .f32)
    (h : Fin 4) (i : Fin 512) : setK Y k hk w (ix4 0 ⟨k, hk⟩ h i) = w (ix4 0 0 h i) :=
  put_of_mem (n := 4) (Size := S1x2x4x512.size) Y (box_k hk) w (ix4 0 0 h i) _ fun a => by fin_cases a <;> simp [ix4]

/-! ## The merge -/

section
variable (o o' : Vec Ideal S1x4x512x128 .f32) (m m' : Vec Ideal S1x2x4x512 .f32) (h : Fin 4) (i : Fin 512) (d : Fin 128)

/-- The merged maximum is the larger of the two; -/
theorem mergeM_max : mergeM m (upM m') (ix4 0 0 h i) = max (m (ix4 0 0 h i)) (m' (ix4 0 0 h i)) := by
  refine (setK_ne _ 1 0 (by decide) (by decide) (by decide) _ h i).trans ((setK_at _ 0 (by decide) _ h i).trans ?_)
  pointwise [k0_pay71, k0_pay68, k0_pay66, k0_pay65, upM, getK_at, getC_at]

/-- the merged sum adds the two, each scaled to the merged maximum; -/
theorem mergeM_sum : mergeM m (upM m') (ix4 0 1 h i)
    = Ideal.exp (m (ix4 0 0 h i) - max (m (ix4 0 0 h i)) (m' (ix4 0 0 h i))) * m (ix4 0 1 h i)
      + Ideal.exp (m' (ix4 0 0 h i) - max (m (ix4 0 0 h i)) (m' (ix4 0 0 h i))) * m' (ix4 0 1 h i) := by
  refine (setK_at _ 1 (by decide) _ h i).trans ?_
  pointwise [k0_pay72, k0_pay69, k0_pay70, k0_pay68, k0_pay66, k0_pay65, upM, getK_at, getC_at]

/-- and the merged output state likewise. -/
theorem mergeO_at : mergeO o m (upM m') (upO (k0_pay76 o')) (ix4 0 h i d)
    = Ideal.exp (m (ix4 0 0 h i) - max (m (ix4 0 0 h i)) (m' (ix4 0 0 h i))) * o (ix4 0 h i d)
      + Ideal.exp (m' (ix4 0 0 h i) - max (m (ix4 0 0 h i)) (m' (ix4 0 0 h i))) * o' (ix4 0 h i d) := by
  unfold mergeO
  pointwise [k0_pay75, k0_pay67, k0_pay73, k0_pay74, k0_pay69, k0_pay70, k0_pay68, k0_pay66, k0_pay65, k0_pay76, upO, upM, getK_at, getC_at]

end

/-! ## A device's own keys -/

section
variable (I : In Ideal) (c : Dev nD) (g : Fin 2) (h : Fin 4) (i : Fin 512)

/-- A group's queries are the products of the inputs with the group's columns of the weights; -/
theorem qG_at (n : Fin 512) : qG I c g.val g.isLt (ix2 i n)
    = ∑ k : Fin 1024, I.x c (ix3 0 i k) * I.wq c (ix2 k ⟨512 * g.val + n.val, by omega⟩) := by
  have e1 : ∀ k : Fin 1024, sub (n := 3) (Size := S1x512x1024.size) (I.x c) ![0, 0, 0] S1x512x1024.size box_x (ix3 0 i k) = I.x c (ix3 0 i k) :=
    fun k => sub_eq (I.x c) _ _ _ _ _ fun a => by fin_cases a <;> simp [ix3]
  have e2 : ∀ k : Fin 1024, sub (n := 2) (Size := S1024x1024.size) (I.wq c) ![0, 512 * g.val] S1024x512.size (box_wq g.isLt) (ix2 k n)
      = I.wq c (ix2 k ⟨512 * g.val + n.val, by omega⟩) :=
    fun k => sub_eq (I.wq c) _ _ _ _ _ fun a => by fin_cases a <;> simp [ix2]
  unfold qG
  pointwise [k0_pay1, e1, e2]

/-- its keys are its part of the device's keys, -/
theorem kG_at (j : Fin 2048) (d : Fin 128) : kG I c g.val g.isLt (ix2 j d) = I.k c (ix4 0 j g d) := by
  have e : sub (n := 4) (Size := S1x2048x2x128.size) (I.k c) ![0, 0, g.val, 0] S1x2048x1x128.size (box_kv g.isLt) (ix4 0 j 0 d)
      = I.k c (ix4 0 j g d) := sub_eq (I.k c) _ _ _ _ _ fun a => by fin_cases a <;> simp [ix4]
  unfold kG
  pointwise [k0_pay2, e]

/-- and its values its part of the device's values. -/
theorem vG_at (j : Fin 2048) (d : Fin 128) : vG I c g.val g.isLt (ix2 j d) = I.v c (ix4 0 j g d) := by
  have e : sub (n := 4) (Size := S1x2048x2x128.size) (I.v c) ![0, 0, g.val, 0] S1x2048x1x128.size (box_kv g.isLt) (ix4 0 j 0 d)
      = I.v c (ix4 0 j g d) := sub_eq (I.v c) _ _ _ _ _ fun a => by fin_cases a <;> simp [ix4]
  unfold vG
  pointwise [k0_pay3, e]

/-- An unscaled score is the product of a query and a key. -/
theorem raw_at (j : Fin 2048) : raw I c g.val g.isLt h.val h.isLt (ix2 i j)
    = ∑ d : Fin 128, qG I c g.val g.isLt (ix2 i ⟨128 * h.val + d.val, by omega⟩) * I.k c (ix4 0 j g d) := by
  unfold raw
  pointwise [kG_at]

end

section
variable (X : FVec Ideal S512x2048 .f32) (V : FVec Ideal S2048x128 .f32) (i : Fin 512) (d : Fin 128)

/-- Key `j`'s scaled score. -/
def sc (j : Fin 2048) : EReal := X (ix2 i j) * Ideal.ofBits .f32 0x3DB504F3#32

/-- The row maximum is the largest scaled score, -/
theorem pay6_at : k0_pay6 X (ix2 i 0) = top (sc X i) Finset.univ := by
  rw [top, ← fold_max_eq, ← negInf]
  pointwise [k0_pay6, k0_pay5, sc]

/-- also as it is stored. -/
theorem pay9_at : k0_pay9 X (ix4 0 0 0 i) = top (sc X i) Finset.univ := by
  rw [← pay6_at]
  pointwise [k0_pay9]

/-- The weights are the exponentials of the scores less the largest; -/
theorem pay7_at (j : Fin 2048) : k0_pay7 X (ix2 i j) = Ideal.exp (sc X i j - top (sc X i) Finset.univ) := by
  rw [← pay6_at]
  pointwise [k0_pay7, k0_pay5, sc]

/-- the stored sum is the sum of the weights, -/
theorem pay10_at : k0_pay10 X (ix4 0 0 0 i) = lsum (sc X i) Finset.univ := by
  unfold lsum
  pointwise [k0_pay10, pay7_at]

/-- and the stored output state the sum of the values, so weighted. -/
theorem pay8_at : k0_pay8 V X (ix4 0 0 i d) = wsum (sc X i) Finset.univ fun j => V (ix2 j d) := by
  unfold wsum
  pointwise [k0_pay8, pay7_at]

end

/-! ## The state after every round -/

/-- An entry of four heads' output states laid side by side, -/
theorem joinO_at (P : ∀ h, h < 4 → Vec Ideal S1x1x512x128 .f32) (h : Fin 4) (i : Fin 512) (d : Fin 128) :
    joinO P (ix4 0 h i d) = P h.val h.isLt (ix4 0 0 i d) :=
  congrArg (P h.val h.isLt) (funext fun a => by fin_cases a <;> rfl)

/-- and of their maxima and sums. -/
theorem joinM_at (P : ∀ k h, k < 2 → h < 4 → Vec Ideal S1x1x1x512 .f32) (k : Fin 2) (h : Fin 4) (i : Fin 512) :
    joinM P (ix4 0 k h i) = P k.val h.val k.isLt h.isLt (ix4 0 0 0 i) :=
  congrArg (P k.val h.val k.isLt h.isLt) (funext fun a => by fin_cases a <;> rfl)

/-- Key `j` of device `c`, among all. -/
def key (c : Dev nD) (j : Fin 2048) : Fin 16384 := ⟨2048 * c.val + j.val, by have : c.val < 8 := c.isLt; omega⟩

/-- Different keys of a device are different among all. -/
theorem key_inj (c : Dev nD) : Function.Injective (key c) := by
  intro a b h
  have := congrArg Fin.val h
  simp only [key] at this
  exact Fin.ext (by omega)

/-- Head `h` of group `g`, among all eight. -/
def hd (g : Fin 2) (h : Fin 4) : Fin 8 := ⟨4 * g.val + h.val, by omega⟩

/-- A head's group of keys and values is its own. -/
theorem grp_hd (g : Fin 2) (h : Fin 4) : grp (hd g h) = g := Fin.ext (by simp only [grp, hd]; omega)

/-- The devices hold the arrays: each all of three of them, and its block of the keys and of the values. -/
structure Holds (I : In Ideal) (A : Args) : Prop where
  x : ∀ c i k, I.x c (ix3 0 i k) = A.x i k
  wq : ∀ c k n, I.wq c (ix2 k n) = A.wq k n
  wo : ∀ c k n, I.wo c (ix2 k n) = A.wo k n
  k : ∀ c j g d, I.k c (ix4 0 j g d) = A.k (key c j) g d
  v : ∀ c j g d, I.v c (ix4 0 j g d) = A.v (key c j) g d

/-- The keys that device `c`'s state has taken after `r` rounds: those of the devices that agree with it above bit `r`. -/
def keys (r : ℕ) (c : Dev nD) : Finset (Fin 16384) := Finset.univ.filter fun j => j.val / 2048 / 2 ^ r = c.val / 2 ^ r

/-- Before any round, a device has its own keys; -/
theorem keys_zero (c : Dev nD) : keys 0 c = Finset.univ.map ⟨key c, key_inj c⟩ := by
  ext j
  simp only [keys, Finset.mem_filter, Finset.mem_univ, true_and, Finset.mem_map, Function.Embedding.coeFn_mk, pow_zero, Nat.div_one]
  constructor
  · intro h
    exact ⟨⟨j.val % 2048, Nat.mod_lt _ (by decide)⟩, Fin.ext (by simp only [key]; omega)⟩
  · rintro ⟨a, rfl⟩
    simp only [key]
    omega

/-- after three, all; -/
theorem keys_three (c : Dev nD) : keys 3 c = Finset.univ := by
  have : c.val < 8 := c.isLt
  ext j
  simp only [keys, Finset.mem_filter, Finset.mem_univ, true_and, iff_true]
  omega

/-- Of two devices, whether they agree above bit `r + 1`: the one agrees above bit `r` with the other or with the
    other's partner. -/
theorem agree : ∀ r : Fin 3, ∀ c d : Dev nD, (d.val / 2 ^ (r.val + 1) = c.val / 2 ^ (r.val + 1)
    ↔ d.val / 2 ^ r.val = c.val / 2 ^ r.val ∨ d.val / 2 ^ r.val = (pr r.val c).val / 2 ^ r.val)
    ∧ ¬ (d.val / 2 ^ r.val = c.val / 2 ^ r.val ∧ d.val / 2 ^ r.val = (pr r.val c).val / 2 ^ r.val) := by decide

/-- a round adds the keys of the partner, -/
theorem keys_succ {r : ℕ} (hr : r < 3) (c : Dev nD) : keys (r + 1) c = keys r c ∪ keys r (pr r c) := by
  ext j
  simp only [keys, Finset.mem_filter, Finset.mem_univ, true_and, Finset.mem_union]
  exact (agree ⟨r, hr⟩ c ⟨j.val / 2048, by show _ < 8; omega⟩).1

/-- which are none of the device's. -/
theorem keys_disjoint {r : ℕ} (hr : r < 3) (c : Dev nD) : Disjoint (keys r c) (keys r (pr r c)) := by
  rw [Finset.disjoint_left]
  intro j h h'
  simp only [keys, Finset.mem_filter, Finset.mem_univ, true_and] at h h'
  exact (agree ⟨r, hr⟩ c ⟨j.val / 2048, by show _ < 8; omega⟩).2 ⟨h, h'⟩

/-- Over a device's own keys, the largest score, -/
theorem top_keys (s : Fin 16384 → EReal) (c : Dev nD) : top s (keys 0 c) = top (fun j => s (key c j)) Finset.univ := by
  rw [keys_zero, top, Finset.sup_map]
  rfl

/-- the weighted sum -/
theorem wsum_keys (s v : Fin 16384 → EReal) (c : Dev nD) :
    wsum s (keys 0 c) v = wsum (fun j => s (key c j)) Finset.univ fun j => v (key c j) := by
  rw [wsum, top_keys, keys_zero, Finset.sum_map]
  rfl

/-- and the sum of the weights are those over the block's entries. -/
theorem lsum_keys (s : Fin 16384 → EReal) (c : Dev nD) : lsum s (keys 0 c) = lsum (fun j => s (key c j)) Finset.univ := by
  rw [lsum_eq, lsum_eq, wsum_keys]

section
variable {I : In Ideal} {A : Args} (H : Holds I A) (c : Dev nD) (g : Fin 2) (h : Fin 4) (i : Fin 512) (d : Fin 128)
include H

/-- A device's scaled scores are those of its keys. -/
theorem sc_raw : sc (raw I c g.val g.isLt h.val h.isLt) i = fun j => score A i (hd g h) (key c j) := by
  funext j
  have e : ∀ d : Fin 128, qG I c g.val g.isLt (ix2 i ⟨128 * h.val + d.val, by omega⟩) = query A i (col (hd g h) d) := by
    intro d
    rw [qG_at, query]
    refine Finset.sum_congr rfl fun k _ => ?_
    rw [H.x, H.wq]
    congr 2
    exact Fin.ext (by simp only [col, hd]; omega)
  rw [sc, raw_at, score, grp_hd]
  congr 1
  refine Finset.sum_congr rfl fun d _ => ?_
  rw [e, H.k]

/-- The state after `r` rounds: attention over the keys taken so far. -/
theorem St_at (r : ℕ) (hr : r ≤ 3) : ∀ c : Dev nD,
    (∀ h i, (St I g.val g.isLt r c).2 (ix4 0 0 h i) = top (score A i (hd g h)) (keys r c))
    ∧ (∀ h i, (St I g.val g.isLt r c).2 (ix4 0 1 h i) = lsum (score A i (hd g h)) (keys r c))
    ∧ ∀ h i d, (St I g.val g.isLt r c).1 (ix4 0 h i d) = wsum (score A i (hd g h)) (keys r c) fun j => A.v j g d := by
  induction r with
  | zero =>
    intro c
    have eo : (St I g.val g.isLt 0 c).1 = joinO (hO I c g.val g.isLt) := rfl
    have em : (St I g.val g.isLt 0 c).2 = joinM (hM I c g.val g.isLt) := rfl
    refine ⟨fun h i => ?_, fun h i => ?_, fun h i d => ?_⟩
    · rw [top_keys, ← sc_raw H]
      rw [em, joinM_at]
      exact pay9_at _ i
    · rw [lsum_keys, ← sc_raw H]
      rw [em, joinM_at]
      exact pay10_at _ i
    · rw [wsum_keys, ← sc_raw H]
      rw [eo, joinO_at]
      refine (pay8_at _ _ i d).trans ?_
      simp only [vG_at, H.v]
  | succ r ih =>
    intro c
    obtain ⟨m0, l0, o0⟩ := ih (by omega) c
    obtain ⟨m1, l1, o1⟩ := ih (by omega) (pr r c)
    have dj := keys_disjoint (r := r) (by omega) c
    rw [keys_succ (by omega)]
    refine ⟨fun h i => ?_, fun h i => ?_, fun h i d => ?_⟩
    · rw [top_union, ← m0, ← m1]
      exact mergeM_max _ _ h i
    · rw [lsum_union _ dj, ← m0, ← m1, ← l0, ← l1]
      exact mergeM_sum _ _ h i
    · rw [wsum_union _ dj, ← m0, ← m1, ← o0, ← o1]
      exact mergeO_at _ _ _ _ h i d

end

/-! ## The output from the final states -/

/-- One head's output state over its sums, times its rows of the output's weights. -/
def part (O : Vec Ideal S1x1x512x128 .f32) (L : Vec Ideal S1x1x1x512 .f32) (W : Vec Ideal S128x1024 .f32) (i : Fin 512) (n : Fin 1024) : EReal :=
  ∑ d : Fin 128, Ideal.div (O (ix4 0 0 i d)) (L (ix4 0 0 0 i)) * W (ix2 d n)

/-- A head's rows of the output's weights. -/
theorem woH_at (I : In Ideal) (c : Dev nD) (h : ℕ) (hh : h < 8) (d : Fin 128) (n : Fin 1024) :
    woH I c h hh (ix2 d n) = I.wo c (ix2 (col ⟨h, hh⟩ d) n) :=
  sub_eq (I.wo c) _ _ _ _ _ fun a => by fin_cases a <;> simp [ix2, col]

section
variable (I : In Ideal) (c : Dev nD) (o : Vec Ideal S1x4x512x128 .f32) (m : Vec Ideal S1x2x4x512 .f32) (i : Fin 512) (n : Fin 1024)

/-- The first group's half of the output is the sum of its four heads' parts, -/
theorem half0_at : half0 I c o m (ix2 i n)
    = part (getO o 0 (by decide)) (getH m 1 0 (by decide) (by decide)) (woH I c 0 (by decide)) i n
      + part (getO o 1 (by decide)) (getH m 1 1 (by decide) (by decide)) (woH I c 1 (by decide)) i n
      + part (getO o 2 (by decide)) (getH m 1 2 (by decide) (by decide)) (woH I c 2 (by decide)) i n
      + part (getO o 3 (by decide)) (getH m 1 3 (by decide) (by decide)) (woH I c 3 (by decide)) i n := by
  unfold half0
  pointwise [k0_pay122, k0_pay121, k0_pay120, part]

/-- and the output is that and the second group's four. -/
theorem outOf_at (h0 : FVec Ideal S512x1024 .f32) : outOf I c h0 o m (ix3 0 i n)
    = h0 (ix2 i n) + (part (getO o 0 (by decide)) (getH m 1 0 (by decide) (by decide)) (woH I c 4 (by decide)) i n
      + part (getO o 1 (by decide)) (getH m 1 1 (by decide) (by decide)) (woH I c 5 (by decide)) i n
      + part (getO o 2 (by decide)) (getH m 1 2 (by decide) (by decide)) (woH I c 6 (by decide)) i n
      + part (getO o 3 (by decide)) (getH m 1 3 (by decide) (by decide)) (woH I c 7 (by decide)) i n) := by
  unfold outOf
  pointwise [k0_pay137, k0_pay136, k0_pay135, k0_pay134, part]

end

section
variable {I : In Ideal} {A : Args} (H : Holds I A) (c : Dev nD) (i : Fin 512) (n : Fin 1024)
include H

/-- The final state of a head gives the head's part of the output. -/
theorem part_at (g : ℕ) (hg : g < 2) (h : ℕ) (hh : h < 4) (w : ℕ) (hw : w < 8) (e : hd ⟨g, hg⟩ ⟨h, hh⟩ = ⟨w, hw⟩) :
    part (getO (St I g hg 3 c).1 h hh) (getH (St I g hg 3 c).2 1 h (by decide) hh) (woH I c w hw) i n
      = headOut A i n ⟨w, hw⟩ := by
  obtain ⟨-, l, o⟩ := St_at H ⟨g, hg⟩ 3 (le_refl _) c
  unfold part headOut
  refine Finset.sum_congr rfl fun d _ => ?_
  rw [getO_at, getH_at, woH_at, H.wo]
  refine (congrArg₂ (fun a b => Ideal.div a b * _) (o ⟨h, hh⟩ i d) (l ⟨h, hh⟩ i)).trans ?_
  rw [keys_three, e, attn, ← e, grp_hd]

/-- The output of every device is the attention of the whole arrays. -/
theorem outV_at : outV I c (ix3 0 i n) = result A i n := by
  unfold outV
  rw [outOf_at, half0_at, part_at H c i n 0 _ 0 _ 0 _ rfl, part_at H c i n 0 _ 1 _ 1 _ rfl, part_at H c i n 0 _ 2 _ 2 _ rfl,
    part_at H c i n 0 _ 3 _ 3 _ rfl, part_at H c i n 1 _ 0 _ 4 _ rfl, part_at H c i n 1 _ 1 _ 5 _ rfl, part_at H c i n 1 _ 2 _ 6 _ rfl,
    part_at H c i n 1 _ 3 _ 7 _ rfl, result, Fin.sum_univ_eight]
  simp only [add_assoc]
  rfl

end

end Cert.KernelValue
-- ==== Proof.Value.Reference.lean ====
/-
  The reference's values over the extended reals: its sixteen chunks as one step repeated, each step at an index, and
  the state after every chunk.
-/
module

public import proofs.«01_k».proof.Proof.Gen.ReferenceIdeal.Run
public import proofs.«01_k».proof.Proof.Value.Spec
public import Idealize.ShloMosaic.Lib.Tactic.CleanTypes

@[expose] public section

set_option maxRecDepth 16384

noncomputable section

namespace Cert.ReferenceValue

open Cert.ReferenceIdeal Cert.ReferenceIdeal.Gen Cert.ReferenceIdeal.Value Cert.Flash
open Idealize.ShloMosaic

/-! ## The chunks, one step repeated -/

/-- Every chunk of 1024 keys lies inside the array. -/
theorem inside (t : ℕ) : S1x16384x8x128.Slices ![0, 1024 * (t % 16), 0, 0] S1x1024x8x128 := by
  have h : t % 16 < 16 := Nat.mod_lt _ (by decide)
  generalize t % 16 = u at h
  interval_cases u <;> decide

section
variable (q : FVec Ideal S1x512x8x128 .f32) (K V : FVec Ideal S1x16384x8x128 .f32)

/-- The scores of chunk `t`. -/
def cS (t : ℕ) : FVec Ideal S1x8x512x1024 .f32 :=
  mulf (Host.dotGeneral dot_S1x512x8x128_S1x1024x8x128_S1x8x512x1024_3_3_1_1_02_02 none q
    (extractStridedSlice S1x1024x8x128 ![0, 1024 * (t % 16), 0, 0] K (inside t)))
    (broadcastInDim S1x8x512x1024 ![] bcast_S_S1x8x512x1024 (constant S_ .f32 0x3DB504F3#32))

/-- The maxima before chunk `t`. -/
def cM : ℕ → FVec Ideal S1x8x512x1 .f32
  | 0 => broadcastInDim S1x8x512x1 ![] bcast_S_S1x8x512x1 (constant S_ .f32 0xFF800000#32)
  | t + 1 => maximumf (cM t) (broadcastInDim S1x8x512x1 ![0, 1, 2] bcast_S1x8x512_S1x8x512x1_0_1_2
      (Host.reduce FloatOps.maximumf (cS q K t) (constant S_ .f32 0xFF800000#32) reducesTo_S1x8x512x1024_S1x8x512_d3 h_S_))

/-- The factor that carries the state over chunk `t`. -/
def cA (t : ℕ) : FVec Ideal S1x8x512x1 .f32 := Host.exp (subf (cM q K t) (cM q K (t + 1)))

/-- The exponentials of chunk `t`. -/
def cP (t : ℕ) : FVec Ideal S1x8x512x1024 .f32 :=
  Host.exp (subf (cS q K t) (broadcastInDim S1x8x512x1024 ![0, 1, 2, 3] bcast_S1x8x512x1_S1x8x512x1024_0_1_2_3 (cM q K (t + 1))))

/-- The sums before chunk `t`, from the factors and the exponentials of every chunk, -/
def foldL (a : ℕ → FVec Ideal S1x8x512x1 .f32) (p : ℕ → FVec Ideal S1x8x512x1024 .f32) : ℕ → FVec Ideal S1x8x512x1 .f32
  | 0 => broadcastInDim S1x8x512x1 ![] bcast_S_S1x8x512x1 (constant S_ .f32 0x00000000#32)
  | t + 1 => addf (mulf (foldL a p t) (a t)) (broadcastInDim S1x8x512x1 ![0, 1, 2] bcast_S1x8x512_S1x8x512x1_0_1_2
      (Host.reduceAdd (p t) (constant S_ .f32 0x00000000#32) reducesTo_S1x8x512x1024_S1x8x512_d3 h_S_))

/-- and the weighted sums. -/
def foldO (a : ℕ → FVec Ideal S1x8x512x1 .f32) (p : ℕ → FVec Ideal S1x8x512x1024 .f32) : ℕ → FVec Ideal S1x512x8x128 .f32
  | 0 => broadcastInDim S1x512x8x128 ![] bcast_S_S1x512x8x128 (constant S_ .f32 0x00000000#32)
  | t + 1 => addf (mulf (foldO a p t) (broadcastInDim S1x512x8x128 ![0, 1, 2, 3] bcast_S1x512x8x1_S1x512x8x128_0_1_2_3
        (transpose S1x512x8x1 [0, 2, 1, 3] (a t) transposes_S1x8x512x1_S1x512x8x1_0_2_1_3)))
      (transpose S1x512x8x128 [0, 3, 1, 2] (Host.dotGeneral dot_S1x1024x8x128_S1x8x512x1024_S1x8x128x512_1_3_3_2_02_01 none
        (extractStridedSlice S1x1024x8x128 ![0, 1024 * (t % 16), 0, 0] V (inside t)) (p t)) transposes_S1x8x128x512_S1x512x8x128_0_3_1_2)

/-- The sums before chunk `t`, -/
def cL : ℕ → FVec Ideal S1x8x512x1 .f32 := foldL (cA q K) (cP q K)

/-- and the weighted sums. -/
def cO : ℕ → FVec Ideal S1x512x8x128 .f32 := foldO V (cA q K) (cP q K)

end

section
variable (V0 : Valuation τ sig (Elt Ideal))

/-- What the reference divides: the state after all sixteen chunks. -/
theorem divided : res_main_v379 V0 = Host.divf (cO (res_main_v1 V0) (res_main_v3 V0) (res_main_v5 V0) 16)
    (broadcastInDim S1x512x8x128 ![0, 1, 2, 3] bcast_S1x512x8x1_S1x512x8x128_0_1_2_3
      (transpose S1x512x8x1 [0, 2, 1, 3] (cL (res_main_v1 V0) (res_main_v3 V0) 16) transposes_S1x8x512x1_S1x512x8x1_0_2_1_3)) := rfl

end

/-! ## A chunk at an index -/

section
variable (q : FVec Ideal S1x512x8x128 .f32) (K V : FVec Ideal S1x16384x8x128 .f32) (h : Fin 8) (i : Fin 512) (d : Fin 128) (t : ℕ)

/-- Key `j` of chunk `t`, among all. -/
def key (t : ℕ) (j : Fin 1024) : Fin 16384 := ⟨1024 * (t % 16) + j.val, by omega⟩

/-- The score of key `j`. -/
def sc (j : Fin 16384) : EReal := (∑ d : Fin 128, q (ix4 0 i h d) * K (ix4 0 j h d)) * Ideal.ofBits .f32 0x3DB504F3#32

/-- A chunk's scores are those of its keys. -/
theorem cS_at (j : Fin 1024) : cS q K t (ix4 0 h i j) = sc q K h i (key t j) := by
  pointwise [cS, sc, key]

/-- The maxima start at minus infinity; -/
theorem cM_zero : cM q K 0 (ix4 0 h i 0) = ⊥ := by
  rw [← negInf]
  pointwise [cM]

/-- the larger of two arrays, at an index; -/
theorem max_at (a b : FVec Ideal S1x8x512x1 .f32) : maximumf a b (ix4 0 h i 0) = max (a (ix4 0 h i 0)) (b (ix4 0 h i 0)) := by
  pointwise

/-- the maxima of the rows of a chunk's scores; -/
theorem rowmax (S : FVec Ideal S1x8x512x1024 .f32) :
    (broadcastInDim S1x8x512x1 ![0, 1, 2] bcast_S1x8x512_S1x8x512x1_0_1_2 (Host.reduce FloatOps.maximumf S
      (constant S_ .f32 0xFF800000#32) reducesTo_S1x8x512x1024_S1x8x512_d3 h_S_) : FVec Ideal S1x8x512x1 .f32) (ix4 0 h i 0)
      = Finset.univ.sup fun j : Fin 1024 => S (ix4 0 h i j) := by
  rw [← fold_max_eq, ← negInf]
  pointwise

/-- each chunk takes the larger of the maximum so far and of the chunk's. -/
theorem cM_succ : cM q K (t + 1) (ix4 0 h i 0)
    = max (cM q K t (ix4 0 h i 0)) (Finset.univ.sup fun j => sc q K h i (key t j)) := by
  rw [cM, max_at, rowmax]
  simp only [cS_at]

/-- The factor is the exponential of the difference of the maxima before and after the chunk. -/
theorem cA_at : cA q K t (ix4 0 h i 0) = Ideal.exp (cM q K t (ix4 0 h i 0) - cM q K (t + 1) (ix4 0 h i 0)) := by
  unfold cA
  pointwise

/-- The weights are the exponentials of the chunk's scores less the maximum after it. -/
theorem cP_at (j : Fin 1024) : cP q K t (ix4 0 h i j) = Ideal.exp (sc q K h i (key t j) - cM q K (t + 1) (ix4 0 h i 0)) := by
  unfold cP
  pointwise [cS_at]

/-- The sums start at zero, -/
theorem cL_zero : cL q K 0 (ix4 0 h i 0) = 0 := by
  pointwise [cL, foldL]

/-- and each chunk scales the sum so far and adds its weights. -/
theorem cL_succ : cL q K (t + 1) (ix4 0 h i 0) = cL q K t (ix4 0 h i 0) * cA q K t (ix4 0 h i 0)
    + ∑ j : Fin 1024, cP q K t (ix4 0 h i j) := by
  rw [cL, foldL, ← cL]
  pointwise

/-- The weighted sums start at zero, -/
theorem cO_zero : cO q K V 0 (ix4 0 i h d) = 0 := by
  pointwise [cO, foldO]

/-- and each chunk scales the sum so far and adds its values, weighted. -/
theorem cO_succ : cO q K V (t + 1) (ix4 0 i h d) = cO q K V t (ix4 0 i h d) * cA q K t (ix4 0 h i 0)
    + ∑ j : Fin 1024, V (ix4 0 (key t j) h d) * cP q K t (ix4 0 h i j) := by
  rw [cO, foldO, ← cO]
  pointwise [key]

end

/-! ## The state after every chunk -/

/-- Different keys of a chunk are different among all. -/
theorem key_inj (t : ℕ) : Function.Injective (key t) := by
  intro a b h
  have := congrArg Fin.val h
  simp only [key] at this
  exact Fin.ext (by omega)

/-- The keys of the chunks before chunk `t`, -/
def before (t : ℕ) : Finset (Fin 16384) := Finset.univ.filter fun j => j.val < 1024 * t

/-- and those of chunk `t`. -/
def chunk (t : ℕ) : Finset (Fin 16384) := Finset.univ.map ⟨key t, key_inj t⟩

/-- The keys of chunk `t` are those from `1024 t` on, up to the next chunk's. -/
theorem mem_chunk {t : ℕ} (ht : t < 16) (j : Fin 16384) : j ∈ chunk t ↔ 1024 * t ≤ j.val ∧ j.val < 1024 * (t + 1) := by
  simp only [chunk, Finset.mem_map, Finset.mem_univ, true_and, Function.Embedding.coeFn_mk]
  constructor
  · rintro ⟨a, rfl⟩
    simp only [key]
    omega
  · intro h
    exact ⟨⟨j.val - 1024 * t, by omega⟩, Fin.ext (by simp only [key]; omega)⟩

/-- A chunk adds its keys to those before it, -/
theorem before_succ {t : ℕ} (ht : t < 16) : before (t + 1) = before t ∪ chunk t := by
  ext j
  rw [Finset.mem_union, mem_chunk ht]
  simp only [before, Finset.mem_filter, Finset.mem_univ, true_and]
  omega

/-- none of which are its own; -/
theorem before_disjoint {t : ℕ} (ht : t < 16) : Disjoint (before t) (chunk t) := by
  rw [Finset.disjoint_left]
  intro j h h'
  rw [mem_chunk ht] at h'
  simp only [before, Finset.mem_filter, Finset.mem_univ, true_and] at h
  omega

/-- before the seventeenth chunk are all keys. -/
theorem before_all : before 16 = Finset.univ := by
  ext j
  simp only [before, Finset.mem_filter, Finset.mem_univ, true_and, iff_true]
  omega

section
variable (q : FVec Ideal S1x512x8x128 .f32) (K V : FVec Ideal S1x16384x8x128 .f32) (h : Fin 8) (i : Fin 512) (d : Fin 128)

/-- The largest score over a chunk's keys, and -/
theorem top_chunk (t : ℕ) : top (sc q K h i) (chunk t) = Finset.univ.sup fun j => sc q K h i (key t j) := by
  rw [top, chunk, Finset.sup_map]
  rfl

/-- a sum over them, by the chunk's own entries. -/
theorem sum_chunk (t : ℕ) (f : Fin 16384 → EReal) : ∑ j ∈ chunk t, f j = ∑ j, f (key t j) := by
  rw [chunk, Finset.sum_map]
  rfl

/-- The state before chunk `t`: attention over the keys before it. -/
theorem state (t : ℕ) (ht : t ≤ 16) : cM q K t (ix4 0 h i 0) = top (sc q K h i) (before t)
    ∧ cL q K t (ix4 0 h i 0) = lsum (sc q K h i) (before t)
    ∧ cO q K V t (ix4 0 i h d) = wsum (sc q K h i) (before t) fun j => V (ix4 0 j h d) := by
  induction t with
  | zero =>
    have e : before 0 = ∅ := by simp [before]
    rw [e, cM_zero, cL_zero, cO_zero]
    exact ⟨rfl, rfl, rfl⟩
  | succ t ih =>
    obtain ⟨m, l, o⟩ := ih (by omega)
    have m' : cM q K (t + 1) (ix4 0 h i 0) = max (top (sc q K h i) (before t)) (top (sc q K h i) (chunk t)) := by
      rw [cM_succ, m, top_chunk]
    have dj := before_disjoint (t := t) ht
    rw [before_succ ht]
    refine ⟨?_, ?_, ?_⟩
    · rw [m', top_union]
    · rw [cL_succ, cA_at, l, lsum_step _ dj, sum_chunk, ← m', m, mul_comm]
      simp only [cP_at]
    · rw [cO_succ, cA_at, o, wsum_step _ dj, sum_chunk, ← m', m, mul_comm]
      simp only [cP_at, mul_comm]

end

/-! ## The result -/

section
variable (V0 : Valuation τ sig (Elt Ideal))

/-- The arrays among the reference's contents. -/
def args : Args where
  x i k := (V0 (Proc.devRef .tc main_arg0) : FVec Ideal S1x512x1024 .f32) (ix3 0 i k)
  wq k n := (V0 (Proc.devRef .tc main_arg1) : FVec Ideal S1024x1024 .f32) (ix2 k n)
  k j g d := (V0 (Proc.devRef .tc main_arg2) : FVec Ideal S1x16384x2x128 .f32) (ix4 0 j g d)
  v j g d := (V0 (Proc.devRef .tc main_arg3) : FVec Ideal S1x16384x2x128 .f32) (ix4 0 j g d)
  wo k n := (V0 (Proc.devRef .tc main_arg4) : FVec Ideal S1024x1024 .f32) (ix2 k n)

/-- The reference's queries are the products of the inputs and the weights' columns; -/
theorem queries_at (X : FVec Ideal S1x512x1024 .f32) (W : FVec Ideal S1024x1024 .f32) (i : Fin 512) (h : Fin 8) (d : Fin 128) :
    shapeCast S1x512x8x128 (Host.dotGeneral dot_S1x512x1024_S1024x1024_S1x512x1024_2_0_01_1_n_n none X W)
      shapeCasts_S1x512x1024_S1x512x8x128 (ix4 0 i h d) = ∑ k : Fin 1024, X (ix3 0 i k) * W (ix2 k (col h d)) := by
  have e : (⟨h.val * 128 + d.val, by omega⟩ : Fin 1024) = col h d := Fin.ext (by simp only [col]; omega)
  pointwise [e]

/-- the keys, or the values, repeated for the heads are those of the head's group; -/
theorem heads_at (X : FVec Ideal S1x16384x2x128 .f32) (j : Fin 16384) (h : Fin 8) (d : Fin 128) :
    shapeCast S1x16384x8x128 (broadcastInDim S1x16384x2x4x128 ![0, 1, 2, 4] bcast_S1x16384x2x128_S1x16384x2x4x128_0_1_2_4 X)
      shapeCasts_S1x16384x2x4x128_S1x16384x8x128 (ix4 0 j h d) = X (ix4 0 j (grp h) d) := by
  pointwise [grp]

/-- the output is the sum, over all heads and columns, of the state over its sum, times the output's weights. -/
theorem out_at (O : FVec Ideal S1x512x8x128 .f32) (L : FVec Ideal S1x8x512x1 .f32) (W : FVec Ideal S1024x1024 .f32) (i : Fin 512) (n : Fin 1024) :
    Host.dotGeneral dot_S1x512x1024_S1024x1024_S1x512x1024_2_0_01_1_n_n none
      (shapeCast S1x512x1024 (Host.divf O (broadcastInDim S1x512x8x128 ![0, 1, 2, 3] bcast_S1x512x8x1_S1x512x8x128_0_1_2_3
        (transpose S1x512x8x1 [0, 2, 1, 3] L transposes_S1x8x512x1_S1x512x8x1_0_2_1_3))) shapeCasts_S1x512x8x128_S1x512x1024) W (ix3 0 i n)
      = ∑ k : Fin 1024, Ideal.div (O (ix4 0 i ⟨k.val / 128, by omega⟩ ⟨k.val % 128, by omega⟩)) (L (ix4 0 ⟨k.val / 128, by omega⟩ i 0)) * W (ix2 k n) := by
  pointwise

/-- The reference's scores are those of its arrays. -/
theorem sc_eq (h : Fin 8) (i : Fin 512) : sc (res_main_v1 V0) (res_main_v3 V0) h i = score (args V0) i h := by
  funext j
  unfold sc score
  congr 1
  refine Finset.sum_congr rfl fun d _ => ?_
  exact congrArg₂ (· * ·) (queries_at _ _ i h d) (heads_at _ j h d)

/-- The reference's result. -/
def out : (Proc.devRef .tc main_v381 : DevRef τ sig).ty.Contents (Elt Ideal) :=
  Host.dotGeneral (φ₂ := FTy.f32) dot_S1x512x1024_S1024x1024_S1x512x1024_2_0_01_1_n_n none (shapeCast _ (res_main_v379 V0) shapeCasts_S1x512x8x128_S1x512x1024)
    (V0 (Proc.devRef .tc main_arg4))

/-- It is the attention of the reference's arrays. -/
theorem out_eq (i : Fin 512) (n : Fin 1024) : (out V0 : FVec Ideal S1x512x1024 .f32) (ix3 0 i n) = result (args V0) i n := by
  unfold out
  rw [divided]
  refine (out_at _ _ _ i n).trans (result_eq _ i n _ fun h d => ?_)
  have eh : (⟨(col h d).val / 128, by omega⟩ : Fin 8) = h := Fin.ext (by simp only [col]; omega)
  have ed : (⟨(col h d).val % 128, by omega⟩ : Fin 128) = d := Fin.ext (by simp only [col]; omega)
  obtain ⟨-, l, o⟩ := state (res_main_v1 V0) (res_main_v3 V0) (res_main_v5 V0) h i d 16 (le_refl _)
  rw [eh, ed, l, o, before_all, sc_eq, attn]
  have ev : (fun j => (res_main_v5 V0 : FVec Ideal S1x16384x8x128 .f32) (ix4 0 j h d)) = fun j => (args V0).v j (grp h) d :=
    funext fun j => heads_at _ j h d
  exact congrArg (fun f => Ideal.div (wsum (score (args V0) i h) Finset.univ f) (lsum (score (args V0) i h) Finset.univ) * _) ev

end

end Cert.ReferenceValue
-- ==== Proof.Value.Equal.lean ====
/-
  The kernel's result on every device is the reference's: both are the attention of the same arrays.
-/
module

public import proofs.«01_k».proof.Proof.KernelIdealRun.Main
public import proofs.«01_k».proof.Proof.Value.Kernel
public import proofs.«01_k».proof.Proof.Value.Reference
public import Idealize.ShloMosaic.Lib.Layout
public import Idealize.ShloMosaic.Lib.Pipeline.ValueKit

@[expose] public section

set_option maxRecDepth 16384

noncomputable section

namespace Cert.KernelValue

open Cert.KernelIdeal Cert.KernelIdeal.Gen Cert.KernelIdealRun Cert.Flash
open Idealize.ShloMosaic

/-- An index of the only block of an array is the array's own. -/
theorem only_block (s n : ℕ) : 0 * s + n = n := by omega

section
variable (m : (ℓ : Loc nD τ sig) → Buf (Elt Ideal) ℓ) (c : Dev nD)

/-- The result's window is the whole array, -/
theorem out_whole (f : Buf (Elt Ideal) ((c.tc : Thread nD τ).loc main_v1)) :
    (win0_5.blk t0_0).view.read (Elt Ideal) f = (f : Vec Ideal S1x512x1024 .f32) :=
  funext fun y => congrArg f (funext fun a => Fin.ext (by blk_simp; exact only_block _ _))

/-- and so is the window of every argument. -/
theorem x_whole : (inM m).x c = (m ((c.tc : Thread nD τ).loc main_arg0) : Vec Ideal S1x512x1024 .f32) :=
  funext fun y => congrArg (m ((c.tc : Thread nD τ).loc main_arg0)) (funext fun a => Fin.ext (by blk_simp; exact only_block _ _))

/-- so is that of the queries' weights, -/
theorem wq_whole : (inM m).wq c = (m ((c.tc : Thread nD τ).loc main_arg1) : Vec Ideal S1024x1024 .f32) :=
  funext fun y => congrArg (m ((c.tc : Thread nD τ).loc main_arg1)) (funext fun a => Fin.ext (by blk_simp; exact only_block _ _))

/-- of the keys, -/
theorem k_whole : (inM m).k c = (m ((c.tc : Thread nD τ).loc main_arg2) : Vec Ideal S1x2048x2x128 .f32) :=
  funext fun y => congrArg (m ((c.tc : Thread nD τ).loc main_arg2)) (funext fun a => Fin.ext (by blk_simp; exact only_block _ _))

/-- of the values, -/
theorem v_whole : (inM m).v c = (m ((c.tc : Thread nD τ).loc main_arg3) : Vec Ideal S1x2048x2x128 .f32) :=
  funext fun y => congrArg (m ((c.tc : Thread nD τ).loc main_arg3)) (funext fun a => Fin.ext (by blk_simp; exact only_block _ _))

/-- and of the output's weights. -/
theorem wo_whole : (inM m).wo c = (m ((c.tc : Thread nD τ).loc main_arg4) : Vec Ideal S1024x1024 .f32) :=
  funext fun y => congrArg (m ((c.tc : Thread nD τ).loc main_arg4)) (funext fun a => Fin.ext (by blk_simp; exact only_block _ _))

/-- Entry `j` of device `c`'s block of the keys, or of the values, is the array's entry at that key. -/
theorem block_at (f : (⟨4, ![1, 16384, 2, 128]⟩ : Shape).Idx → EReal) (j : Fin 2048) (g : Fin 2) (d : Fin 128) :
    Layout.block ⟨4, ![1, 2048, 2, 128]⟩ ⟨4, ![1, 16384, 2, 128]⟩ 1 8 c f (by decide) (ix4 0 j g d) = f (ix4 0 (key c j) g d) := by
  rw [Layout.block_apply]
  refine congrArg f (funext fun a => Fin.ext ?_)
  rw [Layout.Tiles.idx_val]
  fin_cases a
  · rfl
  · exact (Nat.add_comm _ _).trans (by simp [key, ix4, Nat.mul_comm, Nat.add_comm])
  · rfl
  · rfl

end

end Cert.KernelValue

namespace Cert.Values

open Cert.Flash Idealize.ShloMosaic Idealize.SL.Sem

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Every device holds its part of the reference's arrays. -/
def Parts : Prop := ∀ c : Dev Cert.KernelIdeal.nD,
  m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
  ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
  ∧ m ((c.tc : Thread Cert.KernelIdeal.nD Cert.KernelIdeal.τ).loc Cert.KernelIdeal.main_arg2) = Layout.block ⟨4, ![1, 2048, 2, 128]⟩ ⟨4, ![1, 16384, 2, 128]⟩ 1 8 c (m' (((0 : Dev Cert.ReferenceIdeal.nD).tc : Thread Cert.ReferenceIdeal.nD Cert.ReferenceIdeal.τ).loc Cert.ReferenceIdeal.main_arg2))
  ∧ m ((c.tc : Thread Cert.KernelIdeal.nD Cert.KernelIdeal.τ).loc Cert.KernelIdeal.main_arg3) = Layout.block ⟨4, ![1, 2048, 2, 128]⟩ ⟨4, ![1, 16384, 2, 128]⟩ 1 8 c (m' (((0 : Dev Cert.ReferenceIdeal.nD).tc : Thread Cert.ReferenceIdeal.nD Cert.ReferenceIdeal.τ).loc Cert.ReferenceIdeal.main_arg3))
  ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)

variable {m m'} (h : Parts m m')
include h

/-- The devices then hold the reference's arrays, cut as the kernel's value asks. -/
theorem holds : Cert.KernelValue.Holds (Cert.KernelIdealRun.inM m)
    (Cert.ReferenceValue.args (StableHlo.launchContents m' (0 : Dev Cert.ReferenceIdeal.nD))) where
  x c i k := by rw [Cert.KernelValue.x_whole]; exact congrFun (h c).1 (ix3 0 i k)
  wq c k n := by rw [Cert.KernelValue.wq_whole]; exact congrFun (h c).2.1 (ix2 k n)
  wo c k n := by rw [Cert.KernelValue.wo_whole]; exact congrFun (h c).2.2.2.2 (ix2 k n)
  k c j g d := by
    rw [Cert.KernelValue.k_whole]
    exact (congrFun (h c).2.2.1 (ix4 0 j g d)).trans (Cert.KernelValue.block_at c _ j g d)
  v c j g d := by
    rw [Cert.KernelValue.v_whole]
    exact (congrFun (h c).2.2.2.1 (ix4 0 j g d)).trans (Cert.KernelValue.block_at c _ j g d)

/-- Every device's result is the reference's. -/
theorem equal (c : Dev Cert.KernelIdeal.nD) : (Cert.KernelIdealRun.outV (Cert.KernelIdealRun.inM m) c : FVec Ideal ⟨3, ![1, 512, 1024]⟩ .f32)
    = Cert.ReferenceValue.out (StableHlo.launchContents m' (0 : Dev Cert.ReferenceIdeal.nD)) := by
  funext y
  obtain ⟨a, i, n, rfl⟩ : ∃ (a : Fin 1) (i : Fin 512) (n : Fin 1024), y = ix3 a i n := ⟨y 0, y 1, y 2, eq_ix3 y⟩
  obtain rfl : a = 0 := Subsingleton.elim _ _
  exact (Cert.KernelValue.outV_at (holds h) c i n).trans (Cert.ReferenceValue.out_eq _ i n).symm

end

end Cert.Values
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun.Main
public import proofs.«01_k».proof.Proof.KernelIdealRun.Main
public import proofs.«01_k».proof.Proof.Value.Equal
public import Idealize.ShloMosaic.Adequacy
public import Idealize.ShloMosaic.Init

@[expose] public section

noncomputable section

namespace Cert.Proof

open Idealize.ShloMosaic Idealize.SL.Sem

/-- The kernel runs to the end, leaves its arguments as they were and every counter at zero: `run_arrays` at machine floats. -/
theorem frame_kernel : letI := Cert.Kernel.Gen.facts; Cert.quiescent_Kernel := by
  intro m ρ _
  exact (θ_run Cert.Kernel.defs _ _).mono (fun _ h => ⟨fun c => (h.1 c).1, h.2⟩) (Cert.KernelRun.run_arrays (F := Bits) m ρ)

/-- The same of the kernel read over the extended reals. -/
theorem frame_ideal : letI := Cert.KernelIdeal.Gen.facts; Cert.quiescent_KernelIdeal := by
  intro m ρ _
  exact (θ_run Cert.KernelIdeal.defs _ _).mono (fun _ h => ⟨fun c => (h.1 c).1, h.2⟩) (Cert.KernelIdealRun.run_arrays (F := Ideal) m ρ)

/-- The reference runs to the end and leaves its arguments as they were; it has no counters. -/
theorem frame_reference : letI := Cert.ReferenceIdeal.Gen.facts; Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- From devices that hold their parts of the reference's arrays, every device's result is the reference's: both are
`Cert.Flash.result` of those arrays. -/
theorem algebraic : letI := Cert.KernelIdeal.Gen.facts; letI := Cert.ReferenceIdeal.Gen.facts;
    Cert.algebraic_KernelIdeal_ReferenceIdeal := by
  intro m g m' g' _ h
  refine ⟨Cert.ReferenceValue.out (StableHlo.launchContents m' (0 : Dev Cert.ReferenceIdeal.nD)), ?_, ?_⟩
  · refine (θ_run Cert.KernelIdeal.defs _ _).mono (fun r hr c => ?_) (Cert.KernelIdealRun.run_arrays (F := Ideal) m g)
    obtain ⟨a, e⟩ := hr.1 c
    exact ⟨(Cert.KernelValue.out_whole c _).symm.trans (e.trans (Cert.Values.equal h c)), a⟩
  · exact (θ_run Cert.ReferenceIdeal.defs _ _).mono (fun r hr => hr 0) (Cert.ReferenceIdeal.Value.run (F := Ideal) m' g')

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
